-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal_on_outside_rounding [hKernelIdeal : Cert.KernelIdeal.Facts] [hReferenceIdeal : Cert.ReferenceIdeal.Facts] [hOn_outside_rounding : Cert.On_outside_rounding.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v402)) (v1 : (c : Dev Cert.KernelIdeal.nD) → Buf (Elt Ideal) ((c.tc : Thread Cert.KernelIdeal.nD Cert.KernelIdeal.τ).loc Cert.KernelIdeal.main_v403)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          (∀ i : (⟨2, ![2, 4194304]⟩ : Shape).Idx, (Cert.On_outside_rounding.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).1 i = 1#1 → r.2.mem ((c.tc : Thread Cert.KernelIdeal.nD Cert.KernelIdeal.τ).loc Cert.KernelIdeal.main_v402) i = v0 c i)
          ∧ (∀ i : (⟨1, ![4194304]⟩ : Shape).Idx, (Cert.On_outside_rounding.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).2 i = 1#1 → r.2.mem ((c.tc : Thread Cert.KernelIdeal.nD Cert.KernelIdeal.τ).loc Cert.KernelIdeal.main_v403) i = v1 c i)
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          (∀ i : (⟨2, ![2, 4194304]⟩ : Shape).Idx, (Cert.On_outside_rounding.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).1 i = 1#1 → r.2.mem ((c.tc : Thread Cert.ReferenceIdeal.nD Cert.ReferenceIdeal.τ).loc Cert.ReferenceIdeal.main_v107) i = v0 c i)
          ∧ (∀ i : (⟨1, ![4194304]⟩ : Shape).Idx, (Cert.On_outside_rounding.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).2 i = 1#1 → r.2.mem ((c.tc : Thread Cert.ReferenceIdeal.nD Cert.ReferenceIdeal.τ).loc Cert.ReferenceIdeal.main_v108) i = v1 c i)
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hOn_outside_rounding : Cert.On_outside_rounding.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal_on_outside_rounding (hKernelIdeal := hKernelIdeal) (hReferenceIdeal := hReferenceIdeal) (hOn_outside_rounding := hOn_outside_rounding)
-- ==== On_outside_rounding.lean ====
abbrev S2048x128 : Shape := ⟨2, ![2048, 128]⟩
abbrev S128x128 : Shape := ⟨2, ![128, 128]⟩
abbrev S_ : Shape := ⟨0, ![]⟩
abbrev S2x4194304 : Shape := ⟨2, ![2, 4194304]⟩
abbrev S128x2048 : Shape := ⟨2, ![128, 2048]⟩
abbrev S2048x2048 : Shape := ⟨2, ![2048, 2048]⟩
abbrev S1 : Shape := ⟨1, ![1]⟩
abbrev S2 : Shape := ⟨1, ![2]⟩
abbrev S2x1 : Shape := ⟨2, ![2, 1]⟩
abbrev S2x2 : Shape := ⟨2, ![2, 2]⟩
abbrev S1x2 : Shape := ⟨2, ![1, 2]⟩
abbrev S4194304 : Shape := ⟨1, ![4194304]⟩

class Facts : Prop where
  bcast_S_S2x4194304 : S_.BroadcastsInDim S2x4194304 (![] : Fin 0 → Fin S2x4194304.rank)
  transposes_S2048x128_S128x2048_1_0 : S2048x128.Transposes [1, 0] S128x2048
  bcast_S_S2048x2048 : S_.BroadcastsInDim S2048x2048 (![] : Fin 0 → Fin S2048x2048.rank)
  bcast_S_S1 : S_.BroadcastsInDim S1 (![] : Fin 0 → Fin S1.rank)
  concatenates_S1_S1_S2_d0 : Shape.Concatenates [S1, S1] S2 0
  slices_S2_S1_0 : S2.Slices ![0] S1
  shapeCasts_S1_S_ : S1.ShapeCasts S_
  slices_S2_S1_1 : S2.Slices ![1] S1
  bcast_S_S2 : S_.BroadcastsInDim S2 (![] : Fin 0 → Fin S2.rank)
  natLt_32_64 : 32 < 64
  bcast_S2_S2x1_0 : S2.BroadcastsInDim S2x1 (![0] : Fin 1 → Fin S2x1.rank)
  concatenates_S2x1_S2x1_S2x2_d1 : Shape.Concatenates [S2x1, S2x1] S2x2 1
  slices_S2x2_S1x2_0_0 : S2x2.Slices ![0, 0] S1x2
  shapeCasts_S1x2_S2 : S1x2.ShapeCasts S2
  slices_S2x2_S1x2_1_0 : S2x2.Slices ![1, 0] S1x2
  shapeCasts_S2048x2048_S4194304 : S2048x2048.ShapeCasts S4194304
  dot_S2048x128_S128x128_S2048x128_1_0_0_1_n_n_wf : DotDims.WF S2048x128 S128x128 S2048x128 [1] [0] [0] [1] [] []
  dot_S2048x128_S128x2048_S2048x2048_1_0_0_1_n_n_wf : DotDims.WF S2048x128 S128x2048 S2048x2048 [1] [0] [0] [1] [] []

variable [Facts]

def dot_S2048x128_S128x128_S2048x128_1_0_0_1_n_n : DotDims S2048x128 S128x128 S2048x128 where
  lhsContracting := [1]
  rhsContracting := [0]
  lhsNonContracting := [0]
  rhsNonContracting := [1]
  lhsBatch := []
  rhsBatch := []
  wf := dot_S2048x128_S128x128_S2048x128_1_0_0_1_n_n_wf
def dot_S2048x128_S128x2048_S2048x2048_1_0_0_1_n_n : DotDims S2048x128 S128x2048 S2048x2048 where
  lhsContracting := [1]
  rhsContracting := [0]
  lhsNonContracting := [0]
  rhsNonContracting := [1]
  lhsBatch := []
  rhsBatch := []
  wf := dot_S2048x128_S128x2048_S2048x2048_1_0_0_1_n_n_wf
def fn_threefry2x32_part9 {F : FTy → Type} [FloatOps F] (arg0 : IVec S_ 32) (v163 : IVec S2 32) (v169 : IVec S2 32) (v170 : IVec S2 32) : IVec S2 32 × IVec S2 32 :=
  let v171 : IVec S2 32 := addi v163 v170
  let v172 : IVec S2 32 := broadcastInDim S2 ![] bcast_S_S2 arg0
  let v173 : IVec S2 32 := addi v169 v172
  let c_44 : IVec S_ 32 := constantI S_ 32 5#32
  let v174 : IVec S2 32 := broadcastInDim S2 ![] bcast_S_S2 c_44
  let v175 : IVec S2 32 := addi v173 v174
  (v171, v175)

def fn_threefry2x32_part8 {F : FTy → Type} [FloatOps F] (arg0 : IVec S_ 32) (v1 : IVec S_ 32) (v148 : IVec S2 32) (v149 : IVec S2 32) (v151 : IVec S2 32) : IVec S2 32 × IVec S2 32 :=
  let c_39 : IVec S_ 32 := constantI S_ 32 17#32
  let v152 : IVec S2 32 := broadcastInDim S2 ![] bcast_S_S2 c_39
  let v153 : IVec S2 32 := Host.shrui v148 v152
  let v154 : IVec S2 32 := ori v151 v153
  let v155 : IVec S2 32 := xori v149 v154
  let v156 : IVec S2 32 := addi v149 v155
  let c_40 : IVec S_ 32 := constantI S_ 32 26#32
  let v157 : IVec S2 32 := broadcastInDim S2 ![] bcast_S_S2 c_40
  let v158 : IVec S2 32 := Host.shli v155 v157
  let c_41 : IVec S_ 32 := constantI S_ 32 6#32
  let v159 : IVec S2 32 := broadcastInDim S2 ![] bcast_S_S2 c_41
  let v160 : IVec S2 32 := Host.shrui v155 v159
  let v161 : IVec S2 32 := ori v158 v160
  let v162 : IVec S2 32 := xori v156 v161
  let v163 : IVec S2 32 := addi v156 v162
  let c_42 : IVec S_ 32 := constantI S_ 32 6#32
  let v164 : IVec S2 32 := broadcastInDim S2 ![] bcast_S_S2 c_42
  let v165 : IVec S2 32 := Host.shli v162 v164
  let c_43 : IVec S_ 32 := constantI S_ 32 26#32
  let v166 : IVec S2 32 := broadcastInDim S2 ![] bcast_S_S2 c_43
  let v167 : IVec S2 32 := Host.shrui v162 v166
  let v168 : IVec S2 32 := ori v165 v167
  let v169 : IVec S2 32 := xori v163 v168
  let v170 : IVec S2 32 := broadcastInDim S2 ![] bcast_S_S2 v1
  fn_threefry2x32_part9 (F := F) arg0 v163 v169 v170

def fn_threefry2x32_part7 {F : FTy → Type} [FloatOps F] (arg0 : IVec S_ 32) (arg1 : IVec S_ 32) (v1 : IVec S_ 32) (v128 : IVec S2 32) (v129 : IVec S2 32) (v131 : IVec S2 32) (c_34 : IVec S_ 32) : IVec S2 32 × IVec S2 32 :=
  let v132 : IVec S2 32 := broadcastInDim S2 ![] bcast_S_S2 c_34
  let v133 : IVec S2 32 := Host.shrui v128 v132
  let v134 : IVec S2 32 := ori v131 v133
  let v135 : IVec S2 32 := xori v129 v134
  let v136 : IVec S2 32 := broadcastInDim S2 ![] bcast_S_S2 arg1
  let v137 : IVec S2 32 := addi v129 v136
  let v138 : IVec S2 32 := broadcastInDim S2 ![] bcast_S_S2 v1
  let v139 : IVec S2 32 := addi v135 v138
  let c_35 : IVec S_ 32 := constantI S_ 32 4#32
  let v140 : IVec S2 32 := broadcastInDim S2 ![] bcast_S_S2 c_35
  let v141 : IVec S2 32 := addi v139 v140
  let v142 : IVec S2 32 := addi v137 v141
  let c_36 : IVec S_ 32 := constantI S_ 32 13#32
  let v143 : IVec S2 32 := broadcastInDim S2 ![] bcast_S_S2 c_36
  let v144 : IVec S2 32 := Host.shli v141 v143
  let c_37 : IVec S_ 32 := constantI S_ 32 19#32
  let v145 : IVec S2 32 := broadcastInDim S2 ![] bcast_S_S2 c_37
  let v146 : IVec S2 32 := Host.shrui v141 v145
  let v147 : IVec S2 32 := ori v144 v146
  let v148 : IVec S2 32 := xori v142 v147
  let v149 : IVec S2 32 := addi v142 v148
  let c_38 : IVec S_ 32 := constantI S_ 32 15#32
  let v150 : IVec S2 32 := broadcastInDim S2 ![] bcast_S_S2 c_38
  let v151 : IVec S2 32 := Host.shli v148 v150
  fn_threefry2x32_part8 (F := F) arg0 v1 v148 v149 v151

def fn_threefry2x32_part6 {F : FTy → Type} [FloatOps F] (arg0 : IVec S_ 32) (arg1 : IVec S_ 32) (v1 : IVec S_ 32) (v108 : IVec S2 32) (v113 : IVec S2 32) : IVec S2 32 × IVec S2 32 :=
  let v114 : IVec S2 32 := xori v108 v113
  let v115 : IVec S2 32 := addi v108 v114
  let c_29 : IVec S_ 32 := constantI S_ 32 29#32
  let v116 : IVec S2 32 := broadcastInDim S2 ![] bcast_S_S2 c_29
  let v117 : IVec S2 32 := Host.shli v114 v116
  let c_30 : IVec S_ 32 := constantI S_ 32 3#32
  let v118 : IVec S2 32 := broadcastInDim S2 ![] bcast_S_S2 c_30
  let v119 : IVec S2 32 := Host.shrui v114 v118
  let v120 : IVec S2 32 := ori v117 v119
  let v121 : IVec S2 32 := xori v115 v120
  let v122 : IVec S2 32 := addi v115 v121
  let c_31 : IVec S_ 32 := constantI S_ 32 16#32
  let v123 : IVec S2 32 := broadcastInDim S2 ![] bcast_S_S2 c_31
  let v124 : IVec S2 32 := Host.shli v121 v123
  let c_32 : IVec S_ 32 := constantI S_ 32 16#32
  let v125 : IVec S2 32 := broadcastInDim S2 ![] bcast_S_S2 c_32
  let v126 : IVec S2 32 := Host.shrui v121 v125
  let v127 : IVec S2 32 := ori v124 v126
  let v128 : IVec S2 32 := xori v122 v127
  let v129 : IVec S2 32 := addi v122 v128
  let c_33 : IVec S_ 32 := constantI S_ 32 24#32
  let v130 : IVec S2 32 := broadcastInDim S2 ![] bcast_S_S2 c_33
  let v131 : IVec S2 32 := Host.shli v128 v130
  let c_34 : IVec S_ 32 := constantI S_ 32 8#32
  fn_threefry2x32_part7 (F := F) arg0 arg1 v1 v128 v129 v131 c_34

def fn_threefry2x32_part5 {F : FTy → Type} [FloatOps F] (arg0 : IVec S_ 32) (arg1 : IVec S_ 32) (v1 : IVec S_ 32) (v88 : IVec S2 32) (v94 : IVec S2 32) : IVec S2 32 × IVec S2 32 :=
  let v95 : IVec S2 32 := addi v88 v94
  let c_24 : IVec S_ 32 := constantI S_ 32 6#32
  let v96 : IVec S2 32 := broadcastInDim S2 ![] bcast_S_S2 c_24
  let v97 : IVec S2 32 := Host.shli v94 v96
  let c_25 : IVec S_ 32 := constantI S_ 32 26#32
  let v98 : IVec S2 32 := broadcastInDim S2 ![] bcast_S_S2 c_25
  let v99 : IVec S2 32 := Host.shrui v94 v98
  let v100 : IVec S2 32 := ori v97 v99
  let v101 : IVec S2 32 := xori v95 v100
  let v102 : IVec S2 32 := broadcastInDim S2 ![] bcast_S_S2 arg0
  let v103 : IVec S2 32 := addi v95 v102
  let v104 : IVec S2 32 := broadcastInDim S2 ![] bcast_S_S2 arg1
  let v105 : IVec S2 32 := addi v101 v104
  let c_26 : IVec S_ 32 := constantI S_ 32 3#32
  let v106 : IVec S2 32 := broadcastInDim S2 ![] bcast_S_S2 c_26
  let v107 : IVec S2 32 := addi v105 v106
  let v108 : IVec S2 32 := addi v103 v107
  let c_27 : IVec S_ 32 := constantI S_ 32 17#32
  let v109 : IVec S2 32 := broadcastInDim S2 ![] bcast_S_S2 c_27
  let v110 : IVec S2 32 := Host.shli v107 v109
  let c_28 : IVec S_ 32 := constantI S_ 32 15#32
  let v111 : IVec S2 32 := broadcastInDim S2 ![] bcast_S_S2 c_28
  let v112 : IVec S2 32 := Host.shrui v107 v111
  let v113 : IVec S2 32 := ori v110 v112
  fn_threefry2x32_part6 (F := F) arg0 arg1 v1 v108 v113

def fn_threefry2x32_part4 {F : FTy → Type} [FloatOps F] (arg0 : IVec S_ 32) (arg1 : IVec S_ 32) (v1 : IVec S_ 32) (v73 : IVec S2 32) (v74 : IVec S2 32) (v75 : IVec S2 32) : IVec S2 32 × IVec S2 32 :=
  let v76 : IVec S2 32 := Host.shli v73 v75
  let c_19 : IVec S_ 32 := constantI S_ 32 19#32
  let v77 : IVec S2 32 := broadcastInDim S2 ![] bcast_S_S2 c_19
  let v78 : IVec S2 32 := Host.shrui v73 v77
  let v79 : IVec S2 32 := ori v76 v78
  let v80 : IVec S2 32 := xori v74 v79
  let v81 : IVec S2 32 := addi v74 v80
  let c_20 : IVec S_ 32 := constantI S_ 32 15#32
  let v82 : IVec S2 32 := broadcastInDim S2 ![] bcast_S_S2 c_20
  let v83 : IVec S2 32 := Host.shli v80 v82
  let c_21 : IVec S_ 32 := constantI S_ 32 17#32
  let v84 : IVec S2 32 := broadcastInDim S2 ![] bcast_S_S2 c_21
  let v85 : IVec S2 32 := Host.shrui v80 v84
  let v86 : IVec S2 32 := ori v83 v85
  let v87 : IVec S2 32 := xori v81 v86
  let v88 : IVec S2 32 := addi v81 v87
  let c_22 : IVec S_ 32 := constantI S_ 32 26#32
  let v89 : IVec S2 32 := broadcastInDim S2 ![] bcast_S_S2 c_22
  let v90 : IVec S2 32 := Host.shli v87 v89
  let c_23 : IVec S_ 32 := constantI S_ 32 6#32
  let v91 : IVec S2 32 := broadcastInDim S2 ![] bcast_S_S2 c_23
  let v92 : IVec S2 32 := Host.shrui v87 v91
  let v93 : IVec S2 32 := ori v90 v92
  let v94 : IVec S2 32 := xori v88 v93
  fn_threefry2x32_part5 (F := F) arg0 arg1 v1 v88 v94

def fn_threefry2x32_part3 {F : FTy → Type} [FloatOps F] (arg0 : IVec S_ 32) (arg1 : IVec S_ 32) (v1 : IVec S_ 32) (v53 : IVec S2 32) (v54 : IVec S2 32) (v56 : IVec S2 32) : IVec S2 32 × IVec S2 32 :=
  let c_14 : IVec S_ 32 := constantI S_ 32 16#32
  let v57 : IVec S2 32 := broadcastInDim S2 ![] bcast_S_S2 c_14
  let v58 : IVec S2 32 := Host.shrui v53 v57
  let v59 : IVec S2 32 := ori v56 v58
  let v60 : IVec S2 32 := xori v54 v59
  let v61 : IVec S2 32 := addi v54 v60
  let c_15 : IVec S_ 32 := constantI S_ 32 24#32
  let v62 : IVec S2 32 := broadcastInDim S2 ![] bcast_S_S2 c_15
  let v63 : IVec S2 32 := Host.shli v60 v62
  let c_16 : IVec S_ 32 := constantI S_ 32 8#32
  let v64 : IVec S2 32 := broadcastInDim S2 ![] bcast_S_S2 c_16
  let v65 : IVec S2 32 := Host.shrui v60 v64
  let v66 : IVec S2 32 := ori v63 v65
  let v67 : IVec S2 32 := xori v61 v66
  let v68 : IVec S2 32 := broadcastInDim S2 ![] bcast_S_S2 v1
  let v69 : IVec S2 32 := addi v61 v68
  let v70 : IVec S2 32 := broadcastInDim S2 ![] bcast_S_S2 arg0
  let v71 : IVec S2 32 := addi v67 v70
  let c_17 : IVec S_ 32 := constantI S_ 32 2#32
  let v72 : IVec S2 32 := broadcastInDim S2 ![] bcast_S_S2 c_17
  let v73 : IVec S2 32 := addi v71 v72
  let v74 : IVec S2 32 := addi v69 v73
  let c_18 : IVec S_ 32 := constantI S_ 32 13#32
  let v75 : IVec S2 32 := broadcastInDim S2 ![] bcast_S_S2 c_18
  fn_threefry2x32_part4 (F := F) arg0 arg1 v1 v73 v74 v75

def fn_threefry2x32_part2 {F : FTy → Type} [FloatOps F] (arg0 : IVec S_ 32) (arg1 : IVec S_ 32) (v1 : IVec S_ 32) (v35 : IVec S2 32) (v37 : IVec S2 32) (c_8 : IVec S_ 32) : IVec S2 32 × IVec S2 32 :=
  let v38 : IVec S2 32 := broadcastInDim S2 ![] bcast_S_S2 c_8
  let v39 : IVec S2 32 := addi v37 v38
  let v40 : IVec S2 32 := addi v35 v39
  let c_9 : IVec S_ 32 := constantI S_ 32 17#32
  let v41 : IVec S2 32 := broadcastInDim S2 ![] bcast_S_S2 c_9
  let v42 : IVec S2 32 := Host.shli v39 v41
  let c_10 : IVec S_ 32 := constantI S_ 32 15#32
  let v43 : IVec S2 32 := broadcastInDim S2 ![] bcast_S_S2 c_10
  let v44 : IVec S2 32 := Host.shrui v39 v43
  let v45 : IVec S2 32 := ori v42 v44
  let v46 : IVec S2 32 := xori v40 v45
  let v47 : IVec S2 32 := addi v40 v46
  let c_11 : IVec S_ 32 := constantI S_ 32 29#32
  let v48 : IVec S2 32 := broadcastInDim S2 ![] bcast_S_S2 c_11
  let v49 : IVec S2 32 := Host.shli v46 v48
  let c_12 : IVec S_ 32 := constantI S_ 32 3#32
  let v50 : IVec S2 32 := broadcastInDim S2 ![] bcast_S_S2 c_12
  let v51 : IVec S2 32 := Host.shrui v46 v50
  let v52 : IVec S2 32 := ori v49 v51
  let v53 : IVec S2 32 := xori v47 v52
  let v54 : IVec S2 32 := addi v47 v53
  let c_13 : IVec S_ 32 := constantI S_ 32 16#32
  let v55 : IVec S2 32 := broadcastInDim S2 ![] bcast_S_S2 c_13
  let v56 : IVec S2 32 := Host.shli v53 v55
  fn_threefry2x32_part3 (F := F) arg0 arg1 v1 v53 v54 v56

def fn_threefry2x32_part1 {F : FTy → Type} [FloatOps F] (arg0 : IVec S_ 32) (arg1 : IVec S_ 32) (v1 : IVec S_ 32) (v13 : IVec S2 32) (v18 : IVec S2 32) : IVec S2 32 × IVec S2 32 :=
  let v19 : IVec S2 32 := xori v13 v18
  let v20 : IVec S2 32 := addi v13 v19
  let c_4 : IVec S_ 32 := constantI S_ 32 26#32
  let v21 : IVec S2 32 := broadcastInDim S2 ![] bcast_S_S2 c_4
  let v22 : IVec S2 32 := Host.shli v19 v21
  let c_5 : IVec S_ 32 := constantI S_ 32 6#32
  let v23 : IVec S2 32 := broadcastInDim S2 ![] bcast_S_S2 c_5
  let v24 : IVec S2 32 := Host.shrui v19 v23
  let v25 : IVec S2 32 := ori v22 v24
  let v26 : IVec S2 32 := xori v20 v25
  let v27 : IVec S2 32 := addi v20 v26
  let c_6 : IVec S_ 32 := constantI S_ 32 6#32
  let v28 : IVec S2 32 := broadcastInDim S2 ![] bcast_S_S2 c_6
  let v29 : IVec S2 32 := Host.shli v26 v28
  let c_7 : IVec S_ 32 := constantI S_ 32 26#32
  let v30 : IVec S2 32 := broadcastInDim S2 ![] bcast_S_S2 c_7
  let v31 : IVec S2 32 := Host.shrui v26 v30
  let v32 : IVec S2 32 := ori v29 v31
  let v33 : IVec S2 32 := xori v27 v32
  let v34 : IVec S2 32 := broadcastInDim S2 ![] bcast_S_S2 arg1
  let v35 : IVec S2 32 := addi v27 v34
  let v36 : IVec S2 32 := broadcastInDim S2 ![] bcast_S_S2 v1
  let v37 : IVec S2 32 := addi v33 v36
  let c_8 : IVec S_ 32 := constantI S_ 32 1#32
  fn_threefry2x32_part2 (F := F) arg0 arg1 v1 v35 v37 c_8

def fn_threefry2x32 {F : FTy → Type} [FloatOps F] (arg0 : IVec S_ 32) (arg1 : IVec S_ 32) (arg2 : IVec S2 32) (arg3 : IVec S2 32) : IVec S2 32 × IVec S2 32 :=
  let v0 : IVec S_ 32 := xori arg0 arg1
  let c : IVec S_ 32 := constantI S_ 32 466688986#32
  let v1 : IVec S_ 32 := xori v0 c
  let v2 : IVec S2 32 := broadcastInDim S2 ![] bcast_S_S2 arg0
  let v3 : IVec S2 32 := addi arg2 v2
  let v4 : IVec S2 32 := broadcastInDim S2 ![] bcast_S_S2 arg1
  let v5 : IVec S2 32 := addi arg3 v4
  let v6 : IVec S2 32 := addi v3 v5
  let c_0 : IVec S_ 32 := constantI S_ 32 13#32
  let v7 : IVec S2 32 := broadcastInDim S2 ![] bcast_S_S2 c_0
  let v8 : IVec S2 32 := Host.shli v5 v7
  let c_1 : IVec S_ 32 := constantI S_ 32 19#32
  let v9 : IVec S2 32 := broadcastInDim S2 ![] bcast_S_S2 c_1
  let v10 : IVec S2 32 := Host.shrui v5 v9
  let v11 : IVec S2 32 := ori v8 v10
  let v12 : IVec S2 32 := xori v6 v11
  let v13 : IVec S2 32 := addi v6 v12
  let c_2 : IVec S_ 32 := constantI S_ 32 15#32
  let v14 : IVec S2 32 := broadcastInDim S2 ![] bcast_S_S2 c_2
  let v15 : IVec S2 32 := Host.shli v12 v14
  let c_3 : IVec S_ 32 := constantI S_ 32 17#32
  let v16 : IVec S2 32 := broadcastInDim S2 ![] bcast_S_S2 c_3
  let v17 : IVec S2 32 := Host.shrui v12 v16
  let v18 : IVec S2 32 := ori v15 v17
  fn_threefry2x32_part1 (F := F) arg0 arg1 v1 v13 v18

def fn_threefry_split {F : FTy → Type} [FloatOps F] (arg0 : IVec S2 32) : IVec S2x2 32 :=
  let v0 : IVec S1 32 := (extractStridedSlice S1 ![0] · slices_S2_S1_0) arg0
  let v1 : IVec S_ 32 := shapeCast S_ v0 shapeCasts_S1_S_
  let v2 : IVec S1 32 := (extractStridedSlice S1 ![1] · slices_S2_S1_1) arg0
  let v3 : IVec S_ 32 := shapeCast S_ v2 shapeCasts_S1_S_
  let v4 : IVec S2 64 := iotaInDim S2 64 0
  let c : IVec S_ 64 := constantI S_ 64 1#64
  let v5 : IVec S2 64 := broadcastInDim S2 ![] bcast_S_S2 c
  let v6 : IVec S2 64 := muli v5 v4
  let c_0 : IVec S_ 64 := constantI S_ 64 32#64
  let v7 : IVec S2 64 := broadcastInDim S2 ![] bcast_S_S2 c_0
  let v8 : IVec S2 64 := Host.shrui v6 v7
  let v9 : IVec S2 32 := (trunci 32 · natLt_32_64) v6
  let v10 : IVec S2 32 := (trunci 32 · natLt_32_64) v8
  let v11_0 : IVec S2 32 := (fn_threefry2x32 (F := F) v1 v3 v10 v9).1
  let v11_1 : IVec S2 32 := (fn_threefry2x32 (F := F) v1 v3 v10 v9).2
  let v12 : IVec S2x1 32 := broadcastInDim S2x1 ![0] bcast_S2_S2x1_0 v11_0
  let v13 : IVec S2x1 32 := broadcastInDim S2x1 ![0] bcast_S2_S2x1_0 v11_1
  let v14 : IVec S2x2 32 := (fun a b => concatenate S2x2 1 [⟨S2x1, a⟩, ⟨S2x1, b⟩] concatenates_S2x1_S2x1_S2x2_d1) v12 v13
  v14

def fn_threefry2x32_0_part9 {F : FTy → Type} [FloatOps F] (arg0 : IVec S_ 32) (v163 : IVec S2048x2048 32) (v169 : IVec S2048x2048 32) (v170 : IVec S2048x2048 32) : IVec S2048x2048 32 × IVec S2048x2048 32 :=
  let v171 : IVec S2048x2048 32 := addi v163 v170
  let v172 : IVec S2048x2048 32 := broadcastInDim S2048x2048 ![] bcast_S_S2048x2048 arg0
  let v173 : IVec S2048x2048 32 := addi v169 v172
  let c_44 : IVec S_ 32 := constantI S_ 32 5#32
  let v174 : IVec S2048x2048 32 := broadcastInDim S2048x2048 ![] bcast_S_S2048x2048 c_44
  let v175 : IVec S2048x2048 32 := addi v173 v174
  (v171, v175)

def fn_threefry2x32_0_part8 {F : FTy → Type} [FloatOps F] (arg0 : IVec S_ 32) (v1 : IVec S_ 32) (v148 : IVec S2048x2048 32) (v149 : IVec S2048x2048 32) (v151 : IVec S2048x2048 32) : IVec S2048x2048 32 × IVec S2048x2048 32 :=
  let c_39 : IVec S_ 32 := constantI S_ 32 17#32
  let v152 : IVec S2048x2048 32 := broadcastInDim S2048x2048 ![] bcast_S_S2048x2048 c_39
  let v153 : IVec S2048x2048 32 := Host.shrui v148 v152
  let v154 : IVec S2048x2048 32 := ori v151 v153
  let v155 : IVec S2048x2048 32 := xori v149 v154
  let v156 : IVec S2048x2048 32 := addi v149 v155
  let c_40 : IVec S_ 32 := constantI S_ 32 26#32
  let v157 : IVec S2048x2048 32 := broadcastInDim S2048x2048 ![] bcast_S_S2048x2048 c_40
  let v158 : IVec S2048x2048 32 := Host.shli v155 v157
  let c_41 : IVec S_ 32 := constantI S_ 32 6#32
  let v159 : IVec S2048x2048 32 := broadcastInDim S2048x2048 ![] bcast_S_S2048x2048 c_41
  let v160 : IVec S2048x2048 32 := Host.shrui v155 v159
  let v161 : IVec S2048x2048 32 := ori v158 v160
  let v162 : IVec S2048x2048 32 := xori v156 v161
  let v163 : IVec S2048x2048 32 := addi v156 v162
  let c_42 : IVec S_ 32 := constantI S_ 32 6#32
  let v164 : IVec S2048x2048 32 := broadcastInDim S2048x2048 ![] bcast_S_S2048x2048 c_42
  let v165 : IVec S2048x2048 32 := Host.shli v162 v164
  let c_43 : IVec S_ 32 := constantI S_ 32 26#32
  let v166 : IVec S2048x2048 32 := broadcastInDim S2048x2048 ![] bcast_S_S2048x2048 c_43
  let v167 : IVec S2048x2048 32 := Host.shrui v162 v166
  let v168 : IVec S2048x2048 32 := ori v165 v167
  let v169 : IVec S2048x2048 32 := xori v163 v168
  let v170 : IVec S2048x2048 32 := broadcastInDim S2048x2048 ![] bcast_S_S2048x2048 v1
  fn_threefry2x32_0_part9 (F := F) arg0 v163 v169 v170

def fn_threefry2x32_0_part7 {F : FTy → Type} [FloatOps F] (arg0 : IVec S_ 32) (arg1 : IVec S_ 32) (v1 : IVec S_ 32) (v128 : IVec S2048x2048 32) (v129 : IVec S2048x2048 32) (v131 : IVec S2048x2048 32) (c_34 : IVec S_ 32) : IVec S2048x2048 32 × IVec S2048x2048 32 :=
  let v132 : IVec S2048x2048 32 := broadcastInDim S2048x2048 ![] bcast_S_S2048x2048 c_34
  let v133 : IVec S2048x2048 32 := Host.shrui v128 v132
  let v134 : IVec S2048x2048 32 := ori v131 v133
  let v135 : IVec S2048x2048 32 := xori v129 v134
  let v136 : IVec S2048x2048 32 := broadcastInDim S2048x2048 ![] bcast_S_S2048x2048 arg1
  let v137 : IVec S2048x2048 32 := addi v129 v136
  let v138 : IVec S2048x2048 32 := broadcastInDim S2048x2048 ![] bcast_S_S2048x2048 v1
  let v139 : IVec S2048x2048 32 := addi v135 v138
  let c_35 : IVec S_ 32 := constantI S_ 32 4#32
  let v140 : IVec S2048x2048 32 := broadcastInDim S2048x2048 ![] bcast_S_S2048x2048 c_35
  let v141 : IVec S2048x2048 32 := addi v139 v140
  let v142 : IVec S2048x2048 32 := addi v137 v141
  let c_36 : IVec S_ 32 := constantI S_ 32 13#32
  let v143 : IVec S2048x2048 32 := broadcastInDim S2048x2048 ![] bcast_S_S2048x2048 c_36
  let v144 : IVec S2048x2048 32 := Host.shli v141 v143
  let c_37 : IVec S_ 32 := constantI S_ 32 19#32
  let v145 : IVec S2048x2048 32 := broadcastInDim S2048x2048 ![] bcast_S_S2048x2048 c_37
  let v146 : IVec S2048x2048 32 := Host.shrui v141 v145
  let v147 : IVec S2048x2048 32 := ori v144 v146
  let v148 : IVec S2048x2048 32 := xori v142 v147
  let v149 : IVec S2048x2048 32 := addi v142 v148
  let c_38 : IVec S_ 32 := constantI S_ 32 15#32
  let v150 : IVec S2048x2048 32 := broadcastInDim S2048x2048 ![] bcast_S_S2048x2048 c_38
  let v151 : IVec S2048x2048 32 := Host.shli v148 v150
  fn_threefry2x32_0_part8 (F := F) arg0 v1 v148 v149 v151

def fn_threefry2x32_0_part6 {F : FTy → Type} [FloatOps F] (arg0 : IVec S_ 32) (arg1 : IVec S_ 32) (v1 : IVec S_ 32) (v108 : IVec S2048x2048 32) (v113 : IVec S2048x2048 32) : IVec S2048x2048 32 × IVec S2048x2048 32 :=
  let v114 : IVec S2048x2048 32 := xori v108 v113
  let v115 : IVec S2048x2048 32 := addi v108 v114
  let c_29 : IVec S_ 32 := constantI S_ 32 29#32
  let v116 : IVec S2048x2048 32 := broadcastInDim S2048x2048 ![] bcast_S_S2048x2048 c_29
  let v117 : IVec S2048x2048 32 := Host.shli v114 v116
  let c_30 : IVec S_ 32 := constantI S_ 32 3#32
  let v118 : IVec S2048x2048 32 := broadcastInDim S2048x2048 ![] bcast_S_S2048x2048 c_30
  let v119 : IVec S2048x2048 32 := Host.shrui v114 v118
  let v120 : IVec S2048x2048 32 := ori v117 v119
  let v121 : IVec S2048x2048 32 := xori v115 v120
  let v122 : IVec S2048x2048 32 := addi v115 v121
  let c_31 : IVec S_ 32 := constantI S_ 32 16#32
  let v123 : IVec S2048x2048 32 := broadcastInDim S2048x2048 ![] bcast_S_S2048x2048 c_31
  let v124 : IVec S2048x2048 32 := Host.shli v121 v123
  let c_32 : IVec S_ 32 := constantI S_ 32 16#32
  let v125 : IVec S2048x2048 32 := broadcastInDim S2048x2048 ![] bcast_S_S2048x2048 c_32
  let v126 : IVec S2048x2048 32 := Host.shrui v121 v125
  let v127 : IVec S2048x2048 32 := ori v124 v126
  let v128 : IVec S2048x2048 32 := xori v122 v127
  let v129 : IVec S2048x2048 32 := addi v122 v128
  let c_33 : IVec S_ 32 := constantI S_ 32 24#32
  let v130 : IVec S2048x2048 32 := broadcastInDim S2048x2048 ![] bcast_S_S2048x2048 c_33
  let v131 : IVec S2048x2048 32 := Host.shli v128 v130
  let c_34 : IVec S_ 32 := constantI S_ 32 8#32
  fn_threefry2x32_0_part7 (F := F) arg0 arg1 v1 v128 v129 v131 c_34

def fn_threefry2x32_0_part5 {F : FTy → Type} [FloatOps F] (arg0 : IVec S_ 32) (arg1 : IVec S_ 32) (v1 : IVec S_ 32) (v88 : IVec S2048x2048 32) (v94 : IVec S2048x2048 32) : IVec S2048x2048 32 × IVec S2048x2048 32 :=
  let v95 : IVec S2048x2048 32 := addi v88 v94
  let c_24 : IVec S_ 32 := constantI S_ 32 6#32
  let v96 : IVec S2048x2048 32 := broadcastInDim S2048x2048 ![] bcast_S_S2048x2048 c_24
  let v97 : IVec S2048x2048 32 := Host.shli v94 v96
  let c_25 : IVec S_ 32 := constantI S_ 32 26#32
  let v98 : IVec S2048x2048 32 := broadcastInDim S2048x2048 ![] bcast_S_S2048x2048 c_25
  let v99 : IVec S2048x2048 32 := Host.shrui v94 v98
  let v100 : IVec S2048x2048 32 := ori v97 v99
  let v101 : IVec S2048x2048 32 := xori v95 v100
  let v102 : IVec S2048x2048 32 := broadcastInDim S2048x2048 ![] bcast_S_S2048x2048 arg0
  let v103 : IVec S2048x2048 32 := addi v95 v102
  let v104 : IVec S2048x2048 32 := broadcastInDim S2048x2048 ![] bcast_S_S2048x2048 arg1
  let v105 : IVec S2048x2048 32 := addi v101 v104
  let c_26 : IVec S_ 32 := constantI S_ 32 3#32
  let v106 : IVec S2048x2048 32 := broadcastInDim S2048x2048 ![] bcast_S_S2048x2048 c_26
  let v107 : IVec S2048x2048 32 := addi v105 v106
  let v108 : IVec S2048x2048 32 := addi v103 v107
  let c_27 : IVec S_ 32 := constantI S_ 32 17#32
  let v109 : IVec S2048x2048 32 := broadcastInDim S2048x2048 ![] bcast_S_S2048x2048 c_27
  let v110 : IVec S2048x2048 32 := Host.shli v107 v109
  let c_28 : IVec S_ 32 := constantI S_ 32 15#32
  let v111 : IVec S2048x2048 32 := broadcastInDim S2048x2048 ![] bcast_S_S2048x2048 c_28
  let v112 : IVec S2048x2048 32 := Host.shrui v107 v111
  let v113 : IVec S2048x2048 32 := ori v110 v112
  fn_threefry2x32_0_part6 (F := F) arg0 arg1 v1 v108 v113

def fn_threefry2x32_0_part4 {F : FTy → Type} [FloatOps F] (arg0 : IVec S_ 32) (arg1 : IVec S_ 32) (v1 : IVec S_ 32) (v73 : IVec S2048x2048 32) (v74 : IVec S2048x2048 32) (v75 : IVec S2048x2048 32) : IVec S2048x2048 32 × IVec S2048x2048 32 :=
  let v76 : IVec S2048x2048 32 := Host.shli v73 v75
  let c_19 : IVec S_ 32 := constantI S_ 32 19#32
  let v77 : IVec S2048x2048 32 := broadcastInDim S2048x2048 ![] bcast_S_S2048x2048 c_19
  let v78 : IVec S2048x2048 32 := Host.shrui v73 v77
  let v79 : IVec S2048x2048 32 := ori v76 v78
  let v80 : IVec S2048x2048 32 := xori v74 v79
  let v81 : IVec S2048x2048 32 := addi v74 v80
  let c_20 : IVec S_ 32 := constantI S_ 32 15#32
  let v82 : IVec S2048x2048 32 := broadcastInDim S2048x2048 ![] bcast_S_S2048x2048 c_20
  let v83 : IVec S2048x2048 32 := Host.shli v80 v82
  let c_21 : IVec S_ 32 := constantI S_ 32 17#32
  let v84 : IVec S2048x2048 32 := broadcastInDim S2048x2048 ![] bcast_S_S2048x2048 c_21
  let v85 : IVec S2048x2048 32 := Host.shrui v80 v84
  let v86 : IVec S2048x2048 32 := ori v83 v85
  let v87 : IVec S2048x2048 32 := xori v81 v86
  let v88 : IVec S2048x2048 32 := addi v81 v87
  let c_22 : IVec S_ 32 := constantI S_ 32 26#32
  let v89 : IVec S2048x2048 32 := broadcastInDim S2048x2048 ![] bcast_S_S2048x2048 c_22
  let v90 : IVec S2048x2048 32 := Host.shli v87 v89
  let c_23 : IVec S_ 32 := constantI S_ 32 6#32
  let v91 : IVec S2048x2048 32 := broadcastInDim S2048x2048 ![] bcast_S_S2048x2048 c_23
  let v92 : IVec S2048x2048 32 := Host.shrui v87 v91
  let v93 : IVec S2048x2048 32 := ori v90 v92
  let v94 : IVec S2048x2048 32 := xori v88 v93
  fn_threefry2x32_0_part5 (F := F) arg0 arg1 v1 v88 v94

def fn_threefry2x32_0_part3 {F : FTy → Type} [FloatOps F] (arg0 : IVec S_ 32) (arg1 : IVec S_ 32) (v1 : IVec S_ 32) (v53 : IVec S2048x2048 32) (v54 : IVec S2048x2048 32) (v56 : IVec S2048x2048 32) : IVec S2048x2048 32 × IVec S2048x2048 32 :=
  let c_14 : IVec S_ 32 := constantI S_ 32 16#32
  let v57 : IVec S2048x2048 32 := broadcastInDim S2048x2048 ![] bcast_S_S2048x2048 c_14
  let v58 : IVec S2048x2048 32 := Host.shrui v53 v57
  let v59 : IVec S2048x2048 32 := ori v56 v58
  let v60 : IVec S2048x2048 32 := xori v54 v59
  let v61 : IVec S2048x2048 32 := addi v54 v60
  let c_15 : IVec S_ 32 := constantI S_ 32 24#32
  let v62 : IVec S2048x2048 32 := broadcastInDim S2048x2048 ![] bcast_S_S2048x2048 c_15
  let v63 : IVec S2048x2048 32 := Host.shli v60 v62
  let c_16 : IVec S_ 32 := constantI S_ 32 8#32
  let v64 : IVec S2048x2048 32 := broadcastInDim S2048x2048 ![] bcast_S_S2048x2048 c_16
  let v65 : IVec S2048x2048 32 := Host.shrui v60 v64
  let v66 : IVec S2048x2048 32 := ori v63 v65
  let v67 : IVec S2048x2048 32 := xori v61 v66
  let v68 : IVec S2048x2048 32 := broadcastInDim S2048x2048 ![] bcast_S_S2048x2048 v1
  let v69 : IVec S2048x2048 32 := addi v61 v68
  let v70 : IVec S2048x2048 32 := broadcastInDim S2048x2048 ![] bcast_S_S2048x2048 arg0
  let v71 : IVec S2048x2048 32 := addi v67 v70
  let c_17 : IVec S_ 32 := constantI S_ 32 2#32
  let v72 : IVec S2048x2048 32 := broadcastInDim S2048x2048 ![] bcast_S_S2048x2048 c_17
  let v73 : IVec S2048x2048 32 := addi v71 v72
  let v74 : IVec S2048x2048 32 := addi v69 v73
  let c_18 : IVec S_ 32 := constantI S_ 32 13#32
  let v75 : IVec S2048x2048 32 := broadcastInDim S2048x2048 ![] bcast_S_S2048x2048 c_18
  fn_threefry2x32_0_part4 (F := F) arg0 arg1 v1 v73 v74 v75

def fn_threefry2x32_0_part2 {F : FTy → Type} [FloatOps F] (arg0 : IVec S_ 32) (arg1 : IVec S_ 32) (v1 : IVec S_ 32) (v35 : IVec S2048x2048 32) (v37 : IVec S2048x2048 32) (c_8 : IVec S_ 32) : IVec S2048x2048 32 × IVec S2048x2048 32 :=
  let v38 : IVec S2048x2048 32 := broadcastInDim S2048x2048 ![] bcast_S_S2048x2048 c_8
  let v39 : IVec S2048x2048 32 := addi v37 v38
  let v40 : IVec S2048x2048 32 := addi v35 v39
  let c_9 : IVec S_ 32 := constantI S_ 32 17#32
  let v41 : IVec S2048x2048 32 := broadcastInDim S2048x2048 ![] bcast_S_S2048x2048 c_9
  let v42 : IVec S2048x2048 32 := Host.shli v39 v41
  let c_10 : IVec S_ 32 := constantI S_ 32 15#32
  let v43 : IVec S2048x2048 32 := broadcastInDim S2048x2048 ![] bcast_S_S2048x2048 c_10
  let v44 : IVec S2048x2048 32 := Host.shrui v39 v43
  let v45 : IVec S2048x2048 32 := ori v42 v44
  let v46 : IVec S2048x2048 32 := xori v40 v45
  let v47 : IVec S2048x2048 32 := addi v40 v46
  let c_11 : IVec S_ 32 := constantI S_ 32 29#32
  let v48 : IVec S2048x2048 32 := broadcastInDim S2048x2048 ![] bcast_S_S2048x2048 c_11
  let v49 : IVec S2048x2048 32 := Host.shli v46 v48
  let c_12 : IVec S_ 32 := constantI S_ 32 3#32
  let v50 : IVec S2048x2048 32 := broadcastInDim S2048x2048 ![] bcast_S_S2048x2048 c_12
  let v51 : IVec S2048x2048 32 := Host.shrui v46 v50
  let v52 : IVec S2048x2048 32 := ori v49 v51
  let v53 : IVec S2048x2048 32 := xori v47 v52
  let v54 : IVec S2048x2048 32 := addi v47 v53
  let c_13 : IVec S_ 32 := constantI S_ 32 16#32
  let v55 : IVec S2048x2048 32 := broadcastInDim S2048x2048 ![] bcast_S_S2048x2048 c_13
  let v56 : IVec S2048x2048 32 := Host.shli v53 v55
  fn_threefry2x32_0_part3 (F := F) arg0 arg1 v1 v53 v54 v56

def fn_threefry2x32_0_part1 {F : FTy → Type} [FloatOps F] (arg0 : IVec S_ 32) (arg1 : IVec S_ 32) (v1 : IVec S_ 32) (v13 : IVec S2048x2048 32) (v18 : IVec S2048x2048 32) : IVec S2048x2048 32 × IVec S2048x2048 32 :=
  let v19 : IVec S2048x2048 32 := xori v13 v18
  let v20 : IVec S2048x2048 32 := addi v13 v19
  let c_4 : IVec S_ 32 := constantI S_ 32 26#32
  let v21 : IVec S2048x2048 32 := broadcastInDim S2048x2048 ![] bcast_S_S2048x2048 c_4
  let v22 : IVec S2048x2048 32 := Host.shli v19 v21
  let c_5 : IVec S_ 32 := constantI S_ 32 6#32
  let v23 : IVec S2048x2048 32 := broadcastInDim S2048x2048 ![] bcast_S_S2048x2048 c_5
  let v24 : IVec S2048x2048 32 := Host.shrui v19 v23
  let v25 : IVec S2048x2048 32 := ori v22 v24
  let v26 : IVec S2048x2048 32 := xori v20 v25
  let v27 : IVec S2048x2048 32 := addi v20 v26
  let c_6 : IVec S_ 32 := constantI S_ 32 6#32
  let v28 : IVec S2048x2048 32 := broadcastInDim S2048x2048 ![] bcast_S_S2048x2048 c_6
  let v29 : IVec S2048x2048 32 := Host.shli v26 v28
  let c_7 : IVec S_ 32 := constantI S_ 32 26#32
  let v30 : IVec S2048x2048 32 := broadcastInDim S2048x2048 ![] bcast_S_S2048x2048 c_7
  let v31 : IVec S2048x2048 32 := Host.shrui v26 v30
  let v32 : IVec S2048x2048 32 := ori v29 v31
  let v33 : IVec S2048x2048 32 := xori v27 v32
  let v34 : IVec S2048x2048 32 := broadcastInDim S2048x2048 ![] bcast_S_S2048x2048 arg1
  let v35 : IVec S2048x2048 32 := addi v27 v34
  let v36 : IVec S2048x2048 32 := broadcastInDim S2048x2048 ![] bcast_S_S2048x2048 v1
  let v37 : IVec S2048x2048 32 := addi v33 v36
  let c_8 : IVec S_ 32 := constantI S_ 32 1#32
  fn_threefry2x32_0_part2 (F := F) arg0 arg1 v1 v35 v37 c_8

def fn_threefry2x32_0 {F : FTy → Type} [FloatOps F] (arg0 : IVec S_ 32) (arg1 : IVec S_ 32) (arg2 : IVec S2048x2048 32) (arg3 : IVec S2048x2048 32) : IVec S2048x2048 32 × IVec S2048x2048 32 :=
  let v0 : IVec S_ 32 := xori arg0 arg1
  let c : IVec S_ 32 := constantI S_ 32 466688986#32
  let v1 : IVec S_ 32 := xori v0 c
  let v2 : IVec S2048x2048 32 := broadcastInDim S2048x2048 ![] bcast_S_S2048x2048 arg0
  let v3 : IVec S2048x2048 32 := addi arg2 v2
  let v4 : IVec S2048x2048 32 := broadcastInDim S2048x2048 ![] bcast_S_S2048x2048 arg1
  let v5 : IVec S2048x2048 32 := addi arg3 v4
  let v6 : IVec S2048x2048 32 := addi v3 v5
  let c_0 : IVec S_ 32 := constantI S_ 32 13#32
  let v7 : IVec S2048x2048 32 := broadcastInDim S2048x2048 ![] bcast_S_S2048x2048 c_0
  let v8 : IVec S2048x2048 32 := Host.shli v5 v7
  let c_1 : IVec S_ 32 := constantI S_ 32 19#32
  let v9 : IVec S2048x2048 32 := broadcastInDim S2048x2048 ![] bcast_S_S2048x2048 c_1
  let v10 : IVec S2048x2048 32 := Host.shrui v5 v9
  let v11 : IVec S2048x2048 32 := ori v8 v10
  let v12 : IVec S2048x2048 32 := xori v6 v11
  let v13 : IVec S2048x2048 32 := addi v6 v12
  let c_2 : IVec S_ 32 := constantI S_ 32 15#32
  let v14 : IVec S2048x2048 32 := broadcastInDim S2048x2048 ![] bcast_S_S2048x2048 c_2
  let v15 : IVec S2048x2048 32 := Host.shli v12 v14
  let c_3 : IVec S_ 32 := constantI S_ 32 17#32
  let v16 : IVec S2048x2048 32 := broadcastInDim S2048x2048 ![] bcast_S_S2048x2048 c_3
  let v17 : IVec S2048x2048 32 := Host.shrui v12 v16
  let v18 : IVec S2048x2048 32 := ori v15 v17
  fn_threefry2x32_0_part1 (F := F) arg0 arg1 v1 v13 v18

def fn_part4 {F : FTy → Type} [FloatOps F] (main_v0 : IVec S2x4194304 1) (main_v5 : FVec F S2048x2048 .f32) (main_v50 : FVec F S2048x2048 .f32) (main_v73 : FVec F S2048x2048 .f32) (main_v74 : FVec F S2048x2048 .f32) : IVec S2x4194304 1 × IVec S4194304 1 :=
  let main_v75 : FVec F S2048x2048 .f32 := mulf main_v73 main_v74
  let main_cst_17 : FVec F S_ .f32 := constant S_ .f32 0x2EDBE6FF#32
  let main_v76 : FVec F S2048x2048 .f32 := broadcastInDim S2048x2048 ![] bcast_S_S2048x2048 main_cst_17
  let main_v77 : FVec F S2048x2048 .f32 := addf main_v75 main_v76
  let main_cst_18 : FVec F S_ .f32 := constant S_ .f32 0x2EDBE6FF#32
  let main_v78 : FVec F S2048x2048 .f32 := broadcastInDim S2048x2048 ![] bcast_S_S2048x2048 main_cst_18
  let main_v79 : FVec F S2048x2048 .f32 := maximumf main_v78 main_v77
  let main_v80 : FVec F S2048x2048 .f32 := Host.log main_v79
  let main_v81 : FVec F S2048x2048 .f32 := Host.negf main_v80
  let main_v82 : FVec F S2048x2048 .f32 := Host.log main_v81
  let main_v83 : FVec F S2048x2048 .f32 := Host.negf main_v82
  let main_v84 : FVec F S2048x2048 .f32 := addf main_v5 main_v50
  let main_v85 : FVec F S2048x2048 .f32 := subf main_v84 main_v83
  let main_v86 : FVec F S2048x2048 .f32 := Host.absf main_v85
  let main_cst_19 : FVec F S_ .f32 := constant S_ .f32 0x3A000000#32
  let main_v87 : FVec F S2048x2048 .f32 := broadcastInDim S2048x2048 ![] bcast_S_S2048x2048 main_cst_19
  let main_v88 : IVec S2048x2048 1 := cmpf .ogt main_v86 main_v87
  let main_v89 : IVec S4194304 1 := shapeCast S4194304 main_v88 shapeCasts_S2048x2048_S4194304
  (main_v0, main_v89)

def fn_part3 {F : FTy → Type} [FloatOps F] (main_v0 : IVec S2x4194304 1) (main_v5 : FVec F S2048x2048 .f32) (main_v50 : FVec F S2048x2048 .f32) (main_v52 : IVec S_ 32) (main_v54 : IVec S_ 32) (main_v55 : IVec S2048x2048 64) (main_v56 : IVec S2048x2048 64) (main_c_11 : IVec S_ 64) : IVec S2x4194304 1 × IVec S4194304 1 :=
  let main_v57 : IVec S2048x2048 64 := broadcastInDim S2048x2048 ![] bcast_S_S2048x2048 main_c_11
  let main_v58 : IVec S2048x2048 64 := muli main_v57 main_v55
  let main_c_12 : IVec S_ 64 := constantI S_ 64 1#64
  let main_v59 : IVec S2048x2048 64 := broadcastInDim S2048x2048 ![] bcast_S_S2048x2048 main_c_12
  let main_v60 : IVec S2048x2048 64 := muli main_v59 main_v56
  let main_v61 : IVec S2048x2048 64 := addi main_v58 main_v60
  let main_c_13 : IVec S_ 64 := constantI S_ 64 32#64
  let main_v62 : IVec S2048x2048 64 := broadcastInDim S2048x2048 ![] bcast_S_S2048x2048 main_c_13
  let main_v63 : IVec S2048x2048 64 := Host.shrui main_v61 main_v62
  let main_v64 : IVec S2048x2048 32 := (trunci 32 · natLt_32_64) main_v61
  let main_v65 : IVec S2048x2048 32 := (trunci 32 · natLt_32_64) main_v63
  let main_v66_0 : IVec S2048x2048 32 := (fn_threefry2x32_0 (F := F) main_v52 main_v54 main_v65 main_v64).1
  let main_v66_1 : IVec S2048x2048 32 := (fn_threefry2x32_0 (F := F) main_v52 main_v54 main_v65 main_v64).2
  let main_v67 : IVec S2048x2048 32 := xori main_v66_0 main_v66_1
  let main_c_14 : IVec S_ 32 := constantI S_ 32 9#32
  let main_v68 : IVec S2048x2048 32 := broadcastInDim S2048x2048 ![] bcast_S_S2048x2048 main_c_14
  let main_v69 : IVec S2048x2048 32 := Host.shrui main_v67 main_v68
  let main_v70 : IVec S2048x2048 32 := id main_v69
  let main_v71 : FVec F S2048x2048 .f32 := sitofp .f32 main_v70
  let main_cst_15 : FVec F S_ .f32 := constant S_ .f32 0x34000000#32
  let main_v72 : FVec F S2048x2048 .f32 := broadcastInDim S2048x2048 ![] bcast_S_S2048x2048 main_cst_15
  let main_v73 : FVec F S2048x2048 .f32 := mulf main_v71 main_v72
  let main_cst_16 : FVec F S_ .f32 := constant S_ .f32 0x3F800000#32
  let main_v74 : FVec F S2048x2048 .f32 := broadcastInDim S2048x2048 ![] bcast_S_S2048x2048 main_cst_16
  fn_part4 (F := F) main_v0 main_v5 main_v50 main_v73 main_v74

def fn_part2 {F : FTy → Type} [FloatOps F] (main_v0 : IVec S2x4194304 1) (main_v5 : FVec F S2048x2048 .f32) (main_v17 : IVec S2 32) (main_v37 : IVec S2048x2048 32) : IVec S2x4194304 1 × IVec S4194304 1 :=
  let main_v38 : FVec F S2048x2048 .f32 := sitofp .f32 main_v37
  let main_cst_7 : FVec F S_ .f32 := constant S_ .f32 0x34000000#32
  let main_v39 : FVec F S2048x2048 .f32 := broadcastInDim S2048x2048 ![] bcast_S_S2048x2048 main_cst_7
  let main_v40 : FVec F S2048x2048 .f32 := mulf main_v38 main_v39
  let main_cst_8 : FVec F S_ .f32 := constant S_ .f32 0x3F800000#32
  let main_v41 : FVec F S2048x2048 .f32 := broadcastInDim S2048x2048 ![] bcast_S_S2048x2048 main_cst_8
  let main_v42 : FVec F S2048x2048 .f32 := mulf main_v40 main_v41
  let main_cst_9 : FVec F S_ .f32 := constant S_ .f32 0x2EDBE6FF#32
  let main_v43 : FVec F S2048x2048 .f32 := broadcastInDim S2048x2048 ![] bcast_S_S2048x2048 main_cst_9
  let main_v44 : FVec F S2048x2048 .f32 := addf main_v42 main_v43
  let main_cst_10 : FVec F S_ .f32 := constant S_ .f32 0x2EDBE6FF#32
  let main_v45 : FVec F S2048x2048 .f32 := broadcastInDim S2048x2048 ![] bcast_S_S2048x2048 main_cst_10
  let main_v46 : FVec F S2048x2048 .f32 := maximumf main_v45 main_v44
  let main_v47 : FVec F S2048x2048 .f32 := Host.log main_v46
  let main_v48 : FVec F S2048x2048 .f32 := Host.negf main_v47
  let main_v49 : FVec F S2048x2048 .f32 := Host.log main_v48
  let main_v50 : FVec F S2048x2048 .f32 := Host.negf main_v49
  let main_v51 : IVec S1 32 := (extractStridedSlice S1 ![0] · slices_S2_S1_0) main_v17
  let main_v52 : IVec S_ 32 := shapeCast S_ main_v51 shapeCasts_S1_S_
  let main_v53 : IVec S1 32 := (extractStridedSlice S1 ![1] · slices_S2_S1_1) main_v17
  let main_v54 : IVec S_ 32 := shapeCast S_ main_v53 shapeCasts_S1_S_
  let main_v55 : IVec S2048x2048 64 := iotaInDim S2048x2048 64 0
  let main_v56 : IVec S2048x2048 64 := iotaInDim S2048x2048 64 1
  let main_c_11 : IVec S_ 64 := constantI S_ 64 2048#64
  fn_part3 (F := F) main_v0 main_v5 main_v50 main_v52 main_v54 main_v55 main_v56 main_c_11

def fn_part1 {F : FTy → Type} [FloatOps F] (main_v0 : IVec S2x4194304 1) (main_v5 : FVec F S2048x2048 .f32) (main_v15 : IVec S2 32) (main_v17 : IVec S2 32) (main_v18 : IVec S1 32) : IVec S2x4194304 1 × IVec S4194304 1 :=
  let main_v19 : IVec S_ 32 := shapeCast S_ main_v18 shapeCasts_S1_S_
  let main_v20 : IVec S1 32 := (extractStridedSlice S1 ![1] · slices_S2_S1_1) main_v15
  let main_v21 : IVec S_ 32 := shapeCast S_ main_v20 shapeCasts_S1_S_
  let main_v22 : IVec S2048x2048 64 := iotaInDim S2048x2048 64 0
  let main_v23 : IVec S2048x2048 64 := iotaInDim S2048x2048 64 1
  let main_c_3 : IVec S_ 64 := constantI S_ 64 2048#64
  let main_v24 : IVec S2048x2048 64 := broadcastInDim S2048x2048 ![] bcast_S_S2048x2048 main_c_3
  let main_v25 : IVec S2048x2048 64 := muli main_v24 main_v22
  let main_c_4 : IVec S_ 64 := constantI S_ 64 1#64
  let main_v26 : IVec S2048x2048 64 := broadcastInDim S2048x2048 ![] bcast_S_S2048x2048 main_c_4
  let main_v27 : IVec S2048x2048 64 := muli main_v26 main_v23
  let main_v28 : IVec S2048x2048 64 := addi main_v25 main_v27
  let main_c_5 : IVec S_ 64 := constantI S_ 64 32#64
  let main_v29 : IVec S2048x2048 64 := broadcastInDim S2048x2048 ![] bcast_S_S2048x2048 main_c_5
  let main_v30 : IVec S2048x2048 64 := Host.shrui main_v28 main_v29
  let main_v31 : IVec S2048x2048 32 := (trunci 32 · natLt_32_64) main_v28
  let main_v32 : IVec S2048x2048 32 := (trunci 32 · natLt_32_64) main_v30
  let main_v33_0 : IVec S2048x2048 32 := (fn_threefry2x32_0 (F := F) main_v19 main_v21 main_v32 main_v31).1
  let main_v33_1 : IVec S2048x2048 32 := (fn_threefry2x32_0 (F := F) main_v19 main_v21 main_v32 main_v31).2
  let main_v34 : IVec S2048x2048 32 := xori main_v33_0 main_v33_1
  let main_c_6 : IVec S_ 32 := constantI S_ 32 9#32
  let main_v35 : IVec S2048x2048 32 := broadcastInDim S2048x2048 ![] bcast_S_S2048x2048 main_c_6
  let main_v36 : IVec S2048x2048 32 := Host.shrui main_v34 main_v35
  let main_v37 : IVec S2048x2048 32 := id main_v36
  fn_part2 (F := F) main_v0 main_v5 main_v17 main_v37

def fn {F : FTy → Type} [FloatOps F] (main_arg0 : FVec F S2048x128 .f32) (main_arg1 : FVec F S128x128 .f32) : IVec S2x4194304 1 × IVec S4194304 1 :=
  let main_c : IVec S_ 1 := constantI S_ 1 1#1
  let main_v0 : IVec S2x4194304 1 := broadcastInDim S2x4194304 ![] bcast_S_S2x4194304 main_c
  let main_v1 : FVec F S2048x128 .f32 := (fun l r => Host.dotGeneral dot_S2048x128_S128x128_S2048x128_1_0_0_1_n_n none l r) main_arg0 main_arg1
  let main_v2 : FVec F S128x2048 .f32 := (transpose S128x2048 [1, 0] · transposes_S2048x128_S128x2048_1_0) main_arg0
  let main_v3 : FVec F S2048x2048 .f32 := (fun l r => Host.dotGeneral dot_S2048x128_S128x2048_S2048x2048_1_0_0_1_n_n none l r) main_v1 main_v2
  let main_cst : FVec F S_ .f32 := constant S_ .f32 0x3F800000#32
  let main_v4 : FVec F S2048x2048 .f32 := broadcastInDim S2048x2048 ![] bcast_S_S2048x2048 main_cst
  let main_v5 : FVec F S2048x2048 .f32 := Host.divf main_v3 main_v4
  let main_c_0 : IVec S_ 32 := constantI S_ 32 42#32
  let main_c_1 : IVec S_ 32 := constantI S_ 32 32#32
  let main_v6 : IVec S_ 32 := Host.shrui main_c_0 main_c_1
  let main_v7 : IVec S_ 32 := id main_v6
  let main_v8 : IVec S1 32 := broadcastInDim S1 ![] bcast_S_S1 main_v7
  let main_c_2 : IVec S_ 32 := constantI S_ 32 4294967295#32
  let main_v9 : IVec S_ 32 := andi main_c_0 main_c_2
  let main_v10 : IVec S_ 32 := id main_v9
  let main_v11 : IVec S1 32 := broadcastInDim S1 ![] bcast_S_S1 main_v10
  let main_v12 : IVec S2 32 := (fun a b => concatenate S2 0 [⟨S1, a⟩, ⟨S1, b⟩] concatenates_S1_S1_S2_d0) main_v8 main_v11
  let main_v13 : IVec S2x2 32 := fn_threefry_split (F := F) main_v12
  let main_v14 : IVec S1x2 32 := (extractStridedSlice S1x2 ![0, 0] · slices_S2x2_S1x2_0_0) main_v13
  let main_v15 : IVec S2 32 := shapeCast S2 main_v14 shapeCasts_S1x2_S2
  let main_v16 : IVec S1x2 32 := (extractStridedSlice S1x2 ![1, 0] · slices_S2x2_S1x2_1_0) main_v13
  let main_v17 : IVec S2 32 := shapeCast S2 main_v16 shapeCasts_S1x2_S2
  let main_v18 : IVec S1 32 := (extractStridedSlice S1 ![0] · slices_S2_S1_0) main_v15
  fn_part1 (F := F) main_v0 main_v5 main_v15 main_v17 main_v18
-- ==== Kernel.lean ====
abbrev S2048x128 : Shape := ⟨2, ![2048, 128]⟩
abbrev S128x128 : Shape := ⟨2, ![128, 128]⟩
abbrev S4194304 : Shape := ⟨1, ![4194304]⟩
abbrev S_ : Shape := ⟨0, ![]⟩
abbrev S2048x2048 : Shape := ⟨2, ![2048, 2048]⟩
abbrev S2048 : Shape := ⟨1, ![2048]⟩
abbrev S1x2048 : Shape := ⟨2, ![1, 2048]⟩
abbrev S1x4194304 : Shape := ⟨2, ![1, 4194304]⟩
abbrev S2x4194304 : Shape := ⟨2, ![2, 4194304]⟩
abbrev S1024x128 : Shape := ⟨2, ![1024, 128]⟩
abbrev S1024x2048 : Shape := ⟨2, ![1024, 2048]⟩
abbrev S2097152 : Shape := ⟨1, ![2097152]⟩

abbrev nBuf : Space → Nat
  | .hbm => 540
  | .vmem => 8
  | .smem => 0
  | _ => 0

abbrev hbmTy0_0 (i : Nat) : BufTy := match i % 128 with
  | 0 => ⟨S2048x128, .f32⟩
  | 1 => ⟨S128x128, .f32⟩
  | 2 => ⟨S4194304, .i32⟩
  | 3 => ⟨S_, .i32⟩
  | 4 => ⟨S4194304, .i32⟩
  | 5 => ⟨S_, .i32⟩
  | 6 => ⟨S4194304, .i32⟩
  | 7 => ⟨S4194304, .i32⟩
  | 8 => ⟨S4194304, .i32⟩
  | 9 => ⟨S_, .i32⟩
  | 10 => ⟨S4194304, .i32⟩
  | 11 => ⟨S4194304, .i32⟩
  | 12 => ⟨S_, .i32⟩
  | 13 => ⟨S4194304, .i32⟩
  | 14 => ⟨S4194304, .i32⟩
  | 15 => ⟨S4194304, .i32⟩
  | 16 => ⟨S4194304, .i32⟩
  | 17 => ⟨S4194304, .i32⟩
  | 18 => ⟨S_, .i32⟩
  | 19 => ⟨S4194304, .i32⟩
  | 20 => ⟨S4194304, .i32⟩
  | 21 => ⟨S_, .i32⟩
  | 22 => ⟨S4194304, .i32⟩
  | 23 => ⟨S4194304, .i32⟩
  | 24 => ⟨S4194304, .i32⟩
  | 25 => ⟨S4194304, .i32⟩
  | 26 => ⟨S4194304, .i32⟩
  | 27 => ⟨S_, .i32⟩
  | 28 => ⟨S4194304, .i32⟩
  | 29 => ⟨S4194304, .i32⟩
  | 30 => ⟨S_, .i32⟩
  | 31 => ⟨S4194304, .i32⟩
  | 32 => ⟨S4194304, .i32⟩
  | 33 => ⟨S4194304, .i32⟩
  | 34 => ⟨S4194304, .i32⟩
  | 35 => ⟨S4194304, .i32⟩
  | 36 => ⟨S_, .i32⟩
  | 37 => ⟨S4194304, .i32⟩
  | 38 => ⟨S4194304, .i32⟩
  | 39 => ⟨S_, .i32⟩
  | 40 => ⟨S4194304, .i32⟩
  | 41 => ⟨S4194304, .i32⟩
  | 42 => ⟨S4194304, .i32⟩
  | 43 => ⟨S4194304, .i32⟩
  | 44 => ⟨S_, .i32⟩
  | 45 => ⟨S4194304, .i32⟩
  | 46 => ⟨S4194304, .i32⟩
  | 47 => ⟨S_, .i32⟩
  | 48 => ⟨S4194304, .i32⟩
  | 49 => ⟨S4194304, .i32⟩
  | 50 => ⟨S_, .i32⟩
  | 51 => ⟨S4194304, .i32⟩
  | 52 => ⟨S4194304, .i32⟩
  | 53 => ⟨S4194304, .i32⟩
  | 54 => ⟨S_, .i32⟩
  | 55 => ⟨S4194304, .i32⟩
  | 56 => ⟨S4194304, .i32⟩
  | 57 => ⟨S_, .i32⟩
  | 58 => ⟨S4194304, .i32⟩
  | 59 => ⟨S4194304, .i32⟩
  | 60 => ⟨S4194304, .i32⟩
  | 61 => ⟨S4194304, .i32⟩
  | 62 => ⟨S4194304, .i32⟩
  | 63 => ⟨S_, .i32⟩
  | 64 => ⟨S4194304, .i32⟩
  | 65 => ⟨S4194304, .i32⟩
  | 66 => ⟨S_, .i32⟩
  | 67 => ⟨S4194304, .i32⟩
  | 68 => ⟨S4194304, .i32⟩
  | 69 => ⟨S4194304, .i32⟩
  | 70 => ⟨S4194304, .i32⟩
  | 71 => ⟨S4194304, .i32⟩
  | 72 => ⟨S_, .i32⟩
  | 73 => ⟨S4194304, .i32⟩
  | 74 => ⟨S4194304, .i32⟩
  | 75 => ⟨S_, .i32⟩
  | 76 => ⟨S4194304, .i32⟩
  | 77 => ⟨S4194304, .i32⟩
  | 78 => ⟨S4194304, .i32⟩
  | 79 => ⟨S4194304, .i32⟩
  | 80 => ⟨S4194304, .i32⟩
  | 81 => ⟨S_, .i32⟩
  | 82 => ⟨S4194304, .i32⟩
  | 83 => ⟨S4194304, .i32⟩
  | 84 => ⟨S_, .i32⟩
  | 85 => ⟨S4194304, .i32⟩
  | 86 => ⟨S4194304, .i32⟩
  | 87 => ⟨S4194304, .i32⟩
  | 88 => ⟨S4194304, .i32⟩
  | 89 => ⟨S_, .i32⟩
  | 90 => ⟨S4194304, .i32⟩
  | 91 => ⟨S4194304, .i32⟩
  | 92 => ⟨S_, .i32⟩
  | 93 => ⟨S4194304, .i32⟩
  | 94 => ⟨S4194304, .i32⟩
  | 95 => ⟨S_, .i32⟩
  | 96 => ⟨S4194304, .i32⟩
  | 97 => ⟨S4194304, .i32⟩
  | 98 => ⟨S4194304, .i32⟩
  | 99 => ⟨S_, .i32⟩
  | 100 => ⟨S4194304, .i32⟩
  | 101 => ⟨S4194304, .i32⟩
  | 102 => ⟨S_, .i32⟩
  | 103 => ⟨S4194304, .i32⟩
  | 104 => ⟨S4194304, .i32⟩
  | 105 => ⟨S4194304, .i32⟩
  | 106 => ⟨S4194304, .i32⟩
  | 107 => ⟨S4194304, .i32⟩
  | 108 => ⟨S_, .i32⟩
  | 109 => ⟨S4194304, .i32⟩
  | 110 => ⟨S4194304, .i32⟩
  | 111 => ⟨S_, .i32⟩
  | 112 => ⟨S4194304, .i32⟩
  | 113 => ⟨S4194304, .i32⟩
  | 114 => ⟨S4194304, .i32⟩
  | 115 => ⟨S4194304, .i32⟩
  | 116 => ⟨S4194304, .i32⟩
  | 117 => ⟨S_, .i32⟩
  | 118 => ⟨S4194304, .i32⟩
  | 119 => ⟨S4194304, .i32⟩
  | 120 => ⟨S_, .i32⟩
  | 121 => ⟨S4194304, .i32⟩
  | 122 => ⟨S4194304, .i32⟩
  | 123 => ⟨S4194304, .i32⟩
  | 124 => ⟨S4194304, .i32⟩
  | 125 => ⟨S4194304, .i32⟩
  | 126 => ⟨S_, .i32⟩
  | 127 => ⟨S4194304, .i32⟩
  | _ => ⟨S2048x128, .f32⟩

abbrev hbmTy0_1 (i : Nat) : BufTy := match i % 128 with
  | 0 => ⟨S4194304, .i32⟩
  | 1 => ⟨S_, .i32⟩
  | 2 => ⟨S4194304, .i32⟩
  | 3 => ⟨S4194304, .i32⟩
  | 4 => ⟨S4194304, .i32⟩
  | 5 => ⟨S4194304, .i32⟩
  | 6 => ⟨S_, .i32⟩
  | 7 => ⟨S4194304, .i32⟩
  | 8 => ⟨S4194304, .i32⟩
  | 9 => ⟨S_, .i32⟩
  | 10 => ⟨S4194304, .i32⟩
  | 11 => ⟨S4194304, .i32⟩
  | 12 => ⟨S_, .i32⟩
  | 13 => ⟨S4194304, .i32⟩
  | 14 => ⟨S4194304, .i32⟩
  | 15 => ⟨S4194304, .i32⟩
  | 16 => ⟨S_, .i32⟩
  | 17 => ⟨S4194304, .i32⟩
  | 18 => ⟨S4194304, .i32⟩
  | 19 => ⟨S_, .i32⟩
  | 20 => ⟨S4194304, .i32⟩
  | 21 => ⟨S4194304, .i32⟩
  | 22 => ⟨S4194304, .i32⟩
  | 23 => ⟨S4194304, .i32⟩
  | 24 => ⟨S4194304, .i32⟩
  | 25 => ⟨S_, .i32⟩
  | 26 => ⟨S4194304, .i32⟩
  | 27 => ⟨S4194304, .i32⟩
  | 28 => ⟨S_, .i32⟩
  | 29 => ⟨S4194304, .i32⟩
  | 30 => ⟨S4194304, .i32⟩
  | 31 => ⟨S4194304, .i32⟩
  | 32 => ⟨S4194304, .i32⟩
  | 33 => ⟨S4194304, .i32⟩
  | 34 => ⟨S_, .i32⟩
  | 35 => ⟨S4194304, .i32⟩
  | 36 => ⟨S4194304, .i32⟩
  | 37 => ⟨S_, .i32⟩
  | 38 => ⟨S4194304, .i32⟩
  | 39 => ⟨S4194304, .i32⟩
  | 40 => ⟨S4194304, .i32⟩
  | 41 => ⟨S4194304, .i32⟩
  | 42 => ⟨S4194304, .i32⟩
  | 43 => ⟨S_, .i32⟩
  | 44 => ⟨S4194304, .i32⟩
  | 45 => ⟨S4194304, .i32⟩
  | 46 => ⟨S_, .i32⟩
  | 47 => ⟨S4194304, .i32⟩
  | 48 => ⟨S4194304, .i32⟩
  | 49 => ⟨S4194304, .i32⟩
  | 50 => ⟨S4194304, .i32⟩
  | 51 => ⟨S_, .i32⟩
  | 52 => ⟨S4194304, .i32⟩
  | 53 => ⟨S4194304, .i32⟩
  | 54 => ⟨S_, .i32⟩
  | 55 => ⟨S4194304, .i32⟩
  | 56 => ⟨S4194304, .i32⟩
  | 57 => ⟨S_, .i32⟩
  | 58 => ⟨S4194304, .i32⟩
  | 59 => ⟨S4194304, .i32⟩
  | 60 => ⟨S4194304, .i32⟩
  | 61 => ⟨S_, .i32⟩
  | 62 => ⟨S4194304, .i32⟩
  | 63 => ⟨S4194304, .i32⟩
  | 64 => ⟨S_, .i32⟩
  | 65 => ⟨S4194304, .i32⟩
  | 66 => ⟨S4194304, .i32⟩
  | 67 => ⟨S4194304, .i32⟩
  | 68 => ⟨S4194304, .i32⟩
  | 69 => ⟨S4194304, .i32⟩
  | 70 => ⟨S_, .i32⟩
  | 71 => ⟨S4194304, .i32⟩
  | 72 => ⟨S4194304, .i32⟩
  | 73 => ⟨S_, .i32⟩
  | 74 => ⟨S4194304, .i32⟩
  | 75 => ⟨S4194304, .i32⟩
  | 76 => ⟨S4194304, .i32⟩
  | 77 => ⟨S4194304, .i32⟩
  | 78 => ⟨S4194304, .i32⟩
  | 79 => ⟨S_, .i32⟩
  | 80 => ⟨S4194304, .i32⟩
  | 81 => ⟨S4194304, .i32⟩
  | 82 => ⟨S_, .i32⟩
  | 83 => ⟨S4194304, .i32⟩
  | 84 => ⟨S4194304, .i32⟩
  | 85 => ⟨S4194304, .i32⟩
  | 86 => ⟨S4194304, .i32⟩
  | 87 => ⟨S4194304, .i32⟩
  | 88 => ⟨S_, .i32⟩
  | 89 => ⟨S4194304, .i32⟩
  | 90 => ⟨S4194304, .i32⟩
  | 91 => ⟨S_, .i32⟩
  | 92 => ⟨S4194304, .i32⟩
  | 93 => ⟨S4194304, .i32⟩
  | 94 => ⟨S4194304, .i32⟩
  | 95 => ⟨S4194304, .i32⟩
  | 96 => ⟨S_, .i32⟩
  | 97 => ⟨S4194304, .i32⟩
  | 98 => ⟨S4194304, .i32⟩
  | 99 => ⟨S_, .i32⟩
  | 100 => ⟨S4194304, .i32⟩
  | 101 => ⟨S4194304, .i32⟩
  | 102 => ⟨S_, .i32⟩
  | 103 => ⟨S4194304, .i32⟩
  | 104 => ⟨S4194304, .i32⟩
  | 105 => ⟨S4194304, .i32⟩
  | 106 => ⟨S_, .i32⟩
  | 107 => ⟨S4194304, .i32⟩
  | 108 => ⟨S4194304, .i32⟩
  | 109 => ⟨S_, .i32⟩
  | 110 => ⟨S4194304, .i32⟩
  | 111 => ⟨S4194304, .i32⟩
  | 112 => ⟨S4194304, .f32⟩
  | 113 => ⟨S_, .f32⟩
  | 114 => ⟨S4194304, .f32⟩
  | 115 => ⟨S4194304, .f32⟩
  | 116 => ⟨S_, .f32⟩
  | 117 => ⟨S4194304, .f32⟩
  | 118 => ⟨S4194304, .f32⟩
  | 119 => ⟨S_, .f32⟩
  | 120 => ⟨S4194304, .f32⟩
  | 121 => ⟨S4194304, .f32⟩
  | 122 => ⟨S_, .f32⟩
  | 123 => ⟨S4194304, .f32⟩
  | 124 => ⟨S4194304, .f32⟩
  | 125 => ⟨S2048x2048, .f32⟩
  | 126 => ⟨S4194304, .i32⟩
  | 127 => ⟨S_, .i32⟩
  | _ => ⟨S2048x128, .f32⟩

abbrev hbmTy0_2 (i : Nat) : BufTy := match i % 128 with
  | 0 => ⟨S4194304, .i32⟩
  | 1 => ⟨S_, .i32⟩
  | 2 => ⟨S4194304, .i32⟩
  | 3 => ⟨S4194304, .i32⟩
  | 4 => ⟨S4194304, .i32⟩
  | 5 => ⟨S_, .i32⟩
  | 6 => ⟨S4194304, .i32⟩
  | 7 => ⟨S4194304, .i32⟩
  | 8 => ⟨S_, .i32⟩
  | 9 => ⟨S4194304, .i32⟩
  | 10 => ⟨S4194304, .i32⟩
  | 11 => ⟨S4194304, .i32⟩
  | 12 => ⟨S4194304, .i32⟩
  | 13 => ⟨S4194304, .i32⟩
  | 14 => ⟨S_, .i32⟩
  | 15 => ⟨S4194304, .i32⟩
  | 16 => ⟨S4194304, .i32⟩
  | 17 => ⟨S_, .i32⟩
  | 18 => ⟨S4194304, .i32⟩
  | 19 => ⟨S4194304, .i32⟩
  | 20 => ⟨S4194304, .i32⟩
  | 21 => ⟨S4194304, .i32⟩
  | 22 => ⟨S4194304, .i32⟩
  | 23 => ⟨S_, .i32⟩
  | 24 => ⟨S4194304, .i32⟩
  | 25 => ⟨S4194304, .i32⟩
  | 26 => ⟨S_, .i32⟩
  | 27 => ⟨S4194304, .i32⟩
  | 28 => ⟨S4194304, .i32⟩
  | 29 => ⟨S4194304, .i32⟩
  | 30 => ⟨S4194304, .i32⟩
  | 31 => ⟨S4194304, .i32⟩
  | 32 => ⟨S_, .i32⟩
  | 33 => ⟨S4194304, .i32⟩
  | 34 => ⟨S4194304, .i32⟩
  | 35 => ⟨S_, .i32⟩
  | 36 => ⟨S4194304, .i32⟩
  | 37 => ⟨S4194304, .i32⟩
  | 38 => ⟨S4194304, .i32⟩
  | 39 => ⟨S4194304, .i32⟩
  | 40 => ⟨S_, .i32⟩
  | 41 => ⟨S4194304, .i32⟩
  | 42 => ⟨S4194304, .i32⟩
  | 43 => ⟨S_, .i32⟩
  | 44 => ⟨S4194304, .i32⟩
  | 45 => ⟨S4194304, .i32⟩
  | 46 => ⟨S_, .i32⟩
  | 47 => ⟨S4194304, .i32⟩
  | 48 => ⟨S4194304, .i32⟩
  | 49 => ⟨S4194304, .i32⟩
  | 50 => ⟨S_, .i32⟩
  | 51 => ⟨S4194304, .i32⟩
  | 52 => ⟨S4194304, .i32⟩
  | 53 => ⟨S_, .i32⟩
  | 54 => ⟨S4194304, .i32⟩
  | 55 => ⟨S4194304, .i32⟩
  | 56 => ⟨S4194304, .i32⟩
  | 57 => ⟨S4194304, .i32⟩
  | 58 => ⟨S4194304, .i32⟩
  | 59 => ⟨S_, .i32⟩
  | 60 => ⟨S4194304, .i32⟩
  | 61 => ⟨S4194304, .i32⟩
  | 62 => ⟨S_, .i32⟩
  | 63 => ⟨S4194304, .i32⟩
  | 64 => ⟨S4194304, .i32⟩
  | 65 => ⟨S4194304, .i32⟩
  | 66 => ⟨S4194304, .i32⟩
  | 67 => ⟨S4194304, .i32⟩
  | 68 => ⟨S_, .i32⟩
  | 69 => ⟨S4194304, .i32⟩
  | 70 => ⟨S4194304, .i32⟩
  | 71 => ⟨S_, .i32⟩
  | 72 => ⟨S4194304, .i32⟩
  | 73 => ⟨S4194304, .i32⟩
  | 74 => ⟨S4194304, .i32⟩
  | 75 => ⟨S4194304, .i32⟩
  | 76 => ⟨S4194304, .i32⟩
  | 77 => ⟨S_, .i32⟩
  | 78 => ⟨S4194304, .i32⟩
  | 79 => ⟨S4194304, .i32⟩
  | 80 => ⟨S_, .i32⟩
  | 81 => ⟨S4194304, .i32⟩
  | 82 => ⟨S4194304, .i32⟩
  | 83 => ⟨S4194304, .i32⟩
  | 84 => ⟨S4194304, .i32⟩
  | 85 => ⟨S_, .i32⟩
  | 86 => ⟨S4194304, .i32⟩
  | 87 => ⟨S4194304, .i32⟩
  | 88 => ⟨S_, .i32⟩
  | 89 => ⟨S4194304, .i32⟩
  | 90 => ⟨S4194304, .i32⟩
  | 91 => ⟨S_, .i32⟩
  | 92 => ⟨S4194304, .i32⟩
  | 93 => ⟨S4194304, .i32⟩
  | 94 => ⟨S4194304, .i32⟩
  | 95 => ⟨S_, .i32⟩
  | 96 => ⟨S4194304, .i32⟩
  | 97 => ⟨S4194304, .i32⟩
  | 98 => ⟨S_, .i32⟩
  | 99 => ⟨S4194304, .i32⟩
  | 100 => ⟨S4194304, .i32⟩
  | 101 => ⟨S4194304, .i32⟩
  | 102 => ⟨S4194304, .i32⟩
  | 103 => ⟨S4194304, .i32⟩
  | 104 => ⟨S_, .i32⟩
  | 105 => ⟨S4194304, .i32⟩
  | 106 => ⟨S4194304, .i32⟩
  | 107 => ⟨S_, .i32⟩
  | 108 => ⟨S4194304, .i32⟩
  | 109 => ⟨S4194304, .i32⟩
  | 110 => ⟨S4194304, .i32⟩
  | 111 => ⟨S4194304, .i32⟩
  | 112 => ⟨S4194304, .i32⟩
  | 113 => ⟨S_, .i32⟩
  | 114 => ⟨S4194304, .i32⟩
  | 115 => ⟨S4194304, .i32⟩
  | 116 => ⟨S_, .i32⟩
  | 117 => ⟨S4194304, .i32⟩
  | 118 => ⟨S4194304, .i32⟩
  | 119 => ⟨S4194304, .i32⟩
  | 120 => ⟨S4194304, .i32⟩
  | 121 => ⟨S4194304, .i32⟩
  | 122 => ⟨S_, .i32⟩
  | 123 => ⟨S4194304, .i32⟩
  | 124 => ⟨S4194304, .i32⟩
  | 125 => ⟨S_, .i32⟩
  | 126 => ⟨S4194304, .i32⟩
  | 127 => ⟨S4194304, .i32⟩
  | _ => ⟨S2048x128, .f32⟩

abbrev hbmTy0_3 (i : Nat) : BufTy := match i % 128 with
  | 0 => ⟨S4194304, .i32⟩
  | 1 => ⟨S4194304, .i32⟩
  | 2 => ⟨S_, .i32⟩
  | 3 => ⟨S4194304, .i32⟩
  | 4 => ⟨S4194304, .i32⟩
  | 5 => ⟨S_, .i32⟩
  | 6 => ⟨S4194304, .i32⟩
  | 7 => ⟨S4194304, .i32⟩
  | 8 => ⟨S_, .i32⟩
  | 9 => ⟨S4194304, .i32⟩
  | 10 => ⟨S4194304, .i32⟩
  | 11 => ⟨S4194304, .i32⟩
  | 12 => ⟨S_, .i32⟩
  | 13 => ⟨S4194304, .i32⟩
  | 14 => ⟨S4194304, .i32⟩
  | 15 => ⟨S_, .i32⟩
  | 16 => ⟨S4194304, .i32⟩
  | 17 => ⟨S4194304, .i32⟩
  | 18 => ⟨S4194304, .i32⟩
  | 19 => ⟨S4194304, .i32⟩
  | 20 => ⟨S4194304, .i32⟩
  | 21 => ⟨S_, .i32⟩
  | 22 => ⟨S4194304, .i32⟩
  | 23 => ⟨S4194304, .i32⟩
  | 24 => ⟨S_, .i32⟩
  | 25 => ⟨S4194304, .i32⟩
  | 26 => ⟨S4194304, .i32⟩
  | 27 => ⟨S4194304, .i32⟩
  | 28 => ⟨S4194304, .i32⟩
  | 29 => ⟨S4194304, .i32⟩
  | 30 => ⟨S_, .i32⟩
  | 31 => ⟨S4194304, .i32⟩
  | 32 => ⟨S4194304, .i32⟩
  | 33 => ⟨S_, .i32⟩
  | 34 => ⟨S4194304, .i32⟩
  | 35 => ⟨S4194304, .i32⟩
  | 36 => ⟨S4194304, .i32⟩
  | 37 => ⟨S4194304, .i32⟩
  | 38 => ⟨S4194304, .i32⟩
  | 39 => ⟨S_, .i32⟩
  | 40 => ⟨S4194304, .i32⟩
  | 41 => ⟨S4194304, .i32⟩
  | 42 => ⟨S_, .i32⟩
  | 43 => ⟨S4194304, .i32⟩
  | 44 => ⟨S4194304, .i32⟩
  | 45 => ⟨S4194304, .i32⟩
  | 46 => ⟨S4194304, .i32⟩
  | 47 => ⟨S_, .i32⟩
  | 48 => ⟨S4194304, .i32⟩
  | 49 => ⟨S4194304, .i32⟩
  | 50 => ⟨S_, .i32⟩
  | 51 => ⟨S4194304, .i32⟩
  | 52 => ⟨S4194304, .i32⟩
  | 53 => ⟨S_, .i32⟩
  | 54 => ⟨S4194304, .i32⟩
  | 55 => ⟨S4194304, .i32⟩
  | 56 => ⟨S4194304, .i32⟩
  | 57 => ⟨S_, .i32⟩
  | 58 => ⟨S4194304, .i32⟩
  | 59 => ⟨S4194304, .i32⟩
  | 60 => ⟨S_, .i32⟩
  | 61 => ⟨S4194304, .i32⟩
  | 62 => ⟨S4194304, .i32⟩
  | 63 => ⟨S4194304, .i32⟩
  | 64 => ⟨S4194304, .i32⟩
  | 65 => ⟨S4194304, .i32⟩
  | 66 => ⟨S_, .i32⟩
  | 67 => ⟨S4194304, .i32⟩
  | 68 => ⟨S4194304, .i32⟩
  | 69 => ⟨S_, .i32⟩
  | 70 => ⟨S4194304, .i32⟩
  | 71 => ⟨S4194304, .i32⟩
  | 72 => ⟨S4194304, .i32⟩
  | 73 => ⟨S4194304, .i32⟩
  | 74 => ⟨S4194304, .i32⟩
  | 75 => ⟨S_, .i32⟩
  | 76 => ⟨S4194304, .i32⟩
  | 77 => ⟨S4194304, .i32⟩
  | 78 => ⟨S_, .i32⟩
  | 79 => ⟨S4194304, .i32⟩
  | 80 => ⟨S4194304, .i32⟩
  | 81 => ⟨S4194304, .i32⟩
  | 82 => ⟨S4194304, .i32⟩
  | 83 => ⟨S4194304, .i32⟩
  | 84 => ⟨S_, .i32⟩
  | 85 => ⟨S4194304, .i32⟩
  | 86 => ⟨S4194304, .i32⟩
  | 87 => ⟨S_, .i32⟩
  | 88 => ⟨S4194304, .i32⟩
  | 89 => ⟨S4194304, .i32⟩
  | 90 => ⟨S4194304, .i32⟩
  | 91 => ⟨S4194304, .i32⟩
  | 92 => ⟨S_, .i32⟩
  | 93 => ⟨S4194304, .i32⟩
  | 94 => ⟨S4194304, .i32⟩
  | 95 => ⟨S_, .i32⟩
  | 96 => ⟨S4194304, .i32⟩
  | 97 => ⟨S4194304, .i32⟩
  | 98 => ⟨S_, .i32⟩
  | 99 => ⟨S4194304, .i32⟩
  | 100 => ⟨S4194304, .i32⟩
  | 101 => ⟨S4194304, .i32⟩
  | 102 => ⟨S_, .i32⟩
  | 103 => ⟨S4194304, .i32⟩
  | 104 => ⟨S4194304, .i32⟩
  | 105 => ⟨S_, .i32⟩
  | 106 => ⟨S4194304, .i32⟩
  | 107 => ⟨S4194304, .i32⟩
  | 108 => ⟨S4194304, .f32⟩
  | 109 => ⟨S_, .f32⟩
  | 110 => ⟨S4194304, .f32⟩
  | 111 => ⟨S4194304, .f32⟩
  | 112 => ⟨S_, .f32⟩
  | 113 => ⟨S4194304, .f32⟩
  | 114 => ⟨S4194304, .f32⟩
  | 115 => ⟨S_, .f32⟩
  | 116 => ⟨S4194304, .f32⟩
  | 117 => ⟨S4194304, .f32⟩
  | 118 => ⟨S_, .f32⟩
  | 119 => ⟨S4194304, .f32⟩
  | 120 => ⟨S4194304, .f32⟩
  | 121 => ⟨S2048x2048, .f32⟩
  | 122 => ⟨S2048x2048, .f32⟩
  | 123 => ⟨S2048x2048, .f32⟩
  | 124 => ⟨S2048x2048, .f32⟩
  | 125 => ⟨S2048x2048, .f32⟩
  | 126 => ⟨S2048x2048, .f32⟩
  | 127 => ⟨S2048x2048, .f32⟩
  | _ => ⟨S2048x128, .f32⟩

abbrev hbmTy0_4 (i : Nat) : BufTy := match i % 128 with
  | 0 => ⟨S2048x2048, .f32⟩
  | 1 => ⟨S2048x2048, .f32⟩
  | 2 => ⟨S2048x2048, .f32⟩
  | 3 => ⟨S_, .f32⟩
  | 4 => ⟨S2048x2048, .f32⟩
  | 5 => ⟨S2048x2048, .f32⟩
  | 6 => ⟨S2048x2048, .f32⟩
  | 7 => ⟨S_, .i32⟩
  | 8 => ⟨S_, .i32⟩
  | 9 => ⟨S_, .f32⟩
  | 10 => ⟨S2048x2048, .f32⟩
  | 11 => ⟨S2048x2048, .f32⟩
  | 12 => ⟨S_, .f32⟩
  | 13 => ⟨S2048x2048, .f32⟩
  | 14 => ⟨S2048x2048, .f32⟩
  | 15 => ⟨S2048x2048, .i32⟩
  | 16 => ⟨S2048x2048, .i16⟩
  | 17 => ⟨S2048, .i32⟩
  | 18 => ⟨S2048x2048, .i32⟩
  | 19 => ⟨S4194304, .i32⟩
  | 20 => ⟨S2048, .i32⟩
  | 21 => ⟨S1x2048, .i32⟩
  | 22 => ⟨S2048x2048, .i32⟩
  | 23 => ⟨S4194304, .i32⟩
  | 24 => ⟨S1x4194304, .i32⟩
  | 25 => ⟨S1x4194304, .i32⟩
  | 26 => ⟨S2x4194304, .i32⟩
  | 27 => ⟨S4194304, .f32⟩
  | _ => ⟨S2048x128, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | _ => ⟨S2048x128, .f32⟩

abbrev bufTy : (tb : Table) → Fin (tcTables nBuf tb) → BufTy
  | .hbm, ⟨i, _⟩ => hbmTy i
  | .local _ .vmem, ⟨0, _⟩ => ⟨S1024x128, .f32⟩
  | .local _ .vmem, ⟨1, _⟩ => ⟨S1024x128, .f32⟩
  | .local _ .vmem, ⟨2, _⟩ => ⟨S128x128, .f32⟩
  | .local _ .vmem, ⟨3, _⟩ => ⟨S2048x128, .f32⟩
  | .local _ .vmem, ⟨4, _⟩ => ⟨S1024x2048, .i16⟩
  | .local _ .vmem, ⟨5, _⟩ => ⟨S1024x2048, .i16⟩
  | .local _ .vmem, ⟨6, _⟩ => ⟨S2097152, .f32⟩
  | .local _ .vmem, ⟨7, _⟩ => ⟨S2097152, .f32⟩
  | _, _ => ⟨S2048x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_c : Ref sig .tc := ⟨.hbm, 3, rfl⟩
abbrev main_v1 : Ref sig .tc := ⟨.hbm, 4, rfl⟩
abbrev main_c_0 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_c_1 : Ref sig .tc := ⟨.hbm, 9, rfl⟩
abbrev main_v5 : Ref sig .tc := ⟨.hbm, 10, rfl⟩
abbrev main_v6 : Ref sig .tc := ⟨.hbm, 11, rfl⟩
abbrev main_c_2 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_c_3 : Ref sig .tc := ⟨.hbm, 18, rfl⟩
abbrev main_v12 : Ref sig .tc := ⟨.hbm, 19, rfl⟩
abbrev main_v13 : Ref sig .tc := ⟨.hbm, 20, rfl⟩
abbrev main_c_4 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_c_5 : Ref sig .tc := ⟨.hbm, 27, rfl⟩
abbrev main_v19 : Ref sig .tc := ⟨.hbm, 28, rfl⟩
abbrev main_v20 : Ref sig .tc := ⟨.hbm, 29, rfl⟩
abbrev main_c_6 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_c_7 : Ref sig .tc := ⟨.hbm, 36, rfl⟩
abbrev main_v26 : Ref sig .tc := ⟨.hbm, 37, rfl⟩
abbrev main_v27 : Ref sig .tc := ⟨.hbm, 38, rfl⟩
abbrev main_c_8 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_c_9 : Ref sig .tc := ⟨.hbm, 44, rfl⟩
abbrev main_v32 : Ref sig .tc := ⟨.hbm, 45, rfl⟩
abbrev main_v33 : Ref sig .tc := ⟨.hbm, 46, rfl⟩
abbrev main_c_10 : Ref sig .tc := ⟨.hbm, 47, rfl⟩
abbrev main_v34 : Ref sig .tc := ⟨.hbm, 48, rfl⟩
abbrev main_v35 : Ref sig .tc := ⟨.hbm, 49, rfl⟩
abbrev main_c_11 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_c_12 : Ref sig .tc := ⟨.hbm, 54, rfl⟩
abbrev main_v39 : Ref sig .tc := ⟨.hbm, 55, rfl⟩
abbrev main_v40 : Ref sig .tc := ⟨.hbm, 56, rfl⟩
abbrev main_c_13 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_c_14 : Ref sig .tc := ⟨.hbm, 63, rfl⟩
abbrev main_v46 : Ref sig .tc := ⟨.hbm, 64, rfl⟩
abbrev main_v47 : Ref sig .tc := ⟨.hbm, 65, rfl⟩
abbrev main_c_15 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_c_16 : Ref sig .tc := ⟨.hbm, 72, rfl⟩
abbrev main_v53 : Ref sig .tc := ⟨.hbm, 73, rfl⟩
abbrev main_v54 : Ref sig .tc := ⟨.hbm, 74, rfl⟩
abbrev main_c_17 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_c_18 : Ref sig .tc := ⟨.hbm, 81, rfl⟩
abbrev main_v60 : Ref sig .tc := ⟨.hbm, 82, rfl⟩
abbrev main_v61 : Ref sig .tc := ⟨.hbm, 83, rfl⟩
abbrev main_c_19 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_c_20 : Ref sig .tc := ⟨.hbm, 89, rfl⟩
abbrev main_v66 : Ref sig .tc := ⟨.hbm, 90, rfl⟩
abbrev main_v67 : Ref sig .tc := ⟨.hbm, 91, rfl⟩
abbrev main_c_21 : Ref sig .tc := ⟨.hbm, 92, rfl⟩
abbrev main_v68 : Ref sig .tc := ⟨.hbm, 93, rfl⟩
abbrev main_v69 : Ref sig .tc := ⟨.hbm, 94, rfl⟩
abbrev main_c_22 : Ref sig .tc := ⟨.hbm, 95, rfl⟩
abbrev main_v70 : Ref sig .tc := ⟨.hbm, 96, rfl⟩
abbrev main_v71 : Ref sig .tc := ⟨.hbm, 97, rfl⟩
abbrev main_v72 : Ref sig .tc := ⟨.hbm, 98, rfl⟩
abbrev main_c_23 : Ref sig .tc := ⟨.hbm, 99, rfl⟩
abbrev main_v73 : Ref sig .tc := ⟨.hbm, 100, rfl⟩
abbrev main_v74 : Ref sig .tc := ⟨.hbm, 101, rfl⟩
abbrev main_c_24 : Ref sig .tc := ⟨.hbm, 102, rfl⟩
abbrev main_v75 : Ref sig .tc := ⟨.hbm, 103, rfl⟩
abbrev main_v76 : Ref sig .tc := ⟨.hbm, 104, rfl⟩
abbrev main_v77 : Ref sig .tc := ⟨.hbm, 105, rfl⟩
abbrev main_v78 : Ref sig .tc := ⟨.hbm, 106, rfl⟩
abbrev main_v79 : Ref sig .tc := ⟨.hbm, 107, rfl⟩
abbrev main_c_25 : Ref sig .tc := ⟨.hbm, 108, rfl⟩
abbrev main_v80 : Ref sig .tc := ⟨.hbm, 109, rfl⟩
abbrev main_v81 : Ref sig .tc := ⟨.hbm, 110, rfl⟩
abbrev main_c_26 : Ref sig .tc := ⟨.hbm, 111, rfl⟩
abbrev main_v82 : Ref sig .tc := ⟨.hbm, 112, rfl⟩
abbrev main_v83 : Ref sig .tc := ⟨.hbm, 113, rfl⟩
abbrev main_v84 : Ref sig .tc := ⟨.hbm, 114, rfl⟩
abbrev main_v85 : Ref sig .tc := ⟨.hbm, 115, rfl⟩
abbrev main_v86 : Ref sig .tc := ⟨.hbm, 116, rfl⟩
abbrev main_c_27 : Ref sig .tc := ⟨.hbm, 117, rfl⟩
abbrev main_v87 : Ref sig .tc := ⟨.hbm, 118, rfl⟩
abbrev main_v88 : Ref sig .tc := ⟨.hbm, 119, rfl⟩
abbrev main_c_28 : Ref sig .tc := ⟨.hbm, 120, rfl⟩
abbrev main_v89 : Ref sig .tc := ⟨.hbm, 121, rfl⟩
abbrev main_v90 : Ref sig .tc := ⟨.hbm, 122, rfl⟩
abbrev main_v91 : Ref sig .tc := ⟨.hbm, 123, rfl⟩
abbrev main_v92 : Ref sig .tc := ⟨.hbm, 124, rfl⟩
abbrev main_v93 : Ref sig .tc := ⟨.hbm, 125, rfl⟩
abbrev main_c_29 : Ref sig .tc := ⟨.hbm, 126, rfl⟩
abbrev main_v94 : Ref sig .tc := ⟨.hbm, 127, rfl⟩
abbrev main_v95 : Ref sig .tc := ⟨.hbm, 128, rfl⟩
abbrev main_c_30 : Ref sig .tc := ⟨.hbm, 129, rfl⟩
abbrev main_v96 : Ref sig .tc := ⟨.hbm, 130, rfl⟩
abbrev main_v97 : Ref sig .tc := ⟨.hbm, 131, rfl⟩
abbrev main_v98 : Ref sig .tc := ⟨.hbm, 132, rfl⟩
abbrev main_v99 : Ref sig .tc := ⟨.hbm, 133, rfl⟩
abbrev main_c_31 : Ref sig .tc := ⟨.hbm, 134, rfl⟩
abbrev main_v100 : Ref sig .tc := ⟨.hbm, 135, rfl⟩
abbrev main_v101 : Ref sig .tc := ⟨.hbm, 136, rfl⟩
abbrev main_c_32 : Ref sig .tc := ⟨.hbm, 137, rfl⟩
abbrev main_v102 : Ref sig .tc := ⟨.hbm, 138, rfl⟩
abbrev main_v103 : Ref sig .tc := ⟨.hbm, 139, rfl⟩
abbrev main_c_33 : Ref sig .tc := ⟨.hbm, 140, rfl⟩
abbrev main_v104 : Ref sig .tc := ⟨.hbm, 141, rfl⟩
abbrev main_v105 : Ref sig .tc := ⟨.hbm, 142, rfl⟩
abbrev main_v106 : Ref sig .tc := ⟨.hbm, 143, rfl⟩
abbrev main_c_34 : Ref sig .tc := ⟨.hbm, 144, rfl⟩
abbrev main_v107 : Ref sig .tc := ⟨.hbm, 145, rfl⟩
abbrev main_v108 : Ref sig .tc := ⟨.hbm, 146, rfl⟩
abbrev main_c_35 : Ref sig .tc := ⟨.hbm, 147, rfl⟩
abbrev main_v109 : Ref sig .tc := ⟨.hbm, 148, rfl⟩
abbrev main_v110 : Ref sig .tc := ⟨.hbm, 149, rfl⟩
abbrev main_v111 : Ref sig .tc := ⟨.hbm, 150, rfl⟩
abbrev main_v112 : Ref sig .tc := ⟨.hbm, 151, rfl⟩
abbrev main_v113 : Ref sig .tc := ⟨.hbm, 152, rfl⟩
abbrev main_c_36 : Ref sig .tc := ⟨.hbm, 153, rfl⟩
abbrev main_v114 : Ref sig .tc := ⟨.hbm, 154, rfl⟩
abbrev main_v115 : Ref sig .tc := ⟨.hbm, 155, rfl⟩
abbrev main_c_37 : Ref sig .tc := ⟨.hbm, 156, rfl⟩
abbrev main_v116 : Ref sig .tc := ⟨.hbm, 157, rfl⟩
abbrev main_v117 : Ref sig .tc := ⟨.hbm, 158, rfl⟩
abbrev main_v118 : Ref sig .tc := ⟨.hbm, 159, rfl⟩
abbrev main_v119 : Ref sig .tc := ⟨.hbm, 160, rfl⟩
abbrev main_v120 : Ref sig .tc := ⟨.hbm, 161, rfl⟩
abbrev main_c_38 : Ref sig .tc := ⟨.hbm, 162, rfl⟩
abbrev main_v121 : Ref sig .tc := ⟨.hbm, 163, rfl⟩
abbrev main_v122 : Ref sig .tc := ⟨.hbm, 164, rfl⟩
abbrev main_c_39 : Ref sig .tc := ⟨.hbm, 165, rfl⟩
abbrev main_v123 : Ref sig .tc := ⟨.hbm, 166, rfl⟩
abbrev main_v124 : Ref sig .tc := ⟨.hbm, 167, rfl⟩
abbrev main_v125 : Ref sig .tc := ⟨.hbm, 168, rfl⟩
abbrev main_v126 : Ref sig .tc := ⟨.hbm, 169, rfl⟩
abbrev main_v127 : Ref sig .tc := ⟨.hbm, 170, rfl⟩
abbrev main_c_40 : Ref sig .tc := ⟨.hbm, 171, rfl⟩
abbrev main_v128 : Ref sig .tc := ⟨.hbm, 172, rfl⟩
abbrev main_v129 : Ref sig .tc := ⟨.hbm, 173, rfl⟩
abbrev main_c_41 : Ref sig .tc := ⟨.hbm, 174, rfl⟩
abbrev main_v130 : Ref sig .tc := ⟨.hbm, 175, rfl⟩
abbrev main_v131 : Ref sig .tc := ⟨.hbm, 176, rfl⟩
abbrev main_v132 : Ref sig .tc := ⟨.hbm, 177, rfl⟩
abbrev main_v133 : Ref sig .tc := ⟨.hbm, 178, rfl⟩
abbrev main_c_42 : Ref sig .tc := ⟨.hbm, 179, rfl⟩
abbrev main_v134 : Ref sig .tc := ⟨.hbm, 180, rfl⟩
abbrev main_v135 : Ref sig .tc := ⟨.hbm, 181, rfl⟩
abbrev main_c_43 : Ref sig .tc := ⟨.hbm, 182, rfl⟩
abbrev main_v136 : Ref sig .tc := ⟨.hbm, 183, rfl⟩
abbrev main_v137 : Ref sig .tc := ⟨.hbm, 184, rfl⟩
abbrev main_c_44 : Ref sig .tc := ⟨.hbm, 185, rfl⟩
abbrev main_v138 : Ref sig .tc := ⟨.hbm, 186, rfl⟩
abbrev main_v139 : Ref sig .tc := ⟨.hbm, 187, rfl⟩
abbrev main_v140 : Ref sig .tc := ⟨.hbm, 188, rfl⟩
abbrev main_c_45 : Ref sig .tc := ⟨.hbm, 189, rfl⟩
abbrev main_v141 : Ref sig .tc := ⟨.hbm, 190, rfl⟩
abbrev main_v142 : Ref sig .tc := ⟨.hbm, 191, rfl⟩
abbrev main_c_46 : Ref sig .tc := ⟨.hbm, 192, rfl⟩
abbrev main_v143 : Ref sig .tc := ⟨.hbm, 193, rfl⟩
abbrev main_v144 : Ref sig .tc := ⟨.hbm, 194, rfl⟩
abbrev main_v145 : Ref sig .tc := ⟨.hbm, 195, rfl⟩
abbrev main_v146 : Ref sig .tc := ⟨.hbm, 196, rfl⟩
abbrev main_v147 : Ref sig .tc := ⟨.hbm, 197, rfl⟩
abbrev main_c_47 : Ref sig .tc := ⟨.hbm, 198, rfl⟩
abbrev main_v148 : Ref sig .tc := ⟨.hbm, 199, rfl⟩
abbrev main_v149 : Ref sig .tc := ⟨.hbm, 200, rfl⟩
abbrev main_c_48 : Ref sig .tc := ⟨.hbm, 201, rfl⟩
abbrev main_v150 : Ref sig .tc := ⟨.hbm, 202, rfl⟩
abbrev main_v151 : Ref sig .tc := ⟨.hbm, 203, rfl⟩
abbrev main_v152 : Ref sig .tc := ⟨.hbm, 204, rfl⟩
abbrev main_v153 : Ref sig .tc := ⟨.hbm, 205, rfl⟩
abbrev main_v154 : Ref sig .tc := ⟨.hbm, 206, rfl⟩
abbrev main_c_49 : Ref sig .tc := ⟨.hbm, 207, rfl⟩
abbrev main_v155 : Ref sig .tc := ⟨.hbm, 208, rfl⟩
abbrev main_v156 : Ref sig .tc := ⟨.hbm, 209, rfl⟩
abbrev main_c_50 : Ref sig .tc := ⟨.hbm, 210, rfl⟩
abbrev main_v157 : Ref sig .tc := ⟨.hbm, 211, rfl⟩
abbrev main_v158 : Ref sig .tc := ⟨.hbm, 212, rfl⟩
abbrev main_v159 : Ref sig .tc := ⟨.hbm, 213, rfl⟩
abbrev main_v160 : Ref sig .tc := ⟨.hbm, 214, rfl⟩
abbrev main_v161 : Ref sig .tc := ⟨.hbm, 215, rfl⟩
abbrev main_c_51 : Ref sig .tc := ⟨.hbm, 216, rfl⟩
abbrev main_v162 : Ref sig .tc := ⟨.hbm, 217, rfl⟩
abbrev main_v163 : Ref sig .tc := ⟨.hbm, 218, rfl⟩
abbrev main_c_52 : Ref sig .tc := ⟨.hbm, 219, rfl⟩
abbrev main_v164 : Ref sig .tc := ⟨.hbm, 220, rfl⟩
abbrev main_v165 : Ref sig .tc := ⟨.hbm, 221, rfl⟩
abbrev main_v166 : Ref sig .tc := ⟨.hbm, 222, rfl⟩
abbrev main_v167 : Ref sig .tc := ⟨.hbm, 223, rfl⟩
abbrev main_c_53 : Ref sig .tc := ⟨.hbm, 224, rfl⟩
abbrev main_v168 : Ref sig .tc := ⟨.hbm, 225, rfl⟩
abbrev main_v169 : Ref sig .tc := ⟨.hbm, 226, rfl⟩
abbrev main_c_54 : Ref sig .tc := ⟨.hbm, 227, rfl⟩
abbrev main_v170 : Ref sig .tc := ⟨.hbm, 228, rfl⟩
abbrev main_v171 : Ref sig .tc := ⟨.hbm, 229, rfl⟩
abbrev main_c_55 : Ref sig .tc := ⟨.hbm, 230, rfl⟩
abbrev main_v172 : Ref sig .tc := ⟨.hbm, 231, rfl⟩
abbrev main_v173 : Ref sig .tc := ⟨.hbm, 232, rfl⟩
abbrev main_v174 : Ref sig .tc := ⟨.hbm, 233, rfl⟩
abbrev main_c_56 : Ref sig .tc := ⟨.hbm, 234, rfl⟩
abbrev main_v175 : Ref sig .tc := ⟨.hbm, 235, rfl⟩
abbrev main_v176 : Ref sig .tc := ⟨.hbm, 236, rfl⟩
abbrev main_c_57 : Ref sig .tc := ⟨.hbm, 237, rfl⟩
abbrev main_v177 : Ref sig .tc := ⟨.hbm, 238, rfl⟩
abbrev main_v178 : Ref sig .tc := ⟨.hbm, 239, rfl⟩
abbrev main_v179 : Ref sig .tc := ⟨.hbm, 240, rfl⟩
abbrev main_cst : Ref sig .tc := ⟨.hbm, 241, rfl⟩
abbrev main_v180 : Ref sig .tc := ⟨.hbm, 242, rfl⟩
abbrev main_v181 : Ref sig .tc := ⟨.hbm, 243, rfl⟩
abbrev main_cst_58 : Ref sig .tc := ⟨.hbm, 244, rfl⟩
abbrev main_v182 : Ref sig .tc := ⟨.hbm, 245, rfl⟩
abbrev main_v183 : Ref sig .tc := ⟨.hbm, 246, rfl⟩
abbrev main_cst_59 : Ref sig .tc := ⟨.hbm, 247, rfl⟩
abbrev main_v184 : Ref sig .tc := ⟨.hbm, 248, rfl⟩
abbrev main_v185 : Ref sig .tc := ⟨.hbm, 249, rfl⟩
abbrev main_cst_60 : Ref sig .tc := ⟨.hbm, 250, rfl⟩
abbrev main_v186 : Ref sig .tc := ⟨.hbm, 251, rfl⟩
abbrev main_v187 : Ref sig .tc := ⟨.hbm, 252, rfl⟩
abbrev main_v188 : Ref sig .tc := ⟨.hbm, 253, rfl⟩
abbrev main_v189 : Ref sig .tc := ⟨.hbm, 254, rfl⟩
abbrev main_c_61 : Ref sig .tc := ⟨.hbm, 255, rfl⟩
abbrev main_v190 : Ref sig .tc := ⟨.hbm, 256, rfl⟩
abbrev main_c_62 : Ref sig .tc := ⟨.hbm, 257, rfl⟩
abbrev main_v191 : Ref sig .tc := ⟨.hbm, 258, rfl⟩
abbrev main_v192 : Ref sig .tc := ⟨.hbm, 259, rfl⟩
abbrev main_v193 : Ref sig .tc := ⟨.hbm, 260, rfl⟩
abbrev main_c_63 : Ref sig .tc := ⟨.hbm, 261, rfl⟩
abbrev main_v194 : Ref sig .tc := ⟨.hbm, 262, rfl⟩
abbrev main_v195 : Ref sig .tc := ⟨.hbm, 263, rfl⟩
abbrev main_c_64 : Ref sig .tc := ⟨.hbm, 264, rfl⟩
abbrev main_v196 : Ref sig .tc := ⟨.hbm, 265, rfl⟩
abbrev main_v197 : Ref sig .tc := ⟨.hbm, 266, rfl⟩
abbrev main_v198 : Ref sig .tc := ⟨.hbm, 267, rfl⟩
abbrev main_v199 : Ref sig .tc := ⟨.hbm, 268, rfl⟩
abbrev main_v200 : Ref sig .tc := ⟨.hbm, 269, rfl⟩
abbrev main_c_65 : Ref sig .tc := ⟨.hbm, 270, rfl⟩
abbrev main_v201 : Ref sig .tc := ⟨.hbm, 271, rfl⟩
abbrev main_v202 : Ref sig .tc := ⟨.hbm, 272, rfl⟩
abbrev main_c_66 : Ref sig .tc := ⟨.hbm, 273, rfl⟩
abbrev main_v203 : Ref sig .tc := ⟨.hbm, 274, rfl⟩
abbrev main_v204 : Ref sig .tc := ⟨.hbm, 275, rfl⟩
abbrev main_v205 : Ref sig .tc := ⟨.hbm, 276, rfl⟩
abbrev main_v206 : Ref sig .tc := ⟨.hbm, 277, rfl⟩
abbrev main_v207 : Ref sig .tc := ⟨.hbm, 278, rfl⟩
abbrev main_c_67 : Ref sig .tc := ⟨.hbm, 279, rfl⟩
abbrev main_v208 : Ref sig .tc := ⟨.hbm, 280, rfl⟩
abbrev main_v209 : Ref sig .tc := ⟨.hbm, 281, rfl⟩
abbrev main_c_68 : Ref sig .tc := ⟨.hbm, 282, rfl⟩
abbrev main_v210 : Ref sig .tc := ⟨.hbm, 283, rfl⟩
abbrev main_v211 : Ref sig .tc := ⟨.hbm, 284, rfl⟩
abbrev main_v212 : Ref sig .tc := ⟨.hbm, 285, rfl⟩
abbrev main_v213 : Ref sig .tc := ⟨.hbm, 286, rfl⟩
abbrev main_v214 : Ref sig .tc := ⟨.hbm, 287, rfl⟩
abbrev main_c_69 : Ref sig .tc := ⟨.hbm, 288, rfl⟩
abbrev main_v215 : Ref sig .tc := ⟨.hbm, 289, rfl⟩
abbrev main_v216 : Ref sig .tc := ⟨.hbm, 290, rfl⟩
abbrev main_c_70 : Ref sig .tc := ⟨.hbm, 291, rfl⟩
abbrev main_v217 : Ref sig .tc := ⟨.hbm, 292, rfl⟩
abbrev main_v218 : Ref sig .tc := ⟨.hbm, 293, rfl⟩
abbrev main_v219 : Ref sig .tc := ⟨.hbm, 294, rfl⟩
abbrev main_v220 : Ref sig .tc := ⟨.hbm, 295, rfl⟩
abbrev main_c_71 : Ref sig .tc := ⟨.hbm, 296, rfl⟩
abbrev main_v221 : Ref sig .tc := ⟨.hbm, 297, rfl⟩
abbrev main_v222 : Ref sig .tc := ⟨.hbm, 298, rfl⟩
abbrev main_c_72 : Ref sig .tc := ⟨.hbm, 299, rfl⟩
abbrev main_v223 : Ref sig .tc := ⟨.hbm, 300, rfl⟩
abbrev main_v224 : Ref sig .tc := ⟨.hbm, 301, rfl⟩
abbrev main_c_73 : Ref sig .tc := ⟨.hbm, 302, rfl⟩
abbrev main_v225 : Ref sig .tc := ⟨.hbm, 303, rfl⟩
abbrev main_v226 : Ref sig .tc := ⟨.hbm, 304, rfl⟩
abbrev main_v227 : Ref sig .tc := ⟨.hbm, 305, rfl⟩
abbrev main_c_74 : Ref sig .tc := ⟨.hbm, 306, rfl⟩
abbrev main_v228 : Ref sig .tc := ⟨.hbm, 307, rfl⟩
abbrev main_v229 : Ref sig .tc := ⟨.hbm, 308, rfl⟩
abbrev main_c_75 : Ref sig .tc := ⟨.hbm, 309, rfl⟩
abbrev main_v230 : Ref sig .tc := ⟨.hbm, 310, rfl⟩
abbrev main_v231 : Ref sig .tc := ⟨.hbm, 311, rfl⟩
abbrev main_v232 : Ref sig .tc := ⟨.hbm, 312, rfl⟩
abbrev main_v233 : Ref sig .tc := ⟨.hbm, 313, rfl⟩
abbrev main_v234 : Ref sig .tc := ⟨.hbm, 314, rfl⟩
abbrev main_c_76 : Ref sig .tc := ⟨.hbm, 315, rfl⟩
abbrev main_v235 : Ref sig .tc := ⟨.hbm, 316, rfl⟩
abbrev main_v236 : Ref sig .tc := ⟨.hbm, 317, rfl⟩
abbrev main_c_77 : Ref sig .tc := ⟨.hbm, 318, rfl⟩
abbrev main_v237 : Ref sig .tc := ⟨.hbm, 319, rfl⟩
abbrev main_v238 : Ref sig .tc := ⟨.hbm, 320, rfl⟩
abbrev main_v239 : Ref sig .tc := ⟨.hbm, 321, rfl⟩
abbrev main_v240 : Ref sig .tc := ⟨.hbm, 322, rfl⟩
abbrev main_v241 : Ref sig .tc := ⟨.hbm, 323, rfl⟩
abbrev main_c_78 : Ref sig .tc := ⟨.hbm, 324, rfl⟩
abbrev main_v242 : Ref sig .tc := ⟨.hbm, 325, rfl⟩
abbrev main_v243 : Ref sig .tc := ⟨.hbm, 326, rfl⟩
abbrev main_c_79 : Ref sig .tc := ⟨.hbm, 327, rfl⟩
abbrev main_v244 : Ref sig .tc := ⟨.hbm, 328, rfl⟩
abbrev main_v245 : Ref sig .tc := ⟨.hbm, 329, rfl⟩
abbrev main_v246 : Ref sig .tc := ⟨.hbm, 330, rfl⟩
abbrev main_v247 : Ref sig .tc := ⟨.hbm, 331, rfl⟩
abbrev main_v248 : Ref sig .tc := ⟨.hbm, 332, rfl⟩
abbrev main_c_80 : Ref sig .tc := ⟨.hbm, 333, rfl⟩
abbrev main_v249 : Ref sig .tc := ⟨.hbm, 334, rfl⟩
abbrev main_v250 : Ref sig .tc := ⟨.hbm, 335, rfl⟩
abbrev main_c_81 : Ref sig .tc := ⟨.hbm, 336, rfl⟩
abbrev main_v251 : Ref sig .tc := ⟨.hbm, 337, rfl⟩
abbrev main_v252 : Ref sig .tc := ⟨.hbm, 338, rfl⟩
abbrev main_v253 : Ref sig .tc := ⟨.hbm, 339, rfl⟩
abbrev main_v254 : Ref sig .tc := ⟨.hbm, 340, rfl⟩
abbrev main_c_82 : Ref sig .tc := ⟨.hbm, 341, rfl⟩
abbrev main_v255 : Ref sig .tc := ⟨.hbm, 342, rfl⟩
abbrev main_v256 : Ref sig .tc := ⟨.hbm, 343, rfl⟩
abbrev main_c_83 : Ref sig .tc := ⟨.hbm, 344, rfl⟩
abbrev main_v257 : Ref sig .tc := ⟨.hbm, 345, rfl⟩
abbrev main_v258 : Ref sig .tc := ⟨.hbm, 346, rfl⟩
abbrev main_c_84 : Ref sig .tc := ⟨.hbm, 347, rfl⟩
abbrev main_v259 : Ref sig .tc := ⟨.hbm, 348, rfl⟩
abbrev main_v260 : Ref sig .tc := ⟨.hbm, 349, rfl⟩
abbrev main_v261 : Ref sig .tc := ⟨.hbm, 350, rfl⟩
abbrev main_c_85 : Ref sig .tc := ⟨.hbm, 351, rfl⟩
abbrev main_v262 : Ref sig .tc := ⟨.hbm, 352, rfl⟩
abbrev main_v263 : Ref sig .tc := ⟨.hbm, 353, rfl⟩
abbrev main_c_86 : Ref sig .tc := ⟨.hbm, 354, rfl⟩
abbrev main_v264 : Ref sig .tc := ⟨.hbm, 355, rfl⟩
abbrev main_v265 : Ref sig .tc := ⟨.hbm, 356, rfl⟩
abbrev main_v266 : Ref sig .tc := ⟨.hbm, 357, rfl⟩
abbrev main_v267 : Ref sig .tc := ⟨.hbm, 358, rfl⟩
abbrev main_v268 : Ref sig .tc := ⟨.hbm, 359, rfl⟩
abbrev main_c_87 : Ref sig .tc := ⟨.hbm, 360, rfl⟩
abbrev main_v269 : Ref sig .tc := ⟨.hbm, 361, rfl⟩
abbrev main_v270 : Ref sig .tc := ⟨.hbm, 362, rfl⟩
abbrev main_c_88 : Ref sig .tc := ⟨.hbm, 363, rfl⟩
abbrev main_v271 : Ref sig .tc := ⟨.hbm, 364, rfl⟩
abbrev main_v272 : Ref sig .tc := ⟨.hbm, 365, rfl⟩
abbrev main_v273 : Ref sig .tc := ⟨.hbm, 366, rfl⟩
abbrev main_v274 : Ref sig .tc := ⟨.hbm, 367, rfl⟩
abbrev main_v275 : Ref sig .tc := ⟨.hbm, 368, rfl⟩
abbrev main_c_89 : Ref sig .tc := ⟨.hbm, 369, rfl⟩
abbrev main_v276 : Ref sig .tc := ⟨.hbm, 370, rfl⟩
abbrev main_v277 : Ref sig .tc := ⟨.hbm, 371, rfl⟩
abbrev main_c_90 : Ref sig .tc := ⟨.hbm, 372, rfl⟩
abbrev main_v278 : Ref sig .tc := ⟨.hbm, 373, rfl⟩
abbrev main_v279 : Ref sig .tc := ⟨.hbm, 374, rfl⟩
abbrev main_v280 : Ref sig .tc := ⟨.hbm, 375, rfl⟩
abbrev main_v281 : Ref sig .tc := ⟨.hbm, 376, rfl⟩
abbrev main_v282 : Ref sig .tc := ⟨.hbm, 377, rfl⟩
abbrev main_c_91 : Ref sig .tc := ⟨.hbm, 378, rfl⟩
abbrev main_v283 : Ref sig .tc := ⟨.hbm, 379, rfl⟩
abbrev main_v284 : Ref sig .tc := ⟨.hbm, 380, rfl⟩
abbrev main_c_92 : Ref sig .tc := ⟨.hbm, 381, rfl⟩
abbrev main_v285 : Ref sig .tc := ⟨.hbm, 382, rfl⟩
abbrev main_v286 : Ref sig .tc := ⟨.hbm, 383, rfl⟩
abbrev main_v287 : Ref sig .tc := ⟨.hbm, 384, rfl⟩
abbrev main_v288 : Ref sig .tc := ⟨.hbm, 385, rfl⟩
abbrev main_c_93 : Ref sig .tc := ⟨.hbm, 386, rfl⟩
abbrev main_v289 : Ref sig .tc := ⟨.hbm, 387, rfl⟩
abbrev main_v290 : Ref sig .tc := ⟨.hbm, 388, rfl⟩
abbrev main_c_94 : Ref sig .tc := ⟨.hbm, 389, rfl⟩
abbrev main_v291 : Ref sig .tc := ⟨.hbm, 390, rfl⟩
abbrev main_v292 : Ref sig .tc := ⟨.hbm, 391, rfl⟩
abbrev main_c_95 : Ref sig .tc := ⟨.hbm, 392, rfl⟩
abbrev main_v293 : Ref sig .tc := ⟨.hbm, 393, rfl⟩
abbrev main_v294 : Ref sig .tc := ⟨.hbm, 394, rfl⟩
abbrev main_v295 : Ref sig .tc := ⟨.hbm, 395, rfl⟩
abbrev main_c_96 : Ref sig .tc := ⟨.hbm, 396, rfl⟩
abbrev main_v296 : Ref sig .tc := ⟨.hbm, 397, rfl⟩
abbrev main_v297 : Ref sig .tc := ⟨.hbm, 398, rfl⟩
abbrev main_c_97 : Ref sig .tc := ⟨.hbm, 399, rfl⟩
abbrev main_v298 : Ref sig .tc := ⟨.hbm, 400, rfl⟩
abbrev main_v299 : Ref sig .tc := ⟨.hbm, 401, rfl⟩
abbrev main_v300 : Ref sig .tc := ⟨.hbm, 402, rfl⟩
abbrev main_v301 : Ref sig .tc := ⟨.hbm, 403, rfl⟩
abbrev main_v302 : Ref sig .tc := ⟨.hbm, 404, rfl⟩
abbrev main_c_98 : Ref sig .tc := ⟨.hbm, 405, rfl⟩
abbrev main_v303 : Ref sig .tc := ⟨.hbm, 406, rfl⟩
abbrev main_v304 : Ref sig .tc := ⟨.hbm, 407, rfl⟩
abbrev main_c_99 : Ref sig .tc := ⟨.hbm, 408, rfl⟩
abbrev main_v305 : Ref sig .tc := ⟨.hbm, 409, rfl⟩
abbrev main_v306 : Ref sig .tc := ⟨.hbm, 410, rfl⟩
abbrev main_v307 : Ref sig .tc := ⟨.hbm, 411, rfl⟩
abbrev main_v308 : Ref sig .tc := ⟨.hbm, 412, rfl⟩
abbrev main_v309 : Ref sig .tc := ⟨.hbm, 413, rfl⟩
abbrev main_c_100 : Ref sig .tc := ⟨.hbm, 414, rfl⟩
abbrev main_v310 : Ref sig .tc := ⟨.hbm, 415, rfl⟩
abbrev main_v311 : Ref sig .tc := ⟨.hbm, 416, rfl⟩
abbrev main_c_101 : Ref sig .tc := ⟨.hbm, 417, rfl⟩
abbrev main_v312 : Ref sig .tc := ⟨.hbm, 418, rfl⟩
abbrev main_v313 : Ref sig .tc := ⟨.hbm, 419, rfl⟩
abbrev main_v314 : Ref sig .tc := ⟨.hbm, 420, rfl⟩
abbrev main_v315 : Ref sig .tc := ⟨.hbm, 421, rfl⟩
abbrev main_v316 : Ref sig .tc := ⟨.hbm, 422, rfl⟩
abbrev main_c_102 : Ref sig .tc := ⟨.hbm, 423, rfl⟩
abbrev main_v317 : Ref sig .tc := ⟨.hbm, 424, rfl⟩
abbrev main_v318 : Ref sig .tc := ⟨.hbm, 425, rfl⟩
abbrev main_c_103 : Ref sig .tc := ⟨.hbm, 426, rfl⟩
abbrev main_v319 : Ref sig .tc := ⟨.hbm, 427, rfl⟩
abbrev main_v320 : Ref sig .tc := ⟨.hbm, 428, rfl⟩
abbrev main_v321 : Ref sig .tc := ⟨.hbm, 429, rfl⟩
abbrev main_v322 : Ref sig .tc := ⟨.hbm, 430, rfl⟩
abbrev main_c_104 : Ref sig .tc := ⟨.hbm, 431, rfl⟩
abbrev main_v323 : Ref sig .tc := ⟨.hbm, 432, rfl⟩
abbrev main_v324 : Ref sig .tc := ⟨.hbm, 433, rfl⟩
abbrev main_c_105 : Ref sig .tc := ⟨.hbm, 434, rfl⟩
abbrev main_v325 : Ref sig .tc := ⟨.hbm, 435, rfl⟩
abbrev main_v326 : Ref sig .tc := ⟨.hbm, 436, rfl⟩
abbrev main_c_106 : Ref sig .tc := ⟨.hbm, 437, rfl⟩
abbrev main_v327 : Ref sig .tc := ⟨.hbm, 438, rfl⟩
abbrev main_v328 : Ref sig .tc := ⟨.hbm, 439, rfl⟩
abbrev main_v329 : Ref sig .tc := ⟨.hbm, 440, rfl⟩
abbrev main_c_107 : Ref sig .tc := ⟨.hbm, 441, rfl⟩
abbrev main_v330 : Ref sig .tc := ⟨.hbm, 442, rfl⟩
abbrev main_v331 : Ref sig .tc := ⟨.hbm, 443, rfl⟩
abbrev main_c_108 : Ref sig .tc := ⟨.hbm, 444, rfl⟩
abbrev main_v332 : Ref sig .tc := ⟨.hbm, 445, rfl⟩
abbrev main_v333 : Ref sig .tc := ⟨.hbm, 446, rfl⟩
abbrev main_v334 : Ref sig .tc := ⟨.hbm, 447, rfl⟩
abbrev main_v335 : Ref sig .tc := ⟨.hbm, 448, rfl⟩
abbrev main_v336 : Ref sig .tc := ⟨.hbm, 449, rfl⟩
abbrev main_c_109 : Ref sig .tc := ⟨.hbm, 450, rfl⟩
abbrev main_v337 : Ref sig .tc := ⟨.hbm, 451, rfl⟩
abbrev main_v338 : Ref sig .tc := ⟨.hbm, 452, rfl⟩
abbrev main_c_110 : Ref sig .tc := ⟨.hbm, 453, rfl⟩
abbrev main_v339 : Ref sig .tc := ⟨.hbm, 454, rfl⟩
abbrev main_v340 : Ref sig .tc := ⟨.hbm, 455, rfl⟩
abbrev main_v341 : Ref sig .tc := ⟨.hbm, 456, rfl⟩
abbrev main_v342 : Ref sig .tc := ⟨.hbm, 457, rfl⟩
abbrev main_v343 : Ref sig .tc := ⟨.hbm, 458, rfl⟩
abbrev main_c_111 : Ref sig .tc := ⟨.hbm, 459, rfl⟩
abbrev main_v344 : Ref sig .tc := ⟨.hbm, 460, rfl⟩
abbrev main_v345 : Ref sig .tc := ⟨.hbm, 461, rfl⟩
abbrev main_c_112 : Ref sig .tc := ⟨.hbm, 462, rfl⟩
abbrev main_v346 : Ref sig .tc := ⟨.hbm, 463, rfl⟩
abbrev main_v347 : Ref sig .tc := ⟨.hbm, 464, rfl⟩
abbrev main_v348 : Ref sig .tc := ⟨.hbm, 465, rfl⟩
abbrev main_v349 : Ref sig .tc := ⟨.hbm, 466, rfl⟩
abbrev main_v350 : Ref sig .tc := ⟨.hbm, 467, rfl⟩
abbrev main_c_113 : Ref sig .tc := ⟨.hbm, 468, rfl⟩
abbrev main_v351 : Ref sig .tc := ⟨.hbm, 469, rfl⟩
abbrev main_v352 : Ref sig .tc := ⟨.hbm, 470, rfl⟩
abbrev main_c_114 : Ref sig .tc := ⟨.hbm, 471, rfl⟩
abbrev main_v353 : Ref sig .tc := ⟨.hbm, 472, rfl⟩
abbrev main_v354 : Ref sig .tc := ⟨.hbm, 473, rfl⟩
abbrev main_v355 : Ref sig .tc := ⟨.hbm, 474, rfl⟩
abbrev main_v356 : Ref sig .tc := ⟨.hbm, 475, rfl⟩
abbrev main_c_115 : Ref sig .tc := ⟨.hbm, 476, rfl⟩
abbrev main_v357 : Ref sig .tc := ⟨.hbm, 477, rfl⟩
abbrev main_v358 : Ref sig .tc := ⟨.hbm, 478, rfl⟩
abbrev main_c_116 : Ref sig .tc := ⟨.hbm, 479, rfl⟩
abbrev main_v359 : Ref sig .tc := ⟨.hbm, 480, rfl⟩
abbrev main_v360 : Ref sig .tc := ⟨.hbm, 481, rfl⟩
abbrev main_c_117 : Ref sig .tc := ⟨.hbm, 482, rfl⟩
abbrev main_v361 : Ref sig .tc := ⟨.hbm, 483, rfl⟩
abbrev main_v362 : Ref sig .tc := ⟨.hbm, 484, rfl⟩
abbrev main_v363 : Ref sig .tc := ⟨.hbm, 485, rfl⟩
abbrev main_c_118 : Ref sig .tc := ⟨.hbm, 486, rfl⟩
abbrev main_v364 : Ref sig .tc := ⟨.hbm, 487, rfl⟩
abbrev main_v365 : Ref sig .tc := ⟨.hbm, 488, rfl⟩
abbrev main_c_119 : Ref sig .tc := ⟨.hbm, 489, rfl⟩
abbrev main_v366 : Ref sig .tc := ⟨.hbm, 490, rfl⟩
abbrev main_v367 : Ref sig .tc := ⟨.hbm, 491, rfl⟩
abbrev main_v368 : Ref sig .tc := ⟨.hbm, 492, rfl⟩
abbrev main_cst_120 : Ref sig .tc := ⟨.hbm, 493, rfl⟩
abbrev main_v369 : Ref sig .tc := ⟨.hbm, 494, rfl⟩
abbrev main_v370 : Ref sig .tc := ⟨.hbm, 495, rfl⟩
abbrev main_cst_121 : Ref sig .tc := ⟨.hbm, 496, rfl⟩
abbrev main_v371 : Ref sig .tc := ⟨.hbm, 497, rfl⟩
abbrev main_v372 : Ref sig .tc := ⟨.hbm, 498, rfl⟩
abbrev main_cst_122 : Ref sig .tc := ⟨.hbm, 499, rfl⟩
abbrev main_v373 : Ref sig .tc := ⟨.hbm, 500, rfl⟩
abbrev main_v374 : Ref sig .tc := ⟨.hbm, 501, rfl⟩
abbrev main_cst_123 : Ref sig .tc := ⟨.hbm, 502, rfl⟩
abbrev main_v375 : Ref sig .tc := ⟨.hbm, 503, rfl⟩
abbrev main_v376 : Ref sig .tc := ⟨.hbm, 504, rfl⟩
abbrev main_v377 : Ref sig .tc := ⟨.hbm, 505, rfl⟩
abbrev main_v378 : Ref sig .tc := ⟨.hbm, 506, rfl⟩
abbrev main_v379 : Ref sig .tc := ⟨.hbm, 507, rfl⟩
abbrev main_v380 : Ref sig .tc := ⟨.hbm, 508, rfl⟩
abbrev main_v381 : Ref sig .tc := ⟨.hbm, 509, rfl⟩
abbrev main_v382 : Ref sig .tc := ⟨.hbm, 510, rfl⟩
abbrev main_v383 : Ref sig .tc := ⟨.hbm, 511, rfl⟩
abbrev main_v384 : Ref sig .tc := ⟨.hbm, 512, rfl⟩
abbrev main_v385 : Ref sig .tc := ⟨.hbm, 513, rfl⟩
abbrev main_v386 : Ref sig .tc := ⟨.hbm, 514, rfl⟩
abbrev main_cst_124 : Ref sig .tc := ⟨.hbm, 515, rfl⟩
abbrev main_v387 : Ref sig .tc := ⟨.hbm, 516, rfl⟩
abbrev main_v388 : Ref sig .tc := ⟨.hbm, 517, rfl⟩
abbrev main_v389 : Ref sig .tc := ⟨.hbm, 518, rfl⟩
abbrev main_c_125 : Ref sig .tc := ⟨.hbm, 519, rfl⟩
abbrev main_c_126 : Ref sig .tc := ⟨.hbm, 520, rfl⟩
abbrev main_call1_v0 : Ref sig .tc := ⟨.hbm, 521, rfl⟩
abbrev main_call1_v1 : Ref sig .tc := ⟨.hbm, 522, rfl⟩
abbrev main_call1_v2 : Ref sig .tc := ⟨.hbm, 523, rfl⟩
abbrev main_call1_v3 : Ref sig .tc := ⟨.hbm, 524, rfl⟩
abbrev main_call1_v4 : Ref sig .tc := ⟨.hbm, 525, rfl⟩
abbrev main_v390 : Ref sig .tc := ⟨.hbm, 526, rfl⟩
abbrev main_v391 : Ref sig .tc := ⟨.hbm, 527, rfl⟩
abbrev main_v392 : Ref sig .tc := ⟨.hbm, 528, rfl⟩
abbrev main_v393 : Ref sig .tc := ⟨.hbm, 529, rfl⟩
abbrev main_v394 : Ref sig .tc := ⟨.hbm, 530, rfl⟩
abbrev main_v395 : Ref sig .tc := ⟨.hbm, 531, rfl⟩
abbrev main_v396 : Ref sig .tc := ⟨.hbm, 532, rfl⟩
abbrev main_v397 : Ref sig .tc := ⟨.hbm, 533, rfl⟩
abbrev main_v398 : Ref sig .tc := ⟨.hbm, 534, rfl⟩
abbrev main_v399 : Ref sig .tc := ⟨.hbm, 535, rfl⟩
abbrev main_v400 : Ref sig .tc := ⟨.hbm, 536, rfl⟩
abbrev main_v401 : Ref sig .tc := ⟨.hbm, 537, rfl⟩
abbrev main_v402 : Ref sig .tc := ⟨.hbm, 538, rfl⟩
abbrev main_v403 : Ref sig .tc := ⟨.hbm, 539, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 1 → Nat :=
  let arg0 : BitVec 32 := BitVec.ofNat 32 (i 0).val
  let c0_i32 : BitVec 32 := 0#32
  ![arg0.toNat]

abbrev stage0_0 : Fin 2 → Memref sig .tc .vmem S1024x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2048x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1024x2048 .i16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S2097152 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== ReferenceIdeal.lean ====
abbrev S2048x128 : Shape := ⟨2, ![2048, 128]⟩
abbrev S128x128 : Shape := ⟨2, ![128, 128]⟩
abbrev S128x2048 : Shape := ⟨2, ![128, 2048]⟩
abbrev S2048x2048 : Shape := ⟨2, ![2048, 2048]⟩
abbrev S_ : Shape := ⟨0, ![]⟩
abbrev S1 : Shape := ⟨1, ![1]⟩
abbrev S2 : Shape := ⟨1, ![2]⟩
abbrev S2x1 : Shape := ⟨2, ![2, 1]⟩
abbrev S2x2 : Shape := ⟨2, ![2, 2]⟩
abbrev S1x2 : Shape := ⟨2, ![1, 2]⟩
abbrev S2048 : Shape := ⟨1, ![2048]⟩
abbrev S4194304 : Shape := ⟨1, ![4194304]⟩
abbrev S1x2048 : Shape := ⟨2, ![1, 2048]⟩
abbrev S1x4194304 : Shape := ⟨2, ![1, 4194304]⟩
abbrev S2x4194304 : Shape := ⟨2, ![2, 4194304]⟩

abbrev nBuf : Space → Nat
  | .hbm => 814
  | .vmem => 0
  | .smem => 0
  | _ => 0

abbrev hbmTy0_0 (i : Nat) : BufTy := match i % 128 with
  | 0 => ⟨S2048x128, .f32⟩
  | 1 => ⟨S128x128, .f32⟩
  | 2 => ⟨S2048x128, .f32⟩
  | 3 => ⟨S128x2048, .f32⟩
  | 4 => ⟨S2048x2048, .f32⟩
  | 5 => ⟨S_, .f32⟩
  | 6 => ⟨S2048x2048, .f32⟩
  | 7 => ⟨S2048x2048, .f32⟩
  | 8 => ⟨S_, .i32⟩
  | 9 => ⟨S_, .i32⟩
  | 10 => ⟨S_, .i32⟩
  | 11 => ⟨S_, .i32⟩
  | 12 => ⟨S1, .i32⟩
  | 13 => ⟨S_, .i32⟩
  | 14 => ⟨S_, .i32⟩
  | 15 => ⟨S_, .i32⟩
  | 16 => ⟨S1, .i32⟩
  | 17 => ⟨S2, .i32⟩
  | 18 => ⟨S1, .i32⟩
  | 19 => ⟨S_, .i32⟩
  | 20 => ⟨S1, .i32⟩
  | 21 => ⟨S_, .i32⟩
  | 22 => ⟨S2, .i64⟩
  | 23 => ⟨S_, .i64⟩
  | 24 => ⟨S2, .i64⟩
  | 25 => ⟨S2, .i64⟩
  | 26 => ⟨S_, .i64⟩
  | 27 => ⟨S2, .i64⟩
  | 28 => ⟨S2, .i64⟩
  | 29 => ⟨S2, .i32⟩
  | 30 => ⟨S2, .i32⟩
  | 31 => ⟨S_, .i32⟩
  | 32 => ⟨S_, .i32⟩
  | 33 => ⟨S_, .i32⟩
  | 34 => ⟨S2, .i32⟩
  | 35 => ⟨S2, .i32⟩
  | 36 => ⟨S2, .i32⟩
  | 37 => ⟨S2, .i32⟩
  | 38 => ⟨S2, .i32⟩
  | 39 => ⟨S_, .i32⟩
  | 40 => ⟨S2, .i32⟩
  | 41 => ⟨S2, .i32⟩
  | 42 => ⟨S_, .i32⟩
  | 43 => ⟨S2, .i32⟩
  | 44 => ⟨S2, .i32⟩
  | 45 => ⟨S2, .i32⟩
  | 46 => ⟨S2, .i32⟩
  | 47 => ⟨S2, .i32⟩
  | 48 => ⟨S_, .i32⟩
  | 49 => ⟨S2, .i32⟩
  | 50 => ⟨S2, .i32⟩
  | 51 => ⟨S_, .i32⟩
  | 52 => ⟨S2, .i32⟩
  | 53 => ⟨S2, .i32⟩
  | 54 => ⟨S2, .i32⟩
  | 55 => ⟨S2, .i32⟩
  | 56 => ⟨S2, .i32⟩
  | 57 => ⟨S_, .i32⟩
  | 58 => ⟨S2, .i32⟩
  | 59 => ⟨S2, .i32⟩
  | 60 => ⟨S_, .i32⟩
  | 61 => ⟨S2, .i32⟩
  | 62 => ⟨S2, .i32⟩
  | 63 => ⟨S2, .i32⟩
  | 64 => ⟨S2, .i32⟩
  | 65 => ⟨S2, .i32⟩
  | 66 => ⟨S_, .i32⟩
  | 67 => ⟨S2, .i32⟩
  | 68 => ⟨S2, .i32⟩
  | 69 => ⟨S_, .i32⟩
  | 70 => ⟨S2, .i32⟩
  | 71 => ⟨S2, .i32⟩
  | 72 => ⟨S2, .i32⟩
  | 73 => ⟨S2, .i32⟩
  | 74 => ⟨S2, .i32⟩
  | 75 => ⟨S2, .i32⟩
  | 76 => ⟨S2, .i32⟩
  | 77 => ⟨S2, .i32⟩
  | 78 => ⟨S_, .i32⟩
  | 79 => ⟨S2, .i32⟩
  | 80 => ⟨S2, .i32⟩
  | 81 => ⟨S2, .i32⟩
  | 82 => ⟨S_, .i32⟩
  | 83 => ⟨S2, .i32⟩
  | 84 => ⟨S2, .i32⟩
  | 85 => ⟨S_, .i32⟩
  | 86 => ⟨S2, .i32⟩
  | 87 => ⟨S2, .i32⟩
  | 88 => ⟨S2, .i32⟩
  | 89 => ⟨S2, .i32⟩
  | 90 => ⟨S2, .i32⟩
  | 91 => ⟨S_, .i32⟩
  | 92 => ⟨S2, .i32⟩
  | 93 => ⟨S2, .i32⟩
  | 94 => ⟨S_, .i32⟩
  | 95 => ⟨S2, .i32⟩
  | 96 => ⟨S2, .i32⟩
  | 97 => ⟨S2, .i32⟩
  | 98 => ⟨S2, .i32⟩
  | 99 => ⟨S2, .i32⟩
  | 100 => ⟨S_, .i32⟩
  | 101 => ⟨S2, .i32⟩
  | 102 => ⟨S2, .i32⟩
  | 103 => ⟨S_, .i32⟩
  | 104 => ⟨S2, .i32⟩
  | 105 => ⟨S2, .i32⟩
  | 106 => ⟨S2, .i32⟩
  | 107 => ⟨S2, .i32⟩
  | 108 => ⟨S2, .i32⟩
  | 109 => ⟨S_, .i32⟩
  | 110 => ⟨S2, .i32⟩
  | 111 => ⟨S2, .i32⟩
  | 112 => ⟨S_, .i32⟩
  | 113 => ⟨S2, .i32⟩
  | 114 => ⟨S2, .i32⟩
  | 115 => ⟨S2, .i32⟩
  | 116 => ⟨S2, .i32⟩
  | 117 => ⟨S2, .i32⟩
  | 118 => ⟨S2, .i32⟩
  | 119 => ⟨S2, .i32⟩
  | 120 => ⟨S2, .i32⟩
  | 121 => ⟨S_, .i32⟩
  | 122 => ⟨S2, .i32⟩
  | 123 => ⟨S2, .i32⟩
  | 124 => ⟨S2, .i32⟩
  | 125 => ⟨S_, .i32⟩
  | 126 => ⟨S2, .i32⟩
  | 127 => ⟨S2, .i32⟩
  | _ => ⟨S2048x128, .f32⟩

abbrev hbmTy0_1 (i : Nat) : BufTy := match i % 128 with
  | 0 => ⟨S_, .i32⟩
  | 1 => ⟨S2, .i32⟩
  | 2 => ⟨S2, .i32⟩
  | 3 => ⟨S2, .i32⟩
  | 4 => ⟨S2, .i32⟩
  | 5 => ⟨S2, .i32⟩
  | 6 => ⟨S_, .i32⟩
  | 7 => ⟨S2, .i32⟩
  | 8 => ⟨S2, .i32⟩
  | 9 => ⟨S_, .i32⟩
  | 10 => ⟨S2, .i32⟩
  | 11 => ⟨S2, .i32⟩
  | 12 => ⟨S2, .i32⟩
  | 13 => ⟨S2, .i32⟩
  | 14 => ⟨S2, .i32⟩
  | 15 => ⟨S_, .i32⟩
  | 16 => ⟨S2, .i32⟩
  | 17 => ⟨S2, .i32⟩
  | 18 => ⟨S_, .i32⟩
  | 19 => ⟨S2, .i32⟩
  | 20 => ⟨S2, .i32⟩
  | 21 => ⟨S2, .i32⟩
  | 22 => ⟨S2, .i32⟩
  | 23 => ⟨S2, .i32⟩
  | 24 => ⟨S_, .i32⟩
  | 25 => ⟨S2, .i32⟩
  | 26 => ⟨S2, .i32⟩
  | 27 => ⟨S_, .i32⟩
  | 28 => ⟨S2, .i32⟩
  | 29 => ⟨S2, .i32⟩
  | 30 => ⟨S2, .i32⟩
  | 31 => ⟨S2, .i32⟩
  | 32 => ⟨S2, .i32⟩
  | 33 => ⟨S2, .i32⟩
  | 34 => ⟨S2, .i32⟩
  | 35 => ⟨S2, .i32⟩
  | 36 => ⟨S_, .i32⟩
  | 37 => ⟨S2, .i32⟩
  | 38 => ⟨S2, .i32⟩
  | 39 => ⟨S2, .i32⟩
  | 40 => ⟨S_, .i32⟩
  | 41 => ⟨S2, .i32⟩
  | 42 => ⟨S2, .i32⟩
  | 43 => ⟨S_, .i32⟩
  | 44 => ⟨S2, .i32⟩
  | 45 => ⟨S2, .i32⟩
  | 46 => ⟨S2, .i32⟩
  | 47 => ⟨S2, .i32⟩
  | 48 => ⟨S2, .i32⟩
  | 49 => ⟨S_, .i32⟩
  | 50 => ⟨S2, .i32⟩
  | 51 => ⟨S2, .i32⟩
  | 52 => ⟨S_, .i32⟩
  | 53 => ⟨S2, .i32⟩
  | 54 => ⟨S2, .i32⟩
  | 55 => ⟨S2, .i32⟩
  | 56 => ⟨S2, .i32⟩
  | 57 => ⟨S2, .i32⟩
  | 58 => ⟨S_, .i32⟩
  | 59 => ⟨S2, .i32⟩
  | 60 => ⟨S2, .i32⟩
  | 61 => ⟨S_, .i32⟩
  | 62 => ⟨S2, .i32⟩
  | 63 => ⟨S2, .i32⟩
  | 64 => ⟨S2, .i32⟩
  | 65 => ⟨S2, .i32⟩
  | 66 => ⟨S2, .i32⟩
  | 67 => ⟨S_, .i32⟩
  | 68 => ⟨S2, .i32⟩
  | 69 => ⟨S2, .i32⟩
  | 70 => ⟨S_, .i32⟩
  | 71 => ⟨S2, .i32⟩
  | 72 => ⟨S2, .i32⟩
  | 73 => ⟨S2, .i32⟩
  | 74 => ⟨S2, .i32⟩
  | 75 => ⟨S2, .i32⟩
  | 76 => ⟨S2, .i32⟩
  | 77 => ⟨S2, .i32⟩
  | 78 => ⟨S2, .i32⟩
  | 79 => ⟨S_, .i32⟩
  | 80 => ⟨S2, .i32⟩
  | 81 => ⟨S2, .i32⟩
  | 82 => ⟨S2, .i32⟩
  | 83 => ⟨S_, .i32⟩
  | 84 => ⟨S2, .i32⟩
  | 85 => ⟨S2, .i32⟩
  | 86 => ⟨S_, .i32⟩
  | 87 => ⟨S2, .i32⟩
  | 88 => ⟨S2, .i32⟩
  | 89 => ⟨S2, .i32⟩
  | 90 => ⟨S2, .i32⟩
  | 91 => ⟨S2, .i32⟩
  | 92 => ⟨S_, .i32⟩
  | 93 => ⟨S2, .i32⟩
  | 94 => ⟨S2, .i32⟩
  | 95 => ⟨S_, .i32⟩
  | 96 => ⟨S2, .i32⟩
  | 97 => ⟨S2, .i32⟩
  | 98 => ⟨S2, .i32⟩
  | 99 => ⟨S2, .i32⟩
  | 100 => ⟨S2, .i32⟩
  | 101 => ⟨S_, .i32⟩
  | 102 => ⟨S2, .i32⟩
  | 103 => ⟨S2, .i32⟩
  | 104 => ⟨S_, .i32⟩
  | 105 => ⟨S2, .i32⟩
  | 106 => ⟨S2, .i32⟩
  | 107 => ⟨S2, .i32⟩
  | 108 => ⟨S2, .i32⟩
  | 109 => ⟨S2, .i32⟩
  | 110 => ⟨S_, .i32⟩
  | 111 => ⟨S2, .i32⟩
  | 112 => ⟨S2, .i32⟩
  | 113 => ⟨S_, .i32⟩
  | 114 => ⟨S2, .i32⟩
  | 115 => ⟨S2, .i32⟩
  | 116 => ⟨S2, .i32⟩
  | 117 => ⟨S2, .i32⟩
  | 118 => ⟨S2, .i32⟩
  | 119 => ⟨S2, .i32⟩
  | 120 => ⟨S2, .i32⟩
  | 121 => ⟨S2, .i32⟩
  | 122 => ⟨S_, .i32⟩
  | 123 => ⟨S2, .i32⟩
  | 124 => ⟨S2, .i32⟩
  | 125 => ⟨S2x1, .i32⟩
  | 126 => ⟨S2x1, .i32⟩
  | 127 => ⟨S2x2, .i32⟩
  | _ => ⟨S2048x128, .f32⟩

abbrev hbmTy0_2 (i : Nat) : BufTy := match i % 128 with
  | 0 => ⟨S1x2, .i32⟩
  | 1 => ⟨S2, .i32⟩
  | 2 => ⟨S1x2, .i32⟩
  | 3 => ⟨S2, .i32⟩
  | 4 => ⟨S1, .i32⟩
  | 5 => ⟨S_, .i32⟩
  | 6 => ⟨S1, .i32⟩
  | 7 => ⟨S_, .i32⟩
  | 8 => ⟨S2048x2048, .i64⟩
  | 9 => ⟨S2048x2048, .i64⟩
  | 10 => ⟨S_, .i64⟩
  | 11 => ⟨S2048x2048, .i64⟩
  | 12 => ⟨S2048x2048, .i64⟩
  | 13 => ⟨S_, .i64⟩
  | 14 => ⟨S2048x2048, .i64⟩
  | 15 => ⟨S2048x2048, .i64⟩
  | 16 => ⟨S2048x2048, .i64⟩
  | 17 => ⟨S_, .i64⟩
  | 18 => ⟨S2048x2048, .i64⟩
  | 19 => ⟨S2048x2048, .i64⟩
  | 20 => ⟨S2048x2048, .i32⟩
  | 21 => ⟨S2048x2048, .i32⟩
  | 22 => ⟨S_, .i32⟩
  | 23 => ⟨S_, .i32⟩
  | 24 => ⟨S_, .i32⟩
  | 25 => ⟨S2048x2048, .i32⟩
  | 26 => ⟨S2048x2048, .i32⟩
  | 27 => ⟨S2048x2048, .i32⟩
  | 28 => ⟨S2048x2048, .i32⟩
  | 29 => ⟨S2048x2048, .i32⟩
  | 30 => ⟨S_, .i32⟩
  | 31 => ⟨S2048x2048, .i32⟩
  | 32 => ⟨S2048x2048, .i32⟩
  | 33 => ⟨S_, .i32⟩
  | 34 => ⟨S2048x2048, .i32⟩
  | 35 => ⟨S2048x2048, .i32⟩
  | 36 => ⟨S2048x2048, .i32⟩
  | 37 => ⟨S2048x2048, .i32⟩
  | 38 => ⟨S2048x2048, .i32⟩
  | 39 => ⟨S_, .i32⟩
  | 40 => ⟨S2048x2048, .i32⟩
  | 41 => ⟨S2048x2048, .i32⟩
  | 42 => ⟨S_, .i32⟩
  | 43 => ⟨S2048x2048, .i32⟩
  | 44 => ⟨S2048x2048, .i32⟩
  | 45 => ⟨S2048x2048, .i32⟩
  | 46 => ⟨S2048x2048, .i32⟩
  | 47 => ⟨S2048x2048, .i32⟩
  | 48 => ⟨S_, .i32⟩
  | 49 => ⟨S2048x2048, .i32⟩
  | 50 => ⟨S2048x2048, .i32⟩
  | 51 => ⟨S_, .i32⟩
  | 52 => ⟨S2048x2048, .i32⟩
  | 53 => ⟨S2048x2048, .i32⟩
  | 54 => ⟨S2048x2048, .i32⟩
  | 55 => ⟨S2048x2048, .i32⟩
  | 56 => ⟨S2048x2048, .i32⟩
  | 57 => ⟨S_, .i32⟩
  | 58 => ⟨S2048x2048, .i32⟩
  | 59 => ⟨S2048x2048, .i32⟩
  | 60 => ⟨S_, .i32⟩
  | 61 => ⟨S2048x2048, .i32⟩
  | 62 => ⟨S2048x2048, .i32⟩
  | 63 => ⟨S2048x2048, .i32⟩
  | 64 => ⟨S2048x2048, .i32⟩
  | 65 => ⟨S2048x2048, .i32⟩
  | 66 => ⟨S2048x2048, .i32⟩
  | 67 => ⟨S2048x2048, .i32⟩
  | 68 => ⟨S2048x2048, .i32⟩
  | 69 => ⟨S_, .i32⟩
  | 70 => ⟨S2048x2048, .i32⟩
  | 71 => ⟨S2048x2048, .i32⟩
  | 72 => ⟨S2048x2048, .i32⟩
  | 73 => ⟨S_, .i32⟩
  | 74 => ⟨S2048x2048, .i32⟩
  | 75 => ⟨S2048x2048, .i32⟩
  | 76 => ⟨S_, .i32⟩
  | 77 => ⟨S2048x2048, .i32⟩
  | 78 => ⟨S2048x2048, .i32⟩
  | 79 => ⟨S2048x2048, .i32⟩
  | 80 => ⟨S2048x2048, .i32⟩
  | 81 => ⟨S2048x2048, .i32⟩
  | 82 => ⟨S_, .i32⟩
  | 83 => ⟨S2048x2048, .i32⟩
  | 84 => ⟨S2048x2048, .i32⟩
  | 85 => ⟨S_, .i32⟩
  | 86 => ⟨S2048x2048, .i32⟩
  | 87 => ⟨S2048x2048, .i32⟩
  | 88 => ⟨S2048x2048, .i32⟩
  | 89 => ⟨S2048x2048, .i32⟩
  | 90 => ⟨S2048x2048, .i32⟩
  | 91 => ⟨S_, .i32⟩
  | 92 => ⟨S2048x2048, .i32⟩
  | 93 => ⟨S2048x2048, .i32⟩
  | 94 => ⟨S_, .i32⟩
  | 95 => ⟨S2048x2048, .i32⟩
  | 96 => ⟨S2048x2048, .i32⟩
  | 97 => ⟨S2048x2048, .i32⟩
  | 98 => ⟨S2048x2048, .i32⟩
  | 99 => ⟨S2048x2048, .i32⟩
  | 100 => ⟨S_, .i32⟩
  | 101 => ⟨S2048x2048, .i32⟩
  | 102 => ⟨S2048x2048, .i32⟩
  | 103 => ⟨S_, .i32⟩
  | 104 => ⟨S2048x2048, .i32⟩
  | 105 => ⟨S2048x2048, .i32⟩
  | 106 => ⟨S2048x2048, .i32⟩
  | 107 => ⟨S2048x2048, .i32⟩
  | 108 => ⟨S2048x2048, .i32⟩
  | 109 => ⟨S2048x2048, .i32⟩
  | 110 => ⟨S2048x2048, .i32⟩
  | 111 => ⟨S2048x2048, .i32⟩
  | 112 => ⟨S_, .i32⟩
  | 113 => ⟨S2048x2048, .i32⟩
  | 114 => ⟨S2048x2048, .i32⟩
  | 115 => ⟨S2048x2048, .i32⟩
  | 116 => ⟨S_, .i32⟩
  | 117 => ⟨S2048x2048, .i32⟩
  | 118 => ⟨S2048x2048, .i32⟩
  | 119 => ⟨S_, .i32⟩
  | 120 => ⟨S2048x2048, .i32⟩
  | 121 => ⟨S2048x2048, .i32⟩
  | 122 => ⟨S2048x2048, .i32⟩
  | 123 => ⟨S2048x2048, .i32⟩
  | 124 => ⟨S2048x2048, .i32⟩
  | 125 => ⟨S_, .i32⟩
  | 126 => ⟨S2048x2048, .i32⟩
  | 127 => ⟨S2048x2048, .i32⟩
  | _ => ⟨S2048x128, .f32⟩

abbrev hbmTy0_3 (i : Nat) : BufTy := match i % 128 with
  | 0 => ⟨S_, .i32⟩
  | 1 => ⟨S2048x2048, .i32⟩
  | 2 => ⟨S2048x2048, .i32⟩
  | 3 => ⟨S2048x2048, .i32⟩
  | 4 => ⟨S2048x2048, .i32⟩
  | 5 => ⟨S2048x2048, .i32⟩
  | 6 => ⟨S_, .i32⟩
  | 7 => ⟨S2048x2048, .i32⟩
  | 8 => ⟨S2048x2048, .i32⟩
  | 9 => ⟨S_, .i32⟩
  | 10 => ⟨S2048x2048, .i32⟩
  | 11 => ⟨S2048x2048, .i32⟩
  | 12 => ⟨S2048x2048, .i32⟩
  | 13 => ⟨S2048x2048, .i32⟩
  | 14 => ⟨S2048x2048, .i32⟩
  | 15 => ⟨S_, .i32⟩
  | 16 => ⟨S2048x2048, .i32⟩
  | 17 => ⟨S2048x2048, .i32⟩
  | 18 => ⟨S_, .i32⟩
  | 19 => ⟨S2048x2048, .i32⟩
  | 20 => ⟨S2048x2048, .i32⟩
  | 21 => ⟨S2048x2048, .i32⟩
  | 22 => ⟨S2048x2048, .i32⟩
  | 23 => ⟨S2048x2048, .i32⟩
  | 24 => ⟨S2048x2048, .i32⟩
  | 25 => ⟨S2048x2048, .i32⟩
  | 26 => ⟨S2048x2048, .i32⟩
  | 27 => ⟨S_, .i32⟩
  | 28 => ⟨S2048x2048, .i32⟩
  | 29 => ⟨S2048x2048, .i32⟩
  | 30 => ⟨S2048x2048, .i32⟩
  | 31 => ⟨S_, .i32⟩
  | 32 => ⟨S2048x2048, .i32⟩
  | 33 => ⟨S2048x2048, .i32⟩
  | 34 => ⟨S_, .i32⟩
  | 35 => ⟨S2048x2048, .i32⟩
  | 36 => ⟨S2048x2048, .i32⟩
  | 37 => ⟨S2048x2048, .i32⟩
  | 38 => ⟨S2048x2048, .i32⟩
  | 39 => ⟨S2048x2048, .i32⟩
  | 40 => ⟨S_, .i32⟩
  | 41 => ⟨S2048x2048, .i32⟩
  | 42 => ⟨S2048x2048, .i32⟩
  | 43 => ⟨S_, .i32⟩
  | 44 => ⟨S2048x2048, .i32⟩
  | 45 => ⟨S2048x2048, .i32⟩
  | 46 => ⟨S2048x2048, .i32⟩
  | 47 => ⟨S2048x2048, .i32⟩
  | 48 => ⟨S2048x2048, .i32⟩
  | 49 => ⟨S_, .i32⟩
  | 50 => ⟨S2048x2048, .i32⟩
  | 51 => ⟨S2048x2048, .i32⟩
  | 52 => ⟨S_, .i32⟩
  | 53 => ⟨S2048x2048, .i32⟩
  | 54 => ⟨S2048x2048, .i32⟩
  | 55 => ⟨S2048x2048, .i32⟩
  | 56 => ⟨S2048x2048, .i32⟩
  | 57 => ⟨S2048x2048, .i32⟩
  | 58 => ⟨S_, .i32⟩
  | 59 => ⟨S2048x2048, .i32⟩
  | 60 => ⟨S2048x2048, .i32⟩
  | 61 => ⟨S_, .i32⟩
  | 62 => ⟨S2048x2048, .i32⟩
  | 63 => ⟨S2048x2048, .i32⟩
  | 64 => ⟨S2048x2048, .i32⟩
  | 65 => ⟨S2048x2048, .i32⟩
  | 66 => ⟨S2048x2048, .i32⟩
  | 67 => ⟨S2048x2048, .i32⟩
  | 68 => ⟨S2048x2048, .i32⟩
  | 69 => ⟨S2048x2048, .i32⟩
  | 70 => ⟨S_, .i32⟩
  | 71 => ⟨S2048x2048, .i32⟩
  | 72 => ⟨S2048x2048, .i32⟩
  | 73 => ⟨S2048x2048, .i32⟩
  | 74 => ⟨S_, .i32⟩
  | 75 => ⟨S2048x2048, .i32⟩
  | 76 => ⟨S2048x2048, .i32⟩
  | 77 => ⟨S_, .i32⟩
  | 78 => ⟨S2048x2048, .i32⟩
  | 79 => ⟨S2048x2048, .i32⟩
  | 80 => ⟨S2048x2048, .i32⟩
  | 81 => ⟨S2048x2048, .i32⟩
  | 82 => ⟨S2048x2048, .i32⟩
  | 83 => ⟨S_, .i32⟩
  | 84 => ⟨S2048x2048, .i32⟩
  | 85 => ⟨S2048x2048, .i32⟩
  | 86 => ⟨S_, .i32⟩
  | 87 => ⟨S2048x2048, .i32⟩
  | 88 => ⟨S2048x2048, .i32⟩
  | 89 => ⟨S2048x2048, .i32⟩
  | 90 => ⟨S2048x2048, .i32⟩
  | 91 => ⟨S2048x2048, .i32⟩
  | 92 => ⟨S_, .i32⟩
  | 93 => ⟨S2048x2048, .i32⟩
  | 94 => ⟨S2048x2048, .i32⟩
  | 95 => ⟨S_, .i32⟩
  | 96 => ⟨S2048x2048, .i32⟩
  | 97 => ⟨S2048x2048, .i32⟩
  | 98 => ⟨S2048x2048, .i32⟩
  | 99 => ⟨S2048x2048, .i32⟩
  | 100 => ⟨S2048x2048, .i32⟩
  | 101 => ⟨S_, .i32⟩
  | 102 => ⟨S2048x2048, .i32⟩
  | 103 => ⟨S2048x2048, .i32⟩
  | 104 => ⟨S_, .i32⟩
  | 105 => ⟨S2048x2048, .i32⟩
  | 106 => ⟨S2048x2048, .i32⟩
  | 107 => ⟨S2048x2048, .i32⟩
  | 108 => ⟨S2048x2048, .i32⟩
  | 109 => ⟨S2048x2048, .i32⟩
  | 110 => ⟨S2048x2048, .i32⟩
  | 111 => ⟨S2048x2048, .i32⟩
  | 112 => ⟨S2048x2048, .i32⟩
  | 113 => ⟨S_, .i32⟩
  | 114 => ⟨S2048x2048, .i32⟩
  | 115 => ⟨S2048x2048, .i32⟩
  | 116 => ⟨S2048x2048, .i32⟩
  | 117 => ⟨S_, .i32⟩
  | 118 => ⟨S2048x2048, .i32⟩
  | 119 => ⟨S2048x2048, .i32⟩
  | 120 => ⟨S2048x2048, .i32⟩
  | 121 => ⟨S2048x2048, .f32⟩
  | 122 => ⟨S_, .f32⟩
  | 123 => ⟨S2048x2048, .f32⟩
  | 124 => ⟨S2048x2048, .f32⟩
  | 125 => ⟨S_, .f32⟩
  | 126 => ⟨S2048x2048, .f32⟩
  | 127 => ⟨S2048x2048, .f32⟩
  | _ => ⟨S2048x128, .f32⟩

abbrev hbmTy0_4 (i : Nat) : BufTy := match i % 128 with
  | 0 => ⟨S_, .f32⟩
  | 1 => ⟨S2048x2048, .f32⟩
  | 2 => ⟨S2048x2048, .f32⟩
  | 3 => ⟨S_, .f32⟩
  | 4 => ⟨S2048x2048, .f32⟩
  | 5 => ⟨S2048x2048, .f32⟩
  | 6 => ⟨S2048x2048, .f32⟩
  | 7 => ⟨S2048x2048, .f32⟩
  | 8 => ⟨S2048x2048, .f32⟩
  | 9 => ⟨S2048x2048, .f32⟩
  | 10 => ⟨S1, .i32⟩
  | 11 => ⟨S_, .i32⟩
  | 12 => ⟨S1, .i32⟩
  | 13 => ⟨S_, .i32⟩
  | 14 => ⟨S2048x2048, .i64⟩
  | 15 => ⟨S2048x2048, .i64⟩
  | 16 => ⟨S_, .i64⟩
  | 17 => ⟨S2048x2048, .i64⟩
  | 18 => ⟨S2048x2048, .i64⟩
  | 19 => ⟨S_, .i64⟩
  | 20 => ⟨S2048x2048, .i64⟩
  | 21 => ⟨S2048x2048, .i64⟩
  | 22 => ⟨S2048x2048, .i64⟩
  | 23 => ⟨S_, .i64⟩
  | 24 => ⟨S2048x2048, .i64⟩
  | 25 => ⟨S2048x2048, .i64⟩
  | 26 => ⟨S2048x2048, .i32⟩
  | 27 => ⟨S2048x2048, .i32⟩
  | 28 => ⟨S_, .i32⟩
  | 29 => ⟨S_, .i32⟩
  | 30 => ⟨S_, .i32⟩
  | 31 => ⟨S2048x2048, .i32⟩
  | 32 => ⟨S2048x2048, .i32⟩
  | 33 => ⟨S2048x2048, .i32⟩
  | 34 => ⟨S2048x2048, .i32⟩
  | 35 => ⟨S2048x2048, .i32⟩
  | 36 => ⟨S_, .i32⟩
  | 37 => ⟨S2048x2048, .i32⟩
  | 38 => ⟨S2048x2048, .i32⟩
  | 39 => ⟨S_, .i32⟩
  | 40 => ⟨S2048x2048, .i32⟩
  | 41 => ⟨S2048x2048, .i32⟩
  | 42 => ⟨S2048x2048, .i32⟩
  | 43 => ⟨S2048x2048, .i32⟩
  | 44 => ⟨S2048x2048, .i32⟩
  | 45 => ⟨S_, .i32⟩
  | 46 => ⟨S2048x2048, .i32⟩
  | 47 => ⟨S2048x2048, .i32⟩
  | 48 => ⟨S_, .i32⟩
  | 49 => ⟨S2048x2048, .i32⟩
  | 50 => ⟨S2048x2048, .i32⟩
  | 51 => ⟨S2048x2048, .i32⟩
  | 52 => ⟨S2048x2048, .i32⟩
  | 53 => ⟨S2048x2048, .i32⟩
  | 54 => ⟨S_, .i32⟩
  | 55 => ⟨S2048x2048, .i32⟩
  | 56 => ⟨S2048x2048, .i32⟩
  | 57 => ⟨S_, .i32⟩
  | 58 => ⟨S2048x2048, .i32⟩
  | 59 => ⟨S2048x2048, .i32⟩
  | 60 => ⟨S2048x2048, .i32⟩
  | 61 => ⟨S2048x2048, .i32⟩
  | 62 => ⟨S2048x2048, .i32⟩
  | 63 => ⟨S_, .i32⟩
  | 64 => ⟨S2048x2048, .i32⟩
  | 65 => ⟨S2048x2048, .i32⟩
  | 66 => ⟨S_, .i32⟩
  | 67 => ⟨S2048x2048, .i32⟩
  | 68 => ⟨S2048x2048, .i32⟩
  | 69 => ⟨S2048x2048, .i32⟩
  | 70 => ⟨S2048x2048, .i32⟩
  | 71 => ⟨S2048x2048, .i32⟩
  | 72 => ⟨S2048x2048, .i32⟩
  | 73 => ⟨S2048x2048, .i32⟩
  | 74 => ⟨S2048x2048, .i32⟩
  | 75 => ⟨S_, .i32⟩
  | 76 => ⟨S2048x2048, .i32⟩
  | 77 => ⟨S2048x2048, .i32⟩
  | 78 => ⟨S2048x2048, .i32⟩
  | 79 => ⟨S_, .i32⟩
  | 80 => ⟨S2048x2048, .i32⟩
  | 81 => ⟨S2048x2048, .i32⟩
  | 82 => ⟨S_, .i32⟩
  | 83 => ⟨S2048x2048, .i32⟩
  | 84 => ⟨S2048x2048, .i32⟩
  | 85 => ⟨S2048x2048, .i32⟩
  | 86 => ⟨S2048x2048, .i32⟩
  | 87 => ⟨S2048x2048, .i32⟩
  | 88 => ⟨S_, .i32⟩
  | 89 => ⟨S2048x2048, .i32⟩
  | 90 => ⟨S2048x2048, .i32⟩
  | 91 => ⟨S_, .i32⟩
  | 92 => ⟨S2048x2048, .i32⟩
  | 93 => ⟨S2048x2048, .i32⟩
  | 94 => ⟨S2048x2048, .i32⟩
  | 95 => ⟨S2048x2048, .i32⟩
  | 96 => ⟨S2048x2048, .i32⟩
  | 97 => ⟨S_, .i32⟩
  | 98 => ⟨S2048x2048, .i32⟩
  | 99 => ⟨S2048x2048, .i32⟩
  | 100 => ⟨S_, .i32⟩
  | 101 => ⟨S2048x2048, .i32⟩
  | 102 => ⟨S2048x2048, .i32⟩
  | 103 => ⟨S2048x2048, .i32⟩
  | 104 => ⟨S2048x2048, .i32⟩
  | 105 => ⟨S2048x2048, .i32⟩
  | 106 => ⟨S_, .i32⟩
  | 107 => ⟨S2048x2048, .i32⟩
  | 108 => ⟨S2048x2048, .i32⟩
  | 109 => ⟨S_, .i32⟩
  | 110 => ⟨S2048x2048, .i32⟩
  | 111 => ⟨S2048x2048, .i32⟩
  | 112 => ⟨S2048x2048, .i32⟩
  | 113 => ⟨S2048x2048, .i32⟩
  | 114 => ⟨S2048x2048, .i32⟩
  | 115 => ⟨S2048x2048, .i32⟩
  | 116 => ⟨S2048x2048, .i32⟩
  | 117 => ⟨S2048x2048, .i32⟩
  | 118 => ⟨S_, .i32⟩
  | 119 => ⟨S2048x2048, .i32⟩
  | 120 => ⟨S2048x2048, .i32⟩
  | 121 => ⟨S2048x2048, .i32⟩
  | 122 => ⟨S_, .i32⟩
  | 123 => ⟨S2048x2048, .i32⟩
  | 124 => ⟨S2048x2048, .i32⟩
  | 125 => ⟨S_, .i32⟩
  | 126 => ⟨S2048x2048, .i32⟩
  | 127 => ⟨S2048x2048, .i32⟩
  | _ => ⟨S2048x128, .f32⟩

abbrev hbmTy0_5 (i : Nat) : BufTy := match i % 128 with
  | 0 => ⟨S2048x2048, .i32⟩
  | 1 => ⟨S2048x2048, .i32⟩
  | 2 => ⟨S2048x2048, .i32⟩
  | 3 => ⟨S_, .i32⟩
  | 4 => ⟨S2048x2048, .i32⟩
  | 5 => ⟨S2048x2048, .i32⟩
  | 6 => ⟨S_, .i32⟩
  | 7 => ⟨S2048x2048, .i32⟩
  | 8 => ⟨S2048x2048, .i32⟩
  | 9 => ⟨S2048x2048, .i32⟩
  | 10 => ⟨S2048x2048, .i32⟩
  | 11 => ⟨S2048x2048, .i32⟩
  | 12 => ⟨S_, .i32⟩
  | 13 => ⟨S2048x2048, .i32⟩
  | 14 => ⟨S2048x2048, .i32⟩
  | 15 => ⟨S_, .i32⟩
  | 16 => ⟨S2048x2048, .i32⟩
  | 17 => ⟨S2048x2048, .i32⟩
  | 18 => ⟨S2048x2048, .i32⟩
  | 19 => ⟨S2048x2048, .i32⟩
  | 20 => ⟨S2048x2048, .i32⟩
  | 21 => ⟨S_, .i32⟩
  | 22 => ⟨S2048x2048, .i32⟩
  | 23 => ⟨S2048x2048, .i32⟩
  | 24 => ⟨S_, .i32⟩
  | 25 => ⟨S2048x2048, .i32⟩
  | 26 => ⟨S2048x2048, .i32⟩
  | 27 => ⟨S2048x2048, .i32⟩
  | 28 => ⟨S2048x2048, .i32⟩
  | 29 => ⟨S2048x2048, .i32⟩
  | 30 => ⟨S2048x2048, .i32⟩
  | 31 => ⟨S2048x2048, .i32⟩
  | 32 => ⟨S2048x2048, .i32⟩
  | 33 => ⟨S_, .i32⟩
  | 34 => ⟨S2048x2048, .i32⟩
  | 35 => ⟨S2048x2048, .i32⟩
  | 36 => ⟨S2048x2048, .i32⟩
  | 37 => ⟨S_, .i32⟩
  | 38 => ⟨S2048x2048, .i32⟩
  | 39 => ⟨S2048x2048, .i32⟩
  | 40 => ⟨S_, .i32⟩
  | 41 => ⟨S2048x2048, .i32⟩
  | 42 => ⟨S2048x2048, .i32⟩
  | 43 => ⟨S2048x2048, .i32⟩
  | 44 => ⟨S2048x2048, .i32⟩
  | 45 => ⟨S2048x2048, .i32⟩
  | 46 => ⟨S_, .i32⟩
  | 47 => ⟨S2048x2048, .i32⟩
  | 48 => ⟨S2048x2048, .i32⟩
  | 49 => ⟨S_, .i32⟩
  | 50 => ⟨S2048x2048, .i32⟩
  | 51 => ⟨S2048x2048, .i32⟩
  | 52 => ⟨S2048x2048, .i32⟩
  | 53 => ⟨S2048x2048, .i32⟩
  | 54 => ⟨S2048x2048, .i32⟩
  | 55 => ⟨S_, .i32⟩
  | 56 => ⟨S2048x2048, .i32⟩
  | 57 => ⟨S2048x2048, .i32⟩
  | 58 => ⟨S_, .i32⟩
  | 59 => ⟨S2048x2048, .i32⟩
  | 60 => ⟨S2048x2048, .i32⟩
  | 61 => ⟨S2048x2048, .i32⟩
  | 62 => ⟨S2048x2048, .i32⟩
  | 63 => ⟨S2048x2048, .i32⟩
  | 64 => ⟨S_, .i32⟩
  | 65 => ⟨S2048x2048, .i32⟩
  | 66 => ⟨S2048x2048, .i32⟩
  | 67 => ⟨S_, .i32⟩
  | 68 => ⟨S2048x2048, .i32⟩
  | 69 => ⟨S2048x2048, .i32⟩
  | 70 => ⟨S2048x2048, .i32⟩
  | 71 => ⟨S2048x2048, .i32⟩
  | 72 => ⟨S2048x2048, .i32⟩
  | 73 => ⟨S2048x2048, .i32⟩
  | 74 => ⟨S2048x2048, .i32⟩
  | 75 => ⟨S2048x2048, .i32⟩
  | 76 => ⟨S_, .i32⟩
  | 77 => ⟨S2048x2048, .i32⟩
  | 78 => ⟨S2048x2048, .i32⟩
  | 79 => ⟨S2048x2048, .i32⟩
  | 80 => ⟨S_, .i32⟩
  | 81 => ⟨S2048x2048, .i32⟩
  | 82 => ⟨S2048x2048, .i32⟩
  | 83 => ⟨S_, .i32⟩
  | 84 => ⟨S2048x2048, .i32⟩
  | 85 => ⟨S2048x2048, .i32⟩
  | 86 => ⟨S2048x2048, .i32⟩
  | 87 => ⟨S2048x2048, .i32⟩
  | 88 => ⟨S2048x2048, .i32⟩
  | 89 => ⟨S_, .i32⟩
  | 90 => ⟨S2048x2048, .i32⟩
  | 91 => ⟨S2048x2048, .i32⟩
  | 92 => ⟨S_, .i32⟩
  | 93 => ⟨S2048x2048, .i32⟩
  | 94 => ⟨S2048x2048, .i32⟩
  | 95 => ⟨S2048x2048, .i32⟩
  | 96 => ⟨S2048x2048, .i32⟩
  | 97 => ⟨S2048x2048, .i32⟩
  | 98 => ⟨S_, .i32⟩
  | 99 => ⟨S2048x2048, .i32⟩
  | 100 => ⟨S2048x2048, .i32⟩
  | 101 => ⟨S_, .i32⟩
  | 102 => ⟨S2048x2048, .i32⟩
  | 103 => ⟨S2048x2048, .i32⟩
  | 104 => ⟨S2048x2048, .i32⟩
  | 105 => ⟨S2048x2048, .i32⟩
  | 106 => ⟨S2048x2048, .i32⟩
  | 107 => ⟨S_, .i32⟩
  | 108 => ⟨S2048x2048, .i32⟩
  | 109 => ⟨S2048x2048, .i32⟩
  | 110 => ⟨S_, .i32⟩
  | 111 => ⟨S2048x2048, .i32⟩
  | 112 => ⟨S2048x2048, .i32⟩
  | 113 => ⟨S2048x2048, .i32⟩
  | 114 => ⟨S2048x2048, .i32⟩
  | 115 => ⟨S2048x2048, .i32⟩
  | 116 => ⟨S2048x2048, .i32⟩
  | 117 => ⟨S2048x2048, .i32⟩
  | 118 => ⟨S2048x2048, .i32⟩
  | 119 => ⟨S_, .i32⟩
  | 120 => ⟨S2048x2048, .i32⟩
  | 121 => ⟨S2048x2048, .i32⟩
  | 122 => ⟨S2048x2048, .i32⟩
  | 123 => ⟨S_, .i32⟩
  | 124 => ⟨S2048x2048, .i32⟩
  | 125 => ⟨S2048x2048, .i32⟩
  | 126 => ⟨S2048x2048, .i32⟩
  | 127 => ⟨S2048x2048, .f32⟩
  | _ => ⟨S2048x128, .f32⟩

abbrev hbmTy0_6 (i : Nat) : BufTy := match i % 128 with
  | 0 => ⟨S_, .f32⟩
  | 1 => ⟨S2048x2048, .f32⟩
  | 2 => ⟨S2048x2048, .f32⟩
  | 3 => ⟨S_, .f32⟩
  | 4 => ⟨S2048x2048, .f32⟩
  | 5 => ⟨S2048x2048, .f32⟩
  | 6 => ⟨S_, .f32⟩
  | 7 => ⟨S2048x2048, .f32⟩
  | 8 => ⟨S2048x2048, .f32⟩
  | 9 => ⟨S_, .f32⟩
  | 10 => ⟨S2048x2048, .f32⟩
  | 11 => ⟨S2048x2048, .f32⟩
  | 12 => ⟨S2048x2048, .f32⟩
  | 13 => ⟨S2048x2048, .f32⟩
  | 14 => ⟨S2048x2048, .f32⟩
  | 15 => ⟨S2048x2048, .f32⟩
  | 16 => ⟨S2048x2048, .f32⟩
  | 17 => ⟨S2048x2048, .f32⟩
  | 18 => ⟨S_, .f32⟩
  | 19 => ⟨S2048x2048, .f32⟩
  | 20 => ⟨S2048x2048, .f32⟩
  | 21 => ⟨S2048x2048, .f32⟩
  | 22 => ⟨S2048x2048, .f32⟩
  | 23 => ⟨S_, .f32⟩
  | 24 => ⟨S2048x2048, .f32⟩
  | 25 => ⟨S2048x2048, .f32⟩
  | 26 => ⟨S_, .f32⟩
  | 27 => ⟨S2048x2048, .f32⟩
  | 28 => ⟨S2048x2048, .f32⟩
  | 29 => ⟨S_, .f32⟩
  | 30 => ⟨S2048x2048, .f32⟩
  | 31 => ⟨S2048x2048, .i1⟩
  | 32 => ⟨S2048x2048, .f32⟩
  | 33 => ⟨S2048x2048, .f32⟩
  | 34 => ⟨S2048x2048, .f32⟩
  | 35 => ⟨S2048, .i32⟩
  | 36 => ⟨S2048x2048, .i32⟩
  | 37 => ⟨S4194304, .i32⟩
  | 38 => ⟨S2048, .i32⟩
  | 39 => ⟨S1x2048, .i32⟩
  | 40 => ⟨S2048x2048, .i32⟩
  | 41 => ⟨S4194304, .i32⟩
  | 42 => ⟨S1x4194304, .i32⟩
  | 43 => ⟨S1x4194304, .i32⟩
  | 44 => ⟨S2x4194304, .i32⟩
  | 45 => ⟨S4194304, .f32⟩
  | _ => ⟨S2048x128, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | 6 => hbmTy0_6 i
  | _ => ⟨S2048x128, .f32⟩

abbrev bufTy : (tb : Table) → Fin (tcTables nBuf tb) → BufTy
  | .hbm, ⟨i, _⟩ => hbmTy i
  | _, _ => ⟨S2048x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_c : Ref sig .tc := ⟨.hbm, 8, rfl⟩
abbrev main_c_0 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_c_1 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_call0_v0 : Ref sig .tc := ⟨.hbm, 18, rfl⟩
abbrev main_call0_v1 : Ref sig .tc := ⟨.hbm, 19, rfl⟩
abbrev main_call0_v2 : Ref sig .tc := ⟨.hbm, 20, rfl⟩
abbrev main_call0_v3 : Ref sig .tc := ⟨.hbm, 21, rfl⟩
abbrev main_call0_v4 : Ref sig .tc := ⟨.hbm, 22, rfl⟩
abbrev main_call0_c : Ref sig .tc := ⟨.hbm, 23, rfl⟩
abbrev main_call0_v5 : Ref sig .tc := ⟨.hbm, 24, rfl⟩
abbrev main_call0_v6 : Ref sig .tc := ⟨.hbm, 25, rfl⟩
abbrev main_call0_c_0 : Ref sig .tc := ⟨.hbm, 26, rfl⟩
abbrev main_call0_v7 : Ref sig .tc := ⟨.hbm, 27, rfl⟩
abbrev main_call0_v8 : Ref sig .tc := ⟨.hbm, 28, rfl⟩
abbrev main_call0_v9 : Ref sig .tc := ⟨.hbm, 29, rfl⟩
abbrev main_call0_v10 : Ref sig .tc := ⟨.hbm, 30, rfl⟩
abbrev main_call0_call0_v0 : Ref sig .tc := ⟨.hbm, 31, rfl⟩
abbrev main_call0_call0_c : Ref sig .tc := ⟨.hbm, 32, rfl⟩
abbrev main_call0_call0_v1 : Ref sig .tc := ⟨.hbm, 33, rfl⟩
abbrev main_call0_call0_v2 : Ref sig .tc := ⟨.hbm, 34, rfl⟩
abbrev main_call0_call0_v3 : Ref sig .tc := ⟨.hbm, 35, rfl⟩
abbrev main_call0_call0_v4 : Ref sig .tc := ⟨.hbm, 36, rfl⟩
abbrev main_call0_call0_v5 : Ref sig .tc := ⟨.hbm, 37, rfl⟩
abbrev main_call0_call0_v6 : Ref sig .tc := ⟨.hbm, 38, rfl⟩
abbrev main_call0_call0_c_0 : Ref sig .tc := ⟨.hbm, 39, rfl⟩
abbrev main_call0_call0_v7 : Ref sig .tc := ⟨.hbm, 40, rfl⟩
abbrev main_call0_call0_v8 : Ref sig .tc := ⟨.hbm, 41, rfl⟩
abbrev main_call0_call0_c_1 : Ref sig .tc := ⟨.hbm, 42, rfl⟩
abbrev main_call0_call0_v9 : Ref sig .tc := ⟨.hbm, 43, rfl⟩
abbrev main_call0_call0_v10 : Ref sig .tc := ⟨.hbm, 44, rfl⟩
abbrev main_call0_call0_v11 : Ref sig .tc := ⟨.hbm, 45, rfl⟩
abbrev main_call0_call0_v12 : Ref sig .tc := ⟨.hbm, 46, rfl⟩
abbrev main_call0_call0_v13 : Ref sig .tc := ⟨.hbm, 47, rfl⟩
abbrev main_call0_call0_c_2 : Ref sig .tc := ⟨.hbm, 48, rfl⟩
abbrev main_call0_call0_v14 : Ref sig .tc := ⟨.hbm, 49, rfl⟩
abbrev main_call0_call0_v15 : Ref sig .tc := ⟨.hbm, 50, rfl⟩
abbrev main_call0_call0_c_3 : Ref sig .tc := ⟨.hbm, 51, rfl⟩
abbrev main_call0_call0_v16 : Ref sig .tc := ⟨.hbm, 52, rfl⟩
abbrev main_call0_call0_v17 : Ref sig .tc := ⟨.hbm, 53, rfl⟩
abbrev main_call0_call0_v18 : Ref sig .tc := ⟨.hbm, 54, rfl⟩
abbrev main_call0_call0_v19 : Ref sig .tc := ⟨.hbm, 55, rfl⟩
abbrev main_call0_call0_v20 : Ref sig .tc := ⟨.hbm, 56, rfl⟩
abbrev main_call0_call0_c_4 : Ref sig .tc := ⟨.hbm, 57, rfl⟩
abbrev main_call0_call0_v21 : Ref sig .tc := ⟨.hbm, 58, rfl⟩
abbrev main_call0_call0_v22 : Ref sig .tc := ⟨.hbm, 59, rfl⟩
abbrev main_call0_call0_c_5 : Ref sig .tc := ⟨.hbm, 60, rfl⟩
abbrev main_call0_call0_v23 : Ref sig .tc := ⟨.hbm, 61, rfl⟩
abbrev main_call0_call0_v24 : Ref sig .tc := ⟨.hbm, 62, rfl⟩
abbrev main_call0_call0_v25 : Ref sig .tc := ⟨.hbm, 63, rfl⟩
abbrev main_call0_call0_v26 : Ref sig .tc := ⟨.hbm, 64, rfl⟩
abbrev main_call0_call0_v27 : Ref sig .tc := ⟨.hbm, 65, rfl⟩
abbrev main_call0_call0_c_6 : Ref sig .tc := ⟨.hbm, 66, rfl⟩
abbrev main_call0_call0_v28 : Ref sig .tc := ⟨.hbm, 67, rfl⟩
abbrev main_call0_call0_v29 : Ref sig .tc := ⟨.hbm, 68, rfl⟩
abbrev main_call0_call0_c_7 : Ref sig .tc := ⟨.hbm, 69, rfl⟩
abbrev main_call0_call0_v30 : Ref sig .tc := ⟨.hbm, 70, rfl⟩
abbrev main_call0_call0_v31 : Ref sig .tc := ⟨.hbm, 71, rfl⟩
abbrev main_call0_call0_v32 : Ref sig .tc := ⟨.hbm, 72, rfl⟩
abbrev main_call0_call0_v33 : Ref sig .tc := ⟨.hbm, 73, rfl⟩
abbrev main_call0_call0_v34 : Ref sig .tc := ⟨.hbm, 74, rfl⟩
abbrev main_call0_call0_v35 : Ref sig .tc := ⟨.hbm, 75, rfl⟩
abbrev main_call0_call0_v36 : Ref sig .tc := ⟨.hbm, 76, rfl⟩
abbrev main_call0_call0_v37 : Ref sig .tc := ⟨.hbm, 77, rfl⟩
abbrev main_call0_call0_c_8 : Ref sig .tc := ⟨.hbm, 78, rfl⟩
abbrev main_call0_call0_v38 : Ref sig .tc := ⟨.hbm, 79, rfl⟩
abbrev main_call0_call0_v39 : Ref sig .tc := ⟨.hbm, 80, rfl⟩
abbrev main_call0_call0_v40 : Ref sig .tc := ⟨.hbm, 81, rfl⟩
abbrev main_call0_call0_c_9 : Ref sig .tc := ⟨.hbm, 82, rfl⟩
abbrev main_call0_call0_v41 : Ref sig .tc := ⟨.hbm, 83, rfl⟩
abbrev main_call0_call0_v42 : Ref sig .tc := ⟨.hbm, 84, rfl⟩
abbrev main_call0_call0_c_10 : Ref sig .tc := ⟨.hbm, 85, rfl⟩
abbrev main_call0_call0_v43 : Ref sig .tc := ⟨.hbm, 86, rfl⟩
abbrev main_call0_call0_v44 : Ref sig .tc := ⟨.hbm, 87, rfl⟩
abbrev main_call0_call0_v45 : Ref sig .tc := ⟨.hbm, 88, rfl⟩
abbrev main_call0_call0_v46 : Ref sig .tc := ⟨.hbm, 89, rfl⟩
abbrev main_call0_call0_v47 : Ref sig .tc := ⟨.hbm, 90, rfl⟩
abbrev main_call0_call0_c_11 : Ref sig .tc := ⟨.hbm, 91, rfl⟩
abbrev main_call0_call0_v48 : Ref sig .tc := ⟨.hbm, 92, rfl⟩
abbrev main_call0_call0_v49 : Ref sig .tc := ⟨.hbm, 93, rfl⟩
abbrev main_call0_call0_c_12 : Ref sig .tc := ⟨.hbm, 94, rfl⟩
abbrev main_call0_call0_v50 : Ref sig .tc := ⟨.hbm, 95, rfl⟩
abbrev main_call0_call0_v51 : Ref sig .tc := ⟨.hbm, 96, rfl⟩
abbrev main_call0_call0_v52 : Ref sig .tc := ⟨.hbm, 97, rfl⟩
abbrev main_call0_call0_v53 : Ref sig .tc := ⟨.hbm, 98, rfl⟩
abbrev main_call0_call0_v54 : Ref sig .tc := ⟨.hbm, 99, rfl⟩
abbrev main_call0_call0_c_13 : Ref sig .tc := ⟨.hbm, 100, rfl⟩
abbrev main_call0_call0_v55 : Ref sig .tc := ⟨.hbm, 101, rfl⟩
abbrev main_call0_call0_v56 : Ref sig .tc := ⟨.hbm, 102, rfl⟩
abbrev main_call0_call0_c_14 : Ref sig .tc := ⟨.hbm, 103, rfl⟩
abbrev main_call0_call0_v57 : Ref sig .tc := ⟨.hbm, 104, rfl⟩
abbrev main_call0_call0_v58 : Ref sig .tc := ⟨.hbm, 105, rfl⟩
abbrev main_call0_call0_v59 : Ref sig .tc := ⟨.hbm, 106, rfl⟩
abbrev main_call0_call0_v60 : Ref sig .tc := ⟨.hbm, 107, rfl⟩
abbrev main_call0_call0_v61 : Ref sig .tc := ⟨.hbm, 108, rfl⟩
abbrev main_call0_call0_c_15 : Ref sig .tc := ⟨.hbm, 109, rfl⟩
abbrev main_call0_call0_v62 : Ref sig .tc := ⟨.hbm, 110, rfl⟩
abbrev main_call0_call0_v63 : Ref sig .tc := ⟨.hbm, 111, rfl⟩
abbrev main_call0_call0_c_16 : Ref sig .tc := ⟨.hbm, 112, rfl⟩
abbrev main_call0_call0_v64 : Ref sig .tc := ⟨.hbm, 113, rfl⟩
abbrev main_call0_call0_v65 : Ref sig .tc := ⟨.hbm, 114, rfl⟩
abbrev main_call0_call0_v66 : Ref sig .tc := ⟨.hbm, 115, rfl⟩
abbrev main_call0_call0_v67 : Ref sig .tc := ⟨.hbm, 116, rfl⟩
abbrev main_call0_call0_v68 : Ref sig .tc := ⟨.hbm, 117, rfl⟩
abbrev main_call0_call0_v69 : Ref sig .tc := ⟨.hbm, 118, rfl⟩
abbrev main_call0_call0_v70 : Ref sig .tc := ⟨.hbm, 119, rfl⟩
abbrev main_call0_call0_v71 : Ref sig .tc := ⟨.hbm, 120, rfl⟩
abbrev main_call0_call0_c_17 : Ref sig .tc := ⟨.hbm, 121, rfl⟩
abbrev main_call0_call0_v72 : Ref sig .tc := ⟨.hbm, 122, rfl⟩
abbrev main_call0_call0_v73 : Ref sig .tc := ⟨.hbm, 123, rfl⟩
abbrev main_call0_call0_v74 : Ref sig .tc := ⟨.hbm, 124, rfl⟩
abbrev main_call0_call0_c_18 : Ref sig .tc := ⟨.hbm, 125, rfl⟩
abbrev main_call0_call0_v75 : Ref sig .tc := ⟨.hbm, 126, rfl⟩
abbrev main_call0_call0_v76 : Ref sig .tc := ⟨.hbm, 127, rfl⟩
abbrev main_call0_call0_c_19 : Ref sig .tc := ⟨.hbm, 128, rfl⟩
abbrev main_call0_call0_v77 : Ref sig .tc := ⟨.hbm, 129, rfl⟩
abbrev main_call0_call0_v78 : Ref sig .tc := ⟨.hbm, 130, rfl⟩
abbrev main_call0_call0_v79 : Ref sig .tc := ⟨.hbm, 131, rfl⟩
abbrev main_call0_call0_v80 : Ref sig .tc := ⟨.hbm, 132, rfl⟩
abbrev main_call0_call0_v81 : Ref sig .tc := ⟨.hbm, 133, rfl⟩
abbrev main_call0_call0_c_20 : Ref sig .tc := ⟨.hbm, 134, rfl⟩
abbrev main_call0_call0_v82 : Ref sig .tc := ⟨.hbm, 135, rfl⟩
abbrev main_call0_call0_v83 : Ref sig .tc := ⟨.hbm, 136, rfl⟩
abbrev main_call0_call0_c_21 : Ref sig .tc := ⟨.hbm, 137, rfl⟩
abbrev main_call0_call0_v84 : Ref sig .tc := ⟨.hbm, 138, rfl⟩
abbrev main_call0_call0_v85 : Ref sig .tc := ⟨.hbm, 139, rfl⟩
abbrev main_call0_call0_v86 : Ref sig .tc := ⟨.hbm, 140, rfl⟩
abbrev main_call0_call0_v87 : Ref sig .tc := ⟨.hbm, 141, rfl⟩
abbrev main_call0_call0_v88 : Ref sig .tc := ⟨.hbm, 142, rfl⟩
abbrev main_call0_call0_c_22 : Ref sig .tc := ⟨.hbm, 143, rfl⟩
abbrev main_call0_call0_v89 : Ref sig .tc := ⟨.hbm, 144, rfl⟩
abbrev main_call0_call0_v90 : Ref sig .tc := ⟨.hbm, 145, rfl⟩
abbrev main_call0_call0_c_23 : Ref sig .tc := ⟨.hbm, 146, rfl⟩
abbrev main_call0_call0_v91 : Ref sig .tc := ⟨.hbm, 147, rfl⟩
abbrev main_call0_call0_v92 : Ref sig .tc := ⟨.hbm, 148, rfl⟩
abbrev main_call0_call0_v93 : Ref sig .tc := ⟨.hbm, 149, rfl⟩
abbrev main_call0_call0_v94 : Ref sig .tc := ⟨.hbm, 150, rfl⟩
abbrev main_call0_call0_v95 : Ref sig .tc := ⟨.hbm, 151, rfl⟩
abbrev main_call0_call0_c_24 : Ref sig .tc := ⟨.hbm, 152, rfl⟩
abbrev main_call0_call0_v96 : Ref sig .tc := ⟨.hbm, 153, rfl⟩
abbrev main_call0_call0_v97 : Ref sig .tc := ⟨.hbm, 154, rfl⟩
abbrev main_call0_call0_c_25 : Ref sig .tc := ⟨.hbm, 155, rfl⟩
abbrev main_call0_call0_v98 : Ref sig .tc := ⟨.hbm, 156, rfl⟩
abbrev main_call0_call0_v99 : Ref sig .tc := ⟨.hbm, 157, rfl⟩
abbrev main_call0_call0_v100 : Ref sig .tc := ⟨.hbm, 158, rfl⟩
abbrev main_call0_call0_v101 : Ref sig .tc := ⟨.hbm, 159, rfl⟩
abbrev main_call0_call0_v102 : Ref sig .tc := ⟨.hbm, 160, rfl⟩
abbrev main_call0_call0_v103 : Ref sig .tc := ⟨.hbm, 161, rfl⟩
abbrev main_call0_call0_v104 : Ref sig .tc := ⟨.hbm, 162, rfl⟩
abbrev main_call0_call0_v105 : Ref sig .tc := ⟨.hbm, 163, rfl⟩
abbrev main_call0_call0_c_26 : Ref sig .tc := ⟨.hbm, 164, rfl⟩
abbrev main_call0_call0_v106 : Ref sig .tc := ⟨.hbm, 165, rfl⟩
abbrev main_call0_call0_v107 : Ref sig .tc := ⟨.hbm, 166, rfl⟩
abbrev main_call0_call0_v108 : Ref sig .tc := ⟨.hbm, 167, rfl⟩
abbrev main_call0_call0_c_27 : Ref sig .tc := ⟨.hbm, 168, rfl⟩
abbrev main_call0_call0_v109 : Ref sig .tc := ⟨.hbm, 169, rfl⟩
abbrev main_call0_call0_v110 : Ref sig .tc := ⟨.hbm, 170, rfl⟩
abbrev main_call0_call0_c_28 : Ref sig .tc := ⟨.hbm, 171, rfl⟩
abbrev main_call0_call0_v111 : Ref sig .tc := ⟨.hbm, 172, rfl⟩
abbrev main_call0_call0_v112 : Ref sig .tc := ⟨.hbm, 173, rfl⟩
abbrev main_call0_call0_v113 : Ref sig .tc := ⟨.hbm, 174, rfl⟩
abbrev main_call0_call0_v114 : Ref sig .tc := ⟨.hbm, 175, rfl⟩
abbrev main_call0_call0_v115 : Ref sig .tc := ⟨.hbm, 176, rfl⟩
abbrev main_call0_call0_c_29 : Ref sig .tc := ⟨.hbm, 177, rfl⟩
abbrev main_call0_call0_v116 : Ref sig .tc := ⟨.hbm, 178, rfl⟩
abbrev main_call0_call0_v117 : Ref sig .tc := ⟨.hbm, 179, rfl⟩
abbrev main_call0_call0_c_30 : Ref sig .tc := ⟨.hbm, 180, rfl⟩
abbrev main_call0_call0_v118 : Ref sig .tc := ⟨.hbm, 181, rfl⟩
abbrev main_call0_call0_v119 : Ref sig .tc := ⟨.hbm, 182, rfl⟩
abbrev main_call0_call0_v120 : Ref sig .tc := ⟨.hbm, 183, rfl⟩
abbrev main_call0_call0_v121 : Ref sig .tc := ⟨.hbm, 184, rfl⟩
abbrev main_call0_call0_v122 : Ref sig .tc := ⟨.hbm, 185, rfl⟩
abbrev main_call0_call0_c_31 : Ref sig .tc := ⟨.hbm, 186, rfl⟩
abbrev main_call0_call0_v123 : Ref sig .tc := ⟨.hbm, 187, rfl⟩
abbrev main_call0_call0_v124 : Ref sig .tc := ⟨.hbm, 188, rfl⟩
abbrev main_call0_call0_c_32 : Ref sig .tc := ⟨.hbm, 189, rfl⟩
abbrev main_call0_call0_v125 : Ref sig .tc := ⟨.hbm, 190, rfl⟩
abbrev main_call0_call0_v126 : Ref sig .tc := ⟨.hbm, 191, rfl⟩
abbrev main_call0_call0_v127 : Ref sig .tc := ⟨.hbm, 192, rfl⟩
abbrev main_call0_call0_v128 : Ref sig .tc := ⟨.hbm, 193, rfl⟩
abbrev main_call0_call0_v129 : Ref sig .tc := ⟨.hbm, 194, rfl⟩
abbrev main_call0_call0_c_33 : Ref sig .tc := ⟨.hbm, 195, rfl⟩
abbrev main_call0_call0_v130 : Ref sig .tc := ⟨.hbm, 196, rfl⟩
abbrev main_call0_call0_v131 : Ref sig .tc := ⟨.hbm, 197, rfl⟩
abbrev main_call0_call0_c_34 : Ref sig .tc := ⟨.hbm, 198, rfl⟩
abbrev main_call0_call0_v132 : Ref sig .tc := ⟨.hbm, 199, rfl⟩
abbrev main_call0_call0_v133 : Ref sig .tc := ⟨.hbm, 200, rfl⟩
abbrev main_call0_call0_v134 : Ref sig .tc := ⟨.hbm, 201, rfl⟩
abbrev main_call0_call0_v135 : Ref sig .tc := ⟨.hbm, 202, rfl⟩
abbrev main_call0_call0_v136 : Ref sig .tc := ⟨.hbm, 203, rfl⟩
abbrev main_call0_call0_v137 : Ref sig .tc := ⟨.hbm, 204, rfl⟩
abbrev main_call0_call0_v138 : Ref sig .tc := ⟨.hbm, 205, rfl⟩
abbrev main_call0_call0_v139 : Ref sig .tc := ⟨.hbm, 206, rfl⟩
abbrev main_call0_call0_c_35 : Ref sig .tc := ⟨.hbm, 207, rfl⟩
abbrev main_call0_call0_v140 : Ref sig .tc := ⟨.hbm, 208, rfl⟩
abbrev main_call0_call0_v141 : Ref sig .tc := ⟨.hbm, 209, rfl⟩
abbrev main_call0_call0_v142 : Ref sig .tc := ⟨.hbm, 210, rfl⟩
abbrev main_call0_call0_c_36 : Ref sig .tc := ⟨.hbm, 211, rfl⟩
abbrev main_call0_call0_v143 : Ref sig .tc := ⟨.hbm, 212, rfl⟩
abbrev main_call0_call0_v144 : Ref sig .tc := ⟨.hbm, 213, rfl⟩
abbrev main_call0_call0_c_37 : Ref sig .tc := ⟨.hbm, 214, rfl⟩
abbrev main_call0_call0_v145 : Ref sig .tc := ⟨.hbm, 215, rfl⟩
abbrev main_call0_call0_v146 : Ref sig .tc := ⟨.hbm, 216, rfl⟩
abbrev main_call0_call0_v147 : Ref sig .tc := ⟨.hbm, 217, rfl⟩
abbrev main_call0_call0_v148 : Ref sig .tc := ⟨.hbm, 218, rfl⟩
abbrev main_call0_call0_v149 : Ref sig .tc := ⟨.hbm, 219, rfl⟩
abbrev main_call0_call0_c_38 : Ref sig .tc := ⟨.hbm, 220, rfl⟩
abbrev main_call0_call0_v150 : Ref sig .tc := ⟨.hbm, 221, rfl⟩
abbrev main_call0_call0_v151 : Ref sig .tc := ⟨.hbm, 222, rfl⟩
abbrev main_call0_call0_c_39 : Ref sig .tc := ⟨.hbm, 223, rfl⟩
abbrev main_call0_call0_v152 : Ref sig .tc := ⟨.hbm, 224, rfl⟩
abbrev main_call0_call0_v153 : Ref sig .tc := ⟨.hbm, 225, rfl⟩
abbrev main_call0_call0_v154 : Ref sig .tc := ⟨.hbm, 226, rfl⟩
abbrev main_call0_call0_v155 : Ref sig .tc := ⟨.hbm, 227, rfl⟩
abbrev main_call0_call0_v156 : Ref sig .tc := ⟨.hbm, 228, rfl⟩
abbrev main_call0_call0_c_40 : Ref sig .tc := ⟨.hbm, 229, rfl⟩
abbrev main_call0_call0_v157 : Ref sig .tc := ⟨.hbm, 230, rfl⟩
abbrev main_call0_call0_v158 : Ref sig .tc := ⟨.hbm, 231, rfl⟩
abbrev main_call0_call0_c_41 : Ref sig .tc := ⟨.hbm, 232, rfl⟩
abbrev main_call0_call0_v159 : Ref sig .tc := ⟨.hbm, 233, rfl⟩
abbrev main_call0_call0_v160 : Ref sig .tc := ⟨.hbm, 234, rfl⟩
abbrev main_call0_call0_v161 : Ref sig .tc := ⟨.hbm, 235, rfl⟩
abbrev main_call0_call0_v162 : Ref sig .tc := ⟨.hbm, 236, rfl⟩
abbrev main_call0_call0_v163 : Ref sig .tc := ⟨.hbm, 237, rfl⟩
abbrev main_call0_call0_c_42 : Ref sig .tc := ⟨.hbm, 238, rfl⟩
abbrev main_call0_call0_v164 : Ref sig .tc := ⟨.hbm, 239, rfl⟩
abbrev main_call0_call0_v165 : Ref sig .tc := ⟨.hbm, 240, rfl⟩
abbrev main_call0_call0_c_43 : Ref sig .tc := ⟨.hbm, 241, rfl⟩
abbrev main_call0_call0_v166 : Ref sig .tc := ⟨.hbm, 242, rfl⟩
abbrev main_call0_call0_v167 : Ref sig .tc := ⟨.hbm, 243, rfl⟩
abbrev main_call0_call0_v168 : Ref sig .tc := ⟨.hbm, 244, rfl⟩
abbrev main_call0_call0_v169 : Ref sig .tc := ⟨.hbm, 245, rfl⟩
abbrev main_call0_call0_v170 : Ref sig .tc := ⟨.hbm, 246, rfl⟩
abbrev main_call0_v11_0 : Ref sig .tc := ⟨.hbm, 247, rfl⟩
abbrev main_call0_call0_v172 : Ref sig .tc := ⟨.hbm, 248, rfl⟩
abbrev main_call0_call0_v173 : Ref sig .tc := ⟨.hbm, 249, rfl⟩
abbrev main_call0_call0_c_44 : Ref sig .tc := ⟨.hbm, 250, rfl⟩
abbrev main_call0_call0_v174 : Ref sig .tc := ⟨.hbm, 251, rfl⟩
abbrev main_call0_v11_1 : Ref sig .tc := ⟨.hbm, 252, rfl⟩
abbrev main_call0_v12 : Ref sig .tc := ⟨.hbm, 253, rfl⟩
abbrev main_call0_v13 : Ref sig .tc := ⟨.hbm, 254, rfl⟩
abbrev main_v12 : Ref sig .tc := ⟨.hbm, 255, rfl⟩
abbrev main_v13 : Ref sig .tc := ⟨.hbm, 256, rfl⟩
abbrev main_v14 : Ref sig .tc := ⟨.hbm, 257, rfl⟩
abbrev main_v15 : Ref sig .tc := ⟨.hbm, 258, rfl⟩
abbrev main_v16 : Ref sig .tc := ⟨.hbm, 259, rfl⟩
abbrev main_v17 : Ref sig .tc := ⟨.hbm, 260, rfl⟩
abbrev main_v18 : Ref sig .tc := ⟨.hbm, 261, rfl⟩
abbrev main_v19 : Ref sig .tc := ⟨.hbm, 262, rfl⟩
abbrev main_v20 : Ref sig .tc := ⟨.hbm, 263, rfl⟩
abbrev main_v21 : Ref sig .tc := ⟨.hbm, 264, rfl⟩
abbrev main_v22 : Ref sig .tc := ⟨.hbm, 265, rfl⟩
abbrev main_c_2 : Ref sig .tc := ⟨.hbm, 266, rfl⟩
abbrev main_v23 : Ref sig .tc := ⟨.hbm, 267, rfl⟩
abbrev main_v24 : Ref sig .tc := ⟨.hbm, 268, rfl⟩
abbrev main_c_3 : Ref sig .tc := ⟨.hbm, 269, rfl⟩
abbrev main_v25 : Ref sig .tc := ⟨.hbm, 270, rfl⟩
abbrev main_v26 : Ref sig .tc := ⟨.hbm, 271, rfl⟩
abbrev main_v27 : Ref sig .tc := ⟨.hbm, 272, rfl⟩
abbrev main_c_4 : Ref sig .tc := ⟨.hbm, 273, rfl⟩
abbrev main_v28 : Ref sig .tc := ⟨.hbm, 274, rfl⟩
abbrev main_v29 : Ref sig .tc := ⟨.hbm, 275, rfl⟩
abbrev main_v30 : Ref sig .tc := ⟨.hbm, 276, rfl⟩
abbrev main_v31 : Ref sig .tc := ⟨.hbm, 277, rfl⟩
abbrev main_call1_v0 : Ref sig .tc := ⟨.hbm, 278, rfl⟩
abbrev main_call1_c : Ref sig .tc := ⟨.hbm, 279, rfl⟩
abbrev main_call1_v1 : Ref sig .tc := ⟨.hbm, 280, rfl⟩
abbrev main_call1_v2 : Ref sig .tc := ⟨.hbm, 281, rfl⟩
abbrev main_call1_v3 : Ref sig .tc := ⟨.hbm, 282, rfl⟩
abbrev main_call1_v4 : Ref sig .tc := ⟨.hbm, 283, rfl⟩
abbrev main_call1_v5 : Ref sig .tc := ⟨.hbm, 284, rfl⟩
abbrev main_call1_v6 : Ref sig .tc := ⟨.hbm, 285, rfl⟩
abbrev main_call1_c_0 : Ref sig .tc := ⟨.hbm, 286, rfl⟩
abbrev main_call1_v7 : Ref sig .tc := ⟨.hbm, 287, rfl⟩
abbrev main_call1_v8 : Ref sig .tc := ⟨.hbm, 288, rfl⟩
abbrev main_call1_c_1 : Ref sig .tc := ⟨.hbm, 289, rfl⟩
abbrev main_call1_v9 : Ref sig .tc := ⟨.hbm, 290, rfl⟩
abbrev main_call1_v10 : Ref sig .tc := ⟨.hbm, 291, rfl⟩
abbrev main_call1_v11 : Ref sig .tc := ⟨.hbm, 292, rfl⟩
abbrev main_call1_v12 : Ref sig .tc := ⟨.hbm, 293, rfl⟩
abbrev main_call1_v13 : Ref sig .tc := ⟨.hbm, 294, rfl⟩
abbrev main_call1_c_2 : Ref sig .tc := ⟨.hbm, 295, rfl⟩
abbrev main_call1_v14 : Ref sig .tc := ⟨.hbm, 296, rfl⟩
abbrev main_call1_v15 : Ref sig .tc := ⟨.hbm, 297, rfl⟩
abbrev main_call1_c_3 : Ref sig .tc := ⟨.hbm, 298, rfl⟩
abbrev main_call1_v16 : Ref sig .tc := ⟨.hbm, 299, rfl⟩
abbrev main_call1_v17 : Ref sig .tc := ⟨.hbm, 300, rfl⟩
abbrev main_call1_v18 : Ref sig .tc := ⟨.hbm, 301, rfl⟩
abbrev main_call1_v19 : Ref sig .tc := ⟨.hbm, 302, rfl⟩
abbrev main_call1_v20 : Ref sig .tc := ⟨.hbm, 303, rfl⟩
abbrev main_call1_c_4 : Ref sig .tc := ⟨.hbm, 304, rfl⟩
abbrev main_call1_v21 : Ref sig .tc := ⟨.hbm, 305, rfl⟩
abbrev main_call1_v22 : Ref sig .tc := ⟨.hbm, 306, rfl⟩
abbrev main_call1_c_5 : Ref sig .tc := ⟨.hbm, 307, rfl⟩
abbrev main_call1_v23 : Ref sig .tc := ⟨.hbm, 308, rfl⟩
abbrev main_call1_v24 : Ref sig .tc := ⟨.hbm, 309, rfl⟩
abbrev main_call1_v25 : Ref sig .tc := ⟨.hbm, 310, rfl⟩
abbrev main_call1_v26 : Ref sig .tc := ⟨.hbm, 311, rfl⟩
abbrev main_call1_v27 : Ref sig .tc := ⟨.hbm, 312, rfl⟩
abbrev main_call1_c_6 : Ref sig .tc := ⟨.hbm, 313, rfl⟩
abbrev main_call1_v28 : Ref sig .tc := ⟨.hbm, 314, rfl⟩
abbrev main_call1_v29 : Ref sig .tc := ⟨.hbm, 315, rfl⟩
abbrev main_call1_c_7 : Ref sig .tc := ⟨.hbm, 316, rfl⟩
abbrev main_call1_v30 : Ref sig .tc := ⟨.hbm, 317, rfl⟩
abbrev main_call1_v31 : Ref sig .tc := ⟨.hbm, 318, rfl⟩
abbrev main_call1_v32 : Ref sig .tc := ⟨.hbm, 319, rfl⟩
abbrev main_call1_v33 : Ref sig .tc := ⟨.hbm, 320, rfl⟩
abbrev main_call1_v34 : Ref sig .tc := ⟨.hbm, 321, rfl⟩
abbrev main_call1_v35 : Ref sig .tc := ⟨.hbm, 322, rfl⟩
abbrev main_call1_v36 : Ref sig .tc := ⟨.hbm, 323, rfl⟩
abbrev main_call1_v37 : Ref sig .tc := ⟨.hbm, 324, rfl⟩
abbrev main_call1_c_8 : Ref sig .tc := ⟨.hbm, 325, rfl⟩
abbrev main_call1_v38 : Ref sig .tc := ⟨.hbm, 326, rfl⟩
abbrev main_call1_v39 : Ref sig .tc := ⟨.hbm, 327, rfl⟩
abbrev main_call1_v40 : Ref sig .tc := ⟨.hbm, 328, rfl⟩
abbrev main_call1_c_9 : Ref sig .tc := ⟨.hbm, 329, rfl⟩
abbrev main_call1_v41 : Ref sig .tc := ⟨.hbm, 330, rfl⟩
abbrev main_call1_v42 : Ref sig .tc := ⟨.hbm, 331, rfl⟩
abbrev main_call1_c_10 : Ref sig .tc := ⟨.hbm, 332, rfl⟩
abbrev main_call1_v43 : Ref sig .tc := ⟨.hbm, 333, rfl⟩
abbrev main_call1_v44 : Ref sig .tc := ⟨.hbm, 334, rfl⟩
abbrev main_call1_v45 : Ref sig .tc := ⟨.hbm, 335, rfl⟩
abbrev main_call1_v46 : Ref sig .tc := ⟨.hbm, 336, rfl⟩
abbrev main_call1_v47 : Ref sig .tc := ⟨.hbm, 337, rfl⟩
abbrev main_call1_c_11 : Ref sig .tc := ⟨.hbm, 338, rfl⟩
abbrev main_call1_v48 : Ref sig .tc := ⟨.hbm, 339, rfl⟩
abbrev main_call1_v49 : Ref sig .tc := ⟨.hbm, 340, rfl⟩
abbrev main_call1_c_12 : Ref sig .tc := ⟨.hbm, 341, rfl⟩
abbrev main_call1_v50 : Ref sig .tc := ⟨.hbm, 342, rfl⟩
abbrev main_call1_v51 : Ref sig .tc := ⟨.hbm, 343, rfl⟩
abbrev main_call1_v52 : Ref sig .tc := ⟨.hbm, 344, rfl⟩
abbrev main_call1_v53 : Ref sig .tc := ⟨.hbm, 345, rfl⟩
abbrev main_call1_v54 : Ref sig .tc := ⟨.hbm, 346, rfl⟩
abbrev main_call1_c_13 : Ref sig .tc := ⟨.hbm, 347, rfl⟩
abbrev main_call1_v55 : Ref sig .tc := ⟨.hbm, 348, rfl⟩
abbrev main_call1_v56 : Ref sig .tc := ⟨.hbm, 349, rfl⟩
abbrev main_call1_c_14 : Ref sig .tc := ⟨.hbm, 350, rfl⟩
abbrev main_call1_v57 : Ref sig .tc := ⟨.hbm, 351, rfl⟩
abbrev main_call1_v58 : Ref sig .tc := ⟨.hbm, 352, rfl⟩
abbrev main_call1_v59 : Ref sig .tc := ⟨.hbm, 353, rfl⟩
abbrev main_call1_v60 : Ref sig .tc := ⟨.hbm, 354, rfl⟩
abbrev main_call1_v61 : Ref sig .tc := ⟨.hbm, 355, rfl⟩
abbrev main_call1_c_15 : Ref sig .tc := ⟨.hbm, 356, rfl⟩
abbrev main_call1_v62 : Ref sig .tc := ⟨.hbm, 357, rfl⟩
abbrev main_call1_v63 : Ref sig .tc := ⟨.hbm, 358, rfl⟩
abbrev main_call1_c_16 : Ref sig .tc := ⟨.hbm, 359, rfl⟩
abbrev main_call1_v64 : Ref sig .tc := ⟨.hbm, 360, rfl⟩
abbrev main_call1_v65 : Ref sig .tc := ⟨.hbm, 361, rfl⟩
abbrev main_call1_v66 : Ref sig .tc := ⟨.hbm, 362, rfl⟩
abbrev main_call1_v67 : Ref sig .tc := ⟨.hbm, 363, rfl⟩
abbrev main_call1_v68 : Ref sig .tc := ⟨.hbm, 364, rfl⟩
abbrev main_call1_v69 : Ref sig .tc := ⟨.hbm, 365, rfl⟩
abbrev main_call1_v70 : Ref sig .tc := ⟨.hbm, 366, rfl⟩
abbrev main_call1_v71 : Ref sig .tc := ⟨.hbm, 367, rfl⟩
abbrev main_call1_c_17 : Ref sig .tc := ⟨.hbm, 368, rfl⟩
abbrev main_call1_v72 : Ref sig .tc := ⟨.hbm, 369, rfl⟩
abbrev main_call1_v73 : Ref sig .tc := ⟨.hbm, 370, rfl⟩
abbrev main_call1_v74 : Ref sig .tc := ⟨.hbm, 371, rfl⟩
abbrev main_call1_c_18 : Ref sig .tc := ⟨.hbm, 372, rfl⟩
abbrev main_call1_v75 : Ref sig .tc := ⟨.hbm, 373, rfl⟩
abbrev main_call1_v76 : Ref sig .tc := ⟨.hbm, 374, rfl⟩
abbrev main_call1_c_19 : Ref sig .tc := ⟨.hbm, 375, rfl⟩
abbrev main_call1_v77 : Ref sig .tc := ⟨.hbm, 376, rfl⟩
abbrev main_call1_v78 : Ref sig .tc := ⟨.hbm, 377, rfl⟩
abbrev main_call1_v79 : Ref sig .tc := ⟨.hbm, 378, rfl⟩
abbrev main_call1_v80 : Ref sig .tc := ⟨.hbm, 379, rfl⟩
abbrev main_call1_v81 : Ref sig .tc := ⟨.hbm, 380, rfl⟩
abbrev main_call1_c_20 : Ref sig .tc := ⟨.hbm, 381, rfl⟩
abbrev main_call1_v82 : Ref sig .tc := ⟨.hbm, 382, rfl⟩
abbrev main_call1_v83 : Ref sig .tc := ⟨.hbm, 383, rfl⟩
abbrev main_call1_c_21 : Ref sig .tc := ⟨.hbm, 384, rfl⟩
abbrev main_call1_v84 : Ref sig .tc := ⟨.hbm, 385, rfl⟩
abbrev main_call1_v85 : Ref sig .tc := ⟨.hbm, 386, rfl⟩
abbrev main_call1_v86 : Ref sig .tc := ⟨.hbm, 387, rfl⟩
abbrev main_call1_v87 : Ref sig .tc := ⟨.hbm, 388, rfl⟩
abbrev main_call1_v88 : Ref sig .tc := ⟨.hbm, 389, rfl⟩
abbrev main_call1_c_22 : Ref sig .tc := ⟨.hbm, 390, rfl⟩
abbrev main_call1_v89 : Ref sig .tc := ⟨.hbm, 391, rfl⟩
abbrev main_call1_v90 : Ref sig .tc := ⟨.hbm, 392, rfl⟩
abbrev main_call1_c_23 : Ref sig .tc := ⟨.hbm, 393, rfl⟩
abbrev main_call1_v91 : Ref sig .tc := ⟨.hbm, 394, rfl⟩
abbrev main_call1_v92 : Ref sig .tc := ⟨.hbm, 395, rfl⟩
abbrev main_call1_v93 : Ref sig .tc := ⟨.hbm, 396, rfl⟩
abbrev main_call1_v94 : Ref sig .tc := ⟨.hbm, 397, rfl⟩
abbrev main_call1_v95 : Ref sig .tc := ⟨.hbm, 398, rfl⟩
abbrev main_call1_c_24 : Ref sig .tc := ⟨.hbm, 399, rfl⟩
abbrev main_call1_v96 : Ref sig .tc := ⟨.hbm, 400, rfl⟩
abbrev main_call1_v97 : Ref sig .tc := ⟨.hbm, 401, rfl⟩
abbrev main_call1_c_25 : Ref sig .tc := ⟨.hbm, 402, rfl⟩
abbrev main_call1_v98 : Ref sig .tc := ⟨.hbm, 403, rfl⟩
abbrev main_call1_v99 : Ref sig .tc := ⟨.hbm, 404, rfl⟩
abbrev main_call1_v100 : Ref sig .tc := ⟨.hbm, 405, rfl⟩
abbrev main_call1_v101 : Ref sig .tc := ⟨.hbm, 406, rfl⟩
abbrev main_call1_v102 : Ref sig .tc := ⟨.hbm, 407, rfl⟩
abbrev main_call1_v103 : Ref sig .tc := ⟨.hbm, 408, rfl⟩
abbrev main_call1_v104 : Ref sig .tc := ⟨.hbm, 409, rfl⟩
abbrev main_call1_v105 : Ref sig .tc := ⟨.hbm, 410, rfl⟩
abbrev main_call1_c_26 : Ref sig .tc := ⟨.hbm, 411, rfl⟩
abbrev main_call1_v106 : Ref sig .tc := ⟨.hbm, 412, rfl⟩
abbrev main_call1_v107 : Ref sig .tc := ⟨.hbm, 413, rfl⟩
abbrev main_call1_v108 : Ref sig .tc := ⟨.hbm, 414, rfl⟩
abbrev main_call1_c_27 : Ref sig .tc := ⟨.hbm, 415, rfl⟩
abbrev main_call1_v109 : Ref sig .tc := ⟨.hbm, 416, rfl⟩
abbrev main_call1_v110 : Ref sig .tc := ⟨.hbm, 417, rfl⟩
abbrev main_call1_c_28 : Ref sig .tc := ⟨.hbm, 418, rfl⟩
abbrev main_call1_v111 : Ref sig .tc := ⟨.hbm, 419, rfl⟩
abbrev main_call1_v112 : Ref sig .tc := ⟨.hbm, 420, rfl⟩
abbrev main_call1_v113 : Ref sig .tc := ⟨.hbm, 421, rfl⟩
abbrev main_call1_v114 : Ref sig .tc := ⟨.hbm, 422, rfl⟩
abbrev main_call1_v115 : Ref sig .tc := ⟨.hbm, 423, rfl⟩
abbrev main_call1_c_29 : Ref sig .tc := ⟨.hbm, 424, rfl⟩
abbrev main_call1_v116 : Ref sig .tc := ⟨.hbm, 425, rfl⟩
abbrev main_call1_v117 : Ref sig .tc := ⟨.hbm, 426, rfl⟩
abbrev main_call1_c_30 : Ref sig .tc := ⟨.hbm, 427, rfl⟩
abbrev main_call1_v118 : Ref sig .tc := ⟨.hbm, 428, rfl⟩
abbrev main_call1_v119 : Ref sig .tc := ⟨.hbm, 429, rfl⟩
abbrev main_call1_v120 : Ref sig .tc := ⟨.hbm, 430, rfl⟩
abbrev main_call1_v121 : Ref sig .tc := ⟨.hbm, 431, rfl⟩
abbrev main_call1_v122 : Ref sig .tc := ⟨.hbm, 432, rfl⟩
abbrev main_call1_c_31 : Ref sig .tc := ⟨.hbm, 433, rfl⟩
abbrev main_call1_v123 : Ref sig .tc := ⟨.hbm, 434, rfl⟩
abbrev main_call1_v124 : Ref sig .tc := ⟨.hbm, 435, rfl⟩
abbrev main_call1_c_32 : Ref sig .tc := ⟨.hbm, 436, rfl⟩
abbrev main_call1_v125 : Ref sig .tc := ⟨.hbm, 437, rfl⟩
abbrev main_call1_v126 : Ref sig .tc := ⟨.hbm, 438, rfl⟩
abbrev main_call1_v127 : Ref sig .tc := ⟨.hbm, 439, rfl⟩
abbrev main_call1_v128 : Ref sig .tc := ⟨.hbm, 440, rfl⟩
abbrev main_call1_v129 : Ref sig .tc := ⟨.hbm, 441, rfl⟩
abbrev main_call1_c_33 : Ref sig .tc := ⟨.hbm, 442, rfl⟩
abbrev main_call1_v130 : Ref sig .tc := ⟨.hbm, 443, rfl⟩
abbrev main_call1_v131 : Ref sig .tc := ⟨.hbm, 444, rfl⟩
abbrev main_call1_c_34 : Ref sig .tc := ⟨.hbm, 445, rfl⟩
abbrev main_call1_v132 : Ref sig .tc := ⟨.hbm, 446, rfl⟩
abbrev main_call1_v133 : Ref sig .tc := ⟨.hbm, 447, rfl⟩
abbrev main_call1_v134 : Ref sig .tc := ⟨.hbm, 448, rfl⟩
abbrev main_call1_v135 : Ref sig .tc := ⟨.hbm, 449, rfl⟩
abbrev main_call1_v136 : Ref sig .tc := ⟨.hbm, 450, rfl⟩
abbrev main_call1_v137 : Ref sig .tc := ⟨.hbm, 451, rfl⟩
abbrev main_call1_v138 : Ref sig .tc := ⟨.hbm, 452, rfl⟩
abbrev main_call1_v139 : Ref sig .tc := ⟨.hbm, 453, rfl⟩
abbrev main_call1_c_35 : Ref sig .tc := ⟨.hbm, 454, rfl⟩
abbrev main_call1_v140 : Ref sig .tc := ⟨.hbm, 455, rfl⟩
abbrev main_call1_v141 : Ref sig .tc := ⟨.hbm, 456, rfl⟩
abbrev main_call1_v142 : Ref sig .tc := ⟨.hbm, 457, rfl⟩
abbrev main_call1_c_36 : Ref sig .tc := ⟨.hbm, 458, rfl⟩
abbrev main_call1_v143 : Ref sig .tc := ⟨.hbm, 459, rfl⟩
abbrev main_call1_v144 : Ref sig .tc := ⟨.hbm, 460, rfl⟩
abbrev main_call1_c_37 : Ref sig .tc := ⟨.hbm, 461, rfl⟩
abbrev main_call1_v145 : Ref sig .tc := ⟨.hbm, 462, rfl⟩
abbrev main_call1_v146 : Ref sig .tc := ⟨.hbm, 463, rfl⟩
abbrev main_call1_v147 : Ref sig .tc := ⟨.hbm, 464, rfl⟩
abbrev main_call1_v148 : Ref sig .tc := ⟨.hbm, 465, rfl⟩
abbrev main_call1_v149 : Ref sig .tc := ⟨.hbm, 466, rfl⟩
abbrev main_call1_c_38 : Ref sig .tc := ⟨.hbm, 467, rfl⟩
abbrev main_call1_v150 : Ref sig .tc := ⟨.hbm, 468, rfl⟩
abbrev main_call1_v151 : Ref sig .tc := ⟨.hbm, 469, rfl⟩
abbrev main_call1_c_39 : Ref sig .tc := ⟨.hbm, 470, rfl⟩
abbrev main_call1_v152 : Ref sig .tc := ⟨.hbm, 471, rfl⟩
abbrev main_call1_v153 : Ref sig .tc := ⟨.hbm, 472, rfl⟩
abbrev main_call1_v154 : Ref sig .tc := ⟨.hbm, 473, rfl⟩
abbrev main_call1_v155 : Ref sig .tc := ⟨.hbm, 474, rfl⟩
abbrev main_call1_v156 : Ref sig .tc := ⟨.hbm, 475, rfl⟩
abbrev main_call1_c_40 : Ref sig .tc := ⟨.hbm, 476, rfl⟩
abbrev main_call1_v157 : Ref sig .tc := ⟨.hbm, 477, rfl⟩
abbrev main_call1_v158 : Ref sig .tc := ⟨.hbm, 478, rfl⟩
abbrev main_call1_c_41 : Ref sig .tc := ⟨.hbm, 479, rfl⟩
abbrev main_call1_v159 : Ref sig .tc := ⟨.hbm, 480, rfl⟩
abbrev main_call1_v160 : Ref sig .tc := ⟨.hbm, 481, rfl⟩
abbrev main_call1_v161 : Ref sig .tc := ⟨.hbm, 482, rfl⟩
abbrev main_call1_v162 : Ref sig .tc := ⟨.hbm, 483, rfl⟩
abbrev main_call1_v163 : Ref sig .tc := ⟨.hbm, 484, rfl⟩
abbrev main_call1_c_42 : Ref sig .tc := ⟨.hbm, 485, rfl⟩
abbrev main_call1_v164 : Ref sig .tc := ⟨.hbm, 486, rfl⟩
abbrev main_call1_v165 : Ref sig .tc := ⟨.hbm, 487, rfl⟩
abbrev main_call1_c_43 : Ref sig .tc := ⟨.hbm, 488, rfl⟩
abbrev main_call1_v166 : Ref sig .tc := ⟨.hbm, 489, rfl⟩
abbrev main_call1_v167 : Ref sig .tc := ⟨.hbm, 490, rfl⟩
abbrev main_call1_v168 : Ref sig .tc := ⟨.hbm, 491, rfl⟩
abbrev main_call1_v169 : Ref sig .tc := ⟨.hbm, 492, rfl⟩
abbrev main_call1_v170 : Ref sig .tc := ⟨.hbm, 493, rfl⟩
abbrev main_v32_0 : Ref sig .tc := ⟨.hbm, 494, rfl⟩
abbrev main_call1_v172 : Ref sig .tc := ⟨.hbm, 495, rfl⟩
abbrev main_call1_v173 : Ref sig .tc := ⟨.hbm, 496, rfl⟩
abbrev main_call1_c_44 : Ref sig .tc := ⟨.hbm, 497, rfl⟩
abbrev main_call1_v174 : Ref sig .tc := ⟨.hbm, 498, rfl⟩
abbrev main_v32_1 : Ref sig .tc := ⟨.hbm, 499, rfl⟩
abbrev main_v33 : Ref sig .tc := ⟨.hbm, 500, rfl⟩
abbrev main_c_5 : Ref sig .tc := ⟨.hbm, 501, rfl⟩
abbrev main_v34 : Ref sig .tc := ⟨.hbm, 502, rfl⟩
abbrev main_v35 : Ref sig .tc := ⟨.hbm, 503, rfl⟩
abbrev main_v36 : Ref sig .tc := ⟨.hbm, 504, rfl⟩
abbrev main_v37 : Ref sig .tc := ⟨.hbm, 505, rfl⟩
abbrev main_cst_6 : Ref sig .tc := ⟨.hbm, 506, rfl⟩
abbrev main_v38 : Ref sig .tc := ⟨.hbm, 507, rfl⟩
abbrev main_v39 : Ref sig .tc := ⟨.hbm, 508, rfl⟩
abbrev main_cst_7 : Ref sig .tc := ⟨.hbm, 509, rfl⟩
abbrev main_v40 : Ref sig .tc := ⟨.hbm, 510, rfl⟩
abbrev main_v41 : Ref sig .tc := ⟨.hbm, 511, rfl⟩
abbrev main_cst_8 : Ref sig .tc := ⟨.hbm, 512, rfl⟩
abbrev main_v42 : Ref sig .tc := ⟨.hbm, 513, rfl⟩
abbrev main_v43 : Ref sig .tc := ⟨.hbm, 514, rfl⟩
abbrev main_cst_9 : Ref sig .tc := ⟨.hbm, 515, rfl⟩
abbrev main_v44 : Ref sig .tc := ⟨.hbm, 516, rfl⟩
abbrev main_v45 : Ref sig .tc := ⟨.hbm, 517, rfl⟩
abbrev main_v46 : Ref sig .tc := ⟨.hbm, 518, rfl⟩
abbrev main_v47 : Ref sig .tc := ⟨.hbm, 519, rfl⟩
abbrev main_v48 : Ref sig .tc := ⟨.hbm, 520, rfl⟩
abbrev main_v49 : Ref sig .tc := ⟨.hbm, 521, rfl⟩
abbrev main_v50 : Ref sig .tc := ⟨.hbm, 522, rfl⟩
abbrev main_v51 : Ref sig .tc := ⟨.hbm, 523, rfl⟩
abbrev main_v52 : Ref sig .tc := ⟨.hbm, 524, rfl⟩
abbrev main_v53 : Ref sig .tc := ⟨.hbm, 525, rfl⟩
abbrev main_v54 : Ref sig .tc := ⟨.hbm, 526, rfl⟩
abbrev main_v55 : Ref sig .tc := ⟨.hbm, 527, rfl⟩
abbrev main_c_10 : Ref sig .tc := ⟨.hbm, 528, rfl⟩
abbrev main_v56 : Ref sig .tc := ⟨.hbm, 529, rfl⟩
abbrev main_v57 : Ref sig .tc := ⟨.hbm, 530, rfl⟩
abbrev main_c_11 : Ref sig .tc := ⟨.hbm, 531, rfl⟩
abbrev main_v58 : Ref sig .tc := ⟨.hbm, 532, rfl⟩
abbrev main_v59 : Ref sig .tc := ⟨.hbm, 533, rfl⟩
abbrev main_v60 : Ref sig .tc := ⟨.hbm, 534, rfl⟩
abbrev main_c_12 : Ref sig .tc := ⟨.hbm, 535, rfl⟩
abbrev main_v61 : Ref sig .tc := ⟨.hbm, 536, rfl⟩
abbrev main_v62 : Ref sig .tc := ⟨.hbm, 537, rfl⟩
abbrev main_v63 : Ref sig .tc := ⟨.hbm, 538, rfl⟩
abbrev main_v64 : Ref sig .tc := ⟨.hbm, 539, rfl⟩
abbrev main_call2_v0 : Ref sig .tc := ⟨.hbm, 540, rfl⟩
abbrev main_call2_c : Ref sig .tc := ⟨.hbm, 541, rfl⟩
abbrev main_call2_v1 : Ref sig .tc := ⟨.hbm, 542, rfl⟩
abbrev main_call2_v2 : Ref sig .tc := ⟨.hbm, 543, rfl⟩
abbrev main_call2_v3 : Ref sig .tc := ⟨.hbm, 544, rfl⟩
abbrev main_call2_v4 : Ref sig .tc := ⟨.hbm, 545, rfl⟩
abbrev main_call2_v5 : Ref sig .tc := ⟨.hbm, 546, rfl⟩
abbrev main_call2_v6 : Ref sig .tc := ⟨.hbm, 547, rfl⟩
abbrev main_call2_c_0 : Ref sig .tc := ⟨.hbm, 548, rfl⟩
abbrev main_call2_v7 : Ref sig .tc := ⟨.hbm, 549, rfl⟩
abbrev main_call2_v8 : Ref sig .tc := ⟨.hbm, 550, rfl⟩
abbrev main_call2_c_1 : Ref sig .tc := ⟨.hbm, 551, rfl⟩
abbrev main_call2_v9 : Ref sig .tc := ⟨.hbm, 552, rfl⟩
abbrev main_call2_v10 : Ref sig .tc := ⟨.hbm, 553, rfl⟩
abbrev main_call2_v11 : Ref sig .tc := ⟨.hbm, 554, rfl⟩
abbrev main_call2_v12 : Ref sig .tc := ⟨.hbm, 555, rfl⟩
abbrev main_call2_v13 : Ref sig .tc := ⟨.hbm, 556, rfl⟩
abbrev main_call2_c_2 : Ref sig .tc := ⟨.hbm, 557, rfl⟩
abbrev main_call2_v14 : Ref sig .tc := ⟨.hbm, 558, rfl⟩
abbrev main_call2_v15 : Ref sig .tc := ⟨.hbm, 559, rfl⟩
abbrev main_call2_c_3 : Ref sig .tc := ⟨.hbm, 560, rfl⟩
abbrev main_call2_v16 : Ref sig .tc := ⟨.hbm, 561, rfl⟩
abbrev main_call2_v17 : Ref sig .tc := ⟨.hbm, 562, rfl⟩
abbrev main_call2_v18 : Ref sig .tc := ⟨.hbm, 563, rfl⟩
abbrev main_call2_v19 : Ref sig .tc := ⟨.hbm, 564, rfl⟩
abbrev main_call2_v20 : Ref sig .tc := ⟨.hbm, 565, rfl⟩
abbrev main_call2_c_4 : Ref sig .tc := ⟨.hbm, 566, rfl⟩
abbrev main_call2_v21 : Ref sig .tc := ⟨.hbm, 567, rfl⟩
abbrev main_call2_v22 : Ref sig .tc := ⟨.hbm, 568, rfl⟩
abbrev main_call2_c_5 : Ref sig .tc := ⟨.hbm, 569, rfl⟩
abbrev main_call2_v23 : Ref sig .tc := ⟨.hbm, 570, rfl⟩
abbrev main_call2_v24 : Ref sig .tc := ⟨.hbm, 571, rfl⟩
abbrev main_call2_v25 : Ref sig .tc := ⟨.hbm, 572, rfl⟩
abbrev main_call2_v26 : Ref sig .tc := ⟨.hbm, 573, rfl⟩
abbrev main_call2_v27 : Ref sig .tc := ⟨.hbm, 574, rfl⟩
abbrev main_call2_c_6 : Ref sig .tc := ⟨.hbm, 575, rfl⟩
abbrev main_call2_v28 : Ref sig .tc := ⟨.hbm, 576, rfl⟩
abbrev main_call2_v29 : Ref sig .tc := ⟨.hbm, 577, rfl⟩
abbrev main_call2_c_7 : Ref sig .tc := ⟨.hbm, 578, rfl⟩
abbrev main_call2_v30 : Ref sig .tc := ⟨.hbm, 579, rfl⟩
abbrev main_call2_v31 : Ref sig .tc := ⟨.hbm, 580, rfl⟩
abbrev main_call2_v32 : Ref sig .tc := ⟨.hbm, 581, rfl⟩
abbrev main_call2_v33 : Ref sig .tc := ⟨.hbm, 582, rfl⟩
abbrev main_call2_v34 : Ref sig .tc := ⟨.hbm, 583, rfl⟩
abbrev main_call2_v35 : Ref sig .tc := ⟨.hbm, 584, rfl⟩
abbrev main_call2_v36 : Ref sig .tc := ⟨.hbm, 585, rfl⟩
abbrev main_call2_v37 : Ref sig .tc := ⟨.hbm, 586, rfl⟩
abbrev main_call2_c_8 : Ref sig .tc := ⟨.hbm, 587, rfl⟩
abbrev main_call2_v38 : Ref sig .tc := ⟨.hbm, 588, rfl⟩
abbrev main_call2_v39 : Ref sig .tc := ⟨.hbm, 589, rfl⟩
abbrev main_call2_v40 : Ref sig .tc := ⟨.hbm, 590, rfl⟩
abbrev main_call2_c_9 : Ref sig .tc := ⟨.hbm, 591, rfl⟩
abbrev main_call2_v41 : Ref sig .tc := ⟨.hbm, 592, rfl⟩
abbrev main_call2_v42 : Ref sig .tc := ⟨.hbm, 593, rfl⟩
abbrev main_call2_c_10 : Ref sig .tc := ⟨.hbm, 594, rfl⟩
abbrev main_call2_v43 : Ref sig .tc := ⟨.hbm, 595, rfl⟩
abbrev main_call2_v44 : Ref sig .tc := ⟨.hbm, 596, rfl⟩
abbrev main_call2_v45 : Ref sig .tc := ⟨.hbm, 597, rfl⟩
abbrev main_call2_v46 : Ref sig .tc := ⟨.hbm, 598, rfl⟩
abbrev main_call2_v47 : Ref sig .tc := ⟨.hbm, 599, rfl⟩
abbrev main_call2_c_11 : Ref sig .tc := ⟨.hbm, 600, rfl⟩
abbrev main_call2_v48 : Ref sig .tc := ⟨.hbm, 601, rfl⟩
abbrev main_call2_v49 : Ref sig .tc := ⟨.hbm, 602, rfl⟩
abbrev main_call2_c_12 : Ref sig .tc := ⟨.hbm, 603, rfl⟩
abbrev main_call2_v50 : Ref sig .tc := ⟨.hbm, 604, rfl⟩
abbrev main_call2_v51 : Ref sig .tc := ⟨.hbm, 605, rfl⟩
abbrev main_call2_v52 : Ref sig .tc := ⟨.hbm, 606, rfl⟩
abbrev main_call2_v53 : Ref sig .tc := ⟨.hbm, 607, rfl⟩
abbrev main_call2_v54 : Ref sig .tc := ⟨.hbm, 608, rfl⟩
abbrev main_call2_c_13 : Ref sig .tc := ⟨.hbm, 609, rfl⟩
abbrev main_call2_v55 : Ref sig .tc := ⟨.hbm, 610, rfl⟩
abbrev main_call2_v56 : Ref sig .tc := ⟨.hbm, 611, rfl⟩
abbrev main_call2_c_14 : Ref sig .tc := ⟨.hbm, 612, rfl⟩
abbrev main_call2_v57 : Ref sig .tc := ⟨.hbm, 613, rfl⟩
abbrev main_call2_v58 : Ref sig .tc := ⟨.hbm, 614, rfl⟩
abbrev main_call2_v59 : Ref sig .tc := ⟨.hbm, 615, rfl⟩
abbrev main_call2_v60 : Ref sig .tc := ⟨.hbm, 616, rfl⟩
abbrev main_call2_v61 : Ref sig .tc := ⟨.hbm, 617, rfl⟩
abbrev main_call2_c_15 : Ref sig .tc := ⟨.hbm, 618, rfl⟩
abbrev main_call2_v62 : Ref sig .tc := ⟨.hbm, 619, rfl⟩
abbrev main_call2_v63 : Ref sig .tc := ⟨.hbm, 620, rfl⟩
abbrev main_call2_c_16 : Ref sig .tc := ⟨.hbm, 621, rfl⟩
abbrev main_call2_v64 : Ref sig .tc := ⟨.hbm, 622, rfl⟩
abbrev main_call2_v65 : Ref sig .tc := ⟨.hbm, 623, rfl⟩
abbrev main_call2_v66 : Ref sig .tc := ⟨.hbm, 624, rfl⟩
abbrev main_call2_v67 : Ref sig .tc := ⟨.hbm, 625, rfl⟩
abbrev main_call2_v68 : Ref sig .tc := ⟨.hbm, 626, rfl⟩
abbrev main_call2_v69 : Ref sig .tc := ⟨.hbm, 627, rfl⟩
abbrev main_call2_v70 : Ref sig .tc := ⟨.hbm, 628, rfl⟩
abbrev main_call2_v71 : Ref sig .tc := ⟨.hbm, 629, rfl⟩
abbrev main_call2_c_17 : Ref sig .tc := ⟨.hbm, 630, rfl⟩
abbrev main_call2_v72 : Ref sig .tc := ⟨.hbm, 631, rfl⟩
abbrev main_call2_v73 : Ref sig .tc := ⟨.hbm, 632, rfl⟩
abbrev main_call2_v74 : Ref sig .tc := ⟨.hbm, 633, rfl⟩
abbrev main_call2_c_18 : Ref sig .tc := ⟨.hbm, 634, rfl⟩
abbrev main_call2_v75 : Ref sig .tc := ⟨.hbm, 635, rfl⟩
abbrev main_call2_v76 : Ref sig .tc := ⟨.hbm, 636, rfl⟩
abbrev main_call2_c_19 : Ref sig .tc := ⟨.hbm, 637, rfl⟩
abbrev main_call2_v77 : Ref sig .tc := ⟨.hbm, 638, rfl⟩
abbrev main_call2_v78 : Ref sig .tc := ⟨.hbm, 639, rfl⟩
abbrev main_call2_v79 : Ref sig .tc := ⟨.hbm, 640, rfl⟩
abbrev main_call2_v80 : Ref sig .tc := ⟨.hbm, 641, rfl⟩
abbrev main_call2_v81 : Ref sig .tc := ⟨.hbm, 642, rfl⟩
abbrev main_call2_c_20 : Ref sig .tc := ⟨.hbm, 643, rfl⟩
abbrev main_call2_v82 : Ref sig .tc := ⟨.hbm, 644, rfl⟩
abbrev main_call2_v83 : Ref sig .tc := ⟨.hbm, 645, rfl⟩
abbrev main_call2_c_21 : Ref sig .tc := ⟨.hbm, 646, rfl⟩
abbrev main_call2_v84 : Ref sig .tc := ⟨.hbm, 647, rfl⟩
abbrev main_call2_v85 : Ref sig .tc := ⟨.hbm, 648, rfl⟩
abbrev main_call2_v86 : Ref sig .tc := ⟨.hbm, 649, rfl⟩
abbrev main_call2_v87 : Ref sig .tc := ⟨.hbm, 650, rfl⟩
abbrev main_call2_v88 : Ref sig .tc := ⟨.hbm, 651, rfl⟩
abbrev main_call2_c_22 : Ref sig .tc := ⟨.hbm, 652, rfl⟩
abbrev main_call2_v89 : Ref sig .tc := ⟨.hbm, 653, rfl⟩
abbrev main_call2_v90 : Ref sig .tc := ⟨.hbm, 654, rfl⟩
abbrev main_call2_c_23 : Ref sig .tc := ⟨.hbm, 655, rfl⟩
abbrev main_call2_v91 : Ref sig .tc := ⟨.hbm, 656, rfl⟩
abbrev main_call2_v92 : Ref sig .tc := ⟨.hbm, 657, rfl⟩
abbrev main_call2_v93 : Ref sig .tc := ⟨.hbm, 658, rfl⟩
abbrev main_call2_v94 : Ref sig .tc := ⟨.hbm, 659, rfl⟩
abbrev main_call2_v95 : Ref sig .tc := ⟨.hbm, 660, rfl⟩
abbrev main_call2_c_24 : Ref sig .tc := ⟨.hbm, 661, rfl⟩
abbrev main_call2_v96 : Ref sig .tc := ⟨.hbm, 662, rfl⟩
abbrev main_call2_v97 : Ref sig .tc := ⟨.hbm, 663, rfl⟩
abbrev main_call2_c_25 : Ref sig .tc := ⟨.hbm, 664, rfl⟩
abbrev main_call2_v98 : Ref sig .tc := ⟨.hbm, 665, rfl⟩
abbrev main_call2_v99 : Ref sig .tc := ⟨.hbm, 666, rfl⟩
abbrev main_call2_v100 : Ref sig .tc := ⟨.hbm, 667, rfl⟩
abbrev main_call2_v101 : Ref sig .tc := ⟨.hbm, 668, rfl⟩
abbrev main_call2_v102 : Ref sig .tc := ⟨.hbm, 669, rfl⟩
abbrev main_call2_v103 : Ref sig .tc := ⟨.hbm, 670, rfl⟩
abbrev main_call2_v104 : Ref sig .tc := ⟨.hbm, 671, rfl⟩
abbrev main_call2_v105 : Ref sig .tc := ⟨.hbm, 672, rfl⟩
abbrev main_call2_c_26 : Ref sig .tc := ⟨.hbm, 673, rfl⟩
abbrev main_call2_v106 : Ref sig .tc := ⟨.hbm, 674, rfl⟩
abbrev main_call2_v107 : Ref sig .tc := ⟨.hbm, 675, rfl⟩
abbrev main_call2_v108 : Ref sig .tc := ⟨.hbm, 676, rfl⟩
abbrev main_call2_c_27 : Ref sig .tc := ⟨.hbm, 677, rfl⟩
abbrev main_call2_v109 : Ref sig .tc := ⟨.hbm, 678, rfl⟩
abbrev main_call2_v110 : Ref sig .tc := ⟨.hbm, 679, rfl⟩
abbrev main_call2_c_28 : Ref sig .tc := ⟨.hbm, 680, rfl⟩
abbrev main_call2_v111 : Ref sig .tc := ⟨.hbm, 681, rfl⟩
abbrev main_call2_v112 : Ref sig .tc := ⟨.hbm, 682, rfl⟩
abbrev main_call2_v113 : Ref sig .tc := ⟨.hbm, 683, rfl⟩
abbrev main_call2_v114 : Ref sig .tc := ⟨.hbm, 684, rfl⟩
abbrev main_call2_v115 : Ref sig .tc := ⟨.hbm, 685, rfl⟩
abbrev main_call2_c_29 : Ref sig .tc := ⟨.hbm, 686, rfl⟩
abbrev main_call2_v116 : Ref sig .tc := ⟨.hbm, 687, rfl⟩
abbrev main_call2_v117 : Ref sig .tc := ⟨.hbm, 688, rfl⟩
abbrev main_call2_c_30 : Ref sig .tc := ⟨.hbm, 689, rfl⟩
abbrev main_call2_v118 : Ref sig .tc := ⟨.hbm, 690, rfl⟩
abbrev main_call2_v119 : Ref sig .tc := ⟨.hbm, 691, rfl⟩
abbrev main_call2_v120 : Ref sig .tc := ⟨.hbm, 692, rfl⟩
abbrev main_call2_v121 : Ref sig .tc := ⟨.hbm, 693, rfl⟩
abbrev main_call2_v122 : Ref sig .tc := ⟨.hbm, 694, rfl⟩
abbrev main_call2_c_31 : Ref sig .tc := ⟨.hbm, 695, rfl⟩
abbrev main_call2_v123 : Ref sig .tc := ⟨.hbm, 696, rfl⟩
abbrev main_call2_v124 : Ref sig .tc := ⟨.hbm, 697, rfl⟩
abbrev main_call2_c_32 : Ref sig .tc := ⟨.hbm, 698, rfl⟩
abbrev main_call2_v125 : Ref sig .tc := ⟨.hbm, 699, rfl⟩
abbrev main_call2_v126 : Ref sig .tc := ⟨.hbm, 700, rfl⟩
abbrev main_call2_v127 : Ref sig .tc := ⟨.hbm, 701, rfl⟩
abbrev main_call2_v128 : Ref sig .tc := ⟨.hbm, 702, rfl⟩
abbrev main_call2_v129 : Ref sig .tc := ⟨.hbm, 703, rfl⟩
abbrev main_call2_c_33 : Ref sig .tc := ⟨.hbm, 704, rfl⟩
abbrev main_call2_v130 : Ref sig .tc := ⟨.hbm, 705, rfl⟩
abbrev main_call2_v131 : Ref sig .tc := ⟨.hbm, 706, rfl⟩
abbrev main_call2_c_34 : Ref sig .tc := ⟨.hbm, 707, rfl⟩
abbrev main_call2_v132 : Ref sig .tc := ⟨.hbm, 708, rfl⟩
abbrev main_call2_v133 : Ref sig .tc := ⟨.hbm, 709, rfl⟩
abbrev main_call2_v134 : Ref sig .tc := ⟨.hbm, 710, rfl⟩
abbrev main_call2_v135 : Ref sig .tc := ⟨.hbm, 711, rfl⟩
abbrev main_call2_v136 : Ref sig .tc := ⟨.hbm, 712, rfl⟩
abbrev main_call2_v137 : Ref sig .tc := ⟨.hbm, 713, rfl⟩
abbrev main_call2_v138 : Ref sig .tc := ⟨.hbm, 714, rfl⟩
abbrev main_call2_v139 : Ref sig .tc := ⟨.hbm, 715, rfl⟩
abbrev main_call2_c_35 : Ref sig .tc := ⟨.hbm, 716, rfl⟩
abbrev main_call2_v140 : Ref sig .tc := ⟨.hbm, 717, rfl⟩
abbrev main_call2_v141 : Ref sig .tc := ⟨.hbm, 718, rfl⟩
abbrev main_call2_v142 : Ref sig .tc := ⟨.hbm, 719, rfl⟩
abbrev main_call2_c_36 : Ref sig .tc := ⟨.hbm, 720, rfl⟩
abbrev main_call2_v143 : Ref sig .tc := ⟨.hbm, 721, rfl⟩
abbrev main_call2_v144 : Ref sig .tc := ⟨.hbm, 722, rfl⟩
abbrev main_call2_c_37 : Ref sig .tc := ⟨.hbm, 723, rfl⟩
abbrev main_call2_v145 : Ref sig .tc := ⟨.hbm, 724, rfl⟩
abbrev main_call2_v146 : Ref sig .tc := ⟨.hbm, 725, rfl⟩
abbrev main_call2_v147 : Ref sig .tc := ⟨.hbm, 726, rfl⟩
abbrev main_call2_v148 : Ref sig .tc := ⟨.hbm, 727, rfl⟩
abbrev main_call2_v149 : Ref sig .tc := ⟨.hbm, 728, rfl⟩
abbrev main_call2_c_38 : Ref sig .tc := ⟨.hbm, 729, rfl⟩
abbrev main_call2_v150 : Ref sig .tc := ⟨.hbm, 730, rfl⟩
abbrev main_call2_v151 : Ref sig .tc := ⟨.hbm, 731, rfl⟩
abbrev main_call2_c_39 : Ref sig .tc := ⟨.hbm, 732, rfl⟩
abbrev main_call2_v152 : Ref sig .tc := ⟨.hbm, 733, rfl⟩
abbrev main_call2_v153 : Ref sig .tc := ⟨.hbm, 734, rfl⟩
abbrev main_call2_v154 : Ref sig .tc := ⟨.hbm, 735, rfl⟩
abbrev main_call2_v155 : Ref sig .tc := ⟨.hbm, 736, rfl⟩
abbrev main_call2_v156 : Ref sig .tc := ⟨.hbm, 737, rfl⟩
abbrev main_call2_c_40 : Ref sig .tc := ⟨.hbm, 738, rfl⟩
abbrev main_call2_v157 : Ref sig .tc := ⟨.hbm, 739, rfl⟩
abbrev main_call2_v158 : Ref sig .tc := ⟨.hbm, 740, rfl⟩
abbrev main_call2_c_41 : Ref sig .tc := ⟨.hbm, 741, rfl⟩
abbrev main_call2_v159 : Ref sig .tc := ⟨.hbm, 742, rfl⟩
abbrev main_call2_v160 : Ref sig .tc := ⟨.hbm, 743, rfl⟩
abbrev main_call2_v161 : Ref sig .tc := ⟨.hbm, 744, rfl⟩
abbrev main_call2_v162 : Ref sig .tc := ⟨.hbm, 745, rfl⟩
abbrev main_call2_v163 : Ref sig .tc := ⟨.hbm, 746, rfl⟩
abbrev main_call2_c_42 : Ref sig .tc := ⟨.hbm, 747, rfl⟩
abbrev main_call2_v164 : Ref sig .tc := ⟨.hbm, 748, rfl⟩
abbrev main_call2_v165 : Ref sig .tc := ⟨.hbm, 749, rfl⟩
abbrev main_call2_c_43 : Ref sig .tc := ⟨.hbm, 750, rfl⟩
abbrev main_call2_v166 : Ref sig .tc := ⟨.hbm, 751, rfl⟩
abbrev main_call2_v167 : Ref sig .tc := ⟨.hbm, 752, rfl⟩
abbrev main_call2_v168 : Ref sig .tc := ⟨.hbm, 753, rfl⟩
abbrev main_call2_v169 : Ref sig .tc := ⟨.hbm, 754, rfl⟩
abbrev main_call2_v170 : Ref sig .tc := ⟨.hbm, 755, rfl⟩
abbrev main_v65_0 : Ref sig .tc := ⟨.hbm, 756, rfl⟩
abbrev main_call2_v172 : Ref sig .tc := ⟨.hbm, 757, rfl⟩
abbrev main_call2_v173 : Ref sig .tc := ⟨.hbm, 758, rfl⟩
abbrev main_call2_c_44 : Ref sig .tc := ⟨.hbm, 759, rfl⟩
abbrev main_call2_v174 : Ref sig .tc := ⟨.hbm, 760, rfl⟩
abbrev main_v65_1 : Ref sig .tc := ⟨.hbm, 761, rfl⟩
abbrev main_v66 : Ref sig .tc := ⟨.hbm, 762, rfl⟩
abbrev main_c_13 : Ref sig .tc := ⟨.hbm, 763, rfl⟩
abbrev main_v67 : Ref sig .tc := ⟨.hbm, 764, rfl⟩
abbrev main_v68 : Ref sig .tc := ⟨.hbm, 765, rfl⟩
abbrev main_v69 : Ref sig .tc := ⟨.hbm, 766, rfl⟩
abbrev main_v70 : Ref sig .tc := ⟨.hbm, 767, rfl⟩
abbrev main_cst_14 : Ref sig .tc := ⟨.hbm, 768, rfl⟩
abbrev main_v71 : Ref sig .tc := ⟨.hbm, 769, rfl⟩
abbrev main_v72 : Ref sig .tc := ⟨.hbm, 770, rfl⟩
abbrev main_cst_15 : Ref sig .tc := ⟨.hbm, 771, rfl⟩
abbrev main_v73 : Ref sig .tc := ⟨.hbm, 772, rfl⟩
abbrev main_v74 : Ref sig .tc := ⟨.hbm, 773, rfl⟩
abbrev main_cst_16 : Ref sig .tc := ⟨.hbm, 774, rfl⟩
abbrev main_v75 : Ref sig .tc := ⟨.hbm, 775, rfl⟩
abbrev main_v76 : Ref sig .tc := ⟨.hbm, 776, rfl⟩
abbrev main_cst_17 : Ref sig .tc := ⟨.hbm, 777, rfl⟩
abbrev main_v77 : Ref sig .tc := ⟨.hbm, 778, rfl⟩
abbrev main_v78 : Ref sig .tc := ⟨.hbm, 779, rfl⟩
abbrev main_v79 : Ref sig .tc := ⟨.hbm, 780, rfl⟩
abbrev main_v80 : Ref sig .tc := ⟨.hbm, 781, rfl⟩
abbrev main_v81 : Ref sig .tc := ⟨.hbm, 782, rfl⟩
abbrev main_v82 : Ref sig .tc := ⟨.hbm, 783, rfl⟩
abbrev main_v83 : Ref sig .tc := ⟨.hbm, 784, rfl⟩
abbrev main_v84 : Ref sig .tc := ⟨.hbm, 785, rfl⟩
abbrev main_cst_18 : Ref sig .tc := ⟨.hbm, 786, rfl⟩
abbrev main_v85 : Ref sig .tc := ⟨.hbm, 787, rfl⟩
abbrev main_v86 : Ref sig .tc := ⟨.hbm, 788, rfl⟩
abbrev main_v87 : Ref sig .tc := ⟨.hbm, 789, rfl⟩
abbrev main_v88 : Ref sig .tc := ⟨.hbm, 790, rfl⟩
abbrev main_cst_19 : Ref sig .tc := ⟨.hbm, 791, rfl⟩
abbrev main_v89 : Ref sig .tc := ⟨.hbm, 792, rfl⟩
abbrev main_v90 : Ref sig .tc := ⟨.hbm, 793, rfl⟩
abbrev main_cst_20 : Ref sig .tc := ⟨.hbm, 794, rfl⟩
abbrev main_v91 : Ref sig .tc := ⟨.hbm, 795, rfl⟩
abbrev main_v92 : Ref sig .tc := ⟨.hbm, 796, rfl⟩
abbrev main_cst_21 : Ref sig .tc := ⟨.hbm, 797, rfl⟩
abbrev main_v93 : Ref sig .tc := ⟨.hbm, 798, rfl⟩
abbrev main_v94 : Ref sig .tc := ⟨.hbm, 799, rfl⟩
abbrev main_v95 : Ref sig .tc := ⟨.hbm, 800, rfl⟩
abbrev main_v96 : Ref sig .tc := ⟨.hbm, 801, rfl⟩
abbrev main_v97 : Ref sig .tc := ⟨.hbm, 802, rfl⟩
abbrev main_v98 : Ref sig .tc := ⟨.hbm, 803, rfl⟩
abbrev main_v99 : Ref sig .tc := ⟨.hbm, 804, rfl⟩
abbrev main_v100 : Ref sig .tc := ⟨.hbm, 805, rfl⟩
abbrev main_v101 : Ref sig .tc := ⟨.hbm, 806, rfl⟩
abbrev main_v102 : Ref sig .tc := ⟨.hbm, 807, rfl⟩
abbrev main_v103 : Ref sig .tc := ⟨.hbm, 808, rfl⟩
abbrev main_v104 : Ref sig .tc := ⟨.hbm, 809, rfl⟩
abbrev main_v105 : Ref sig .tc := ⟨.hbm, 810, rfl⟩
abbrev main_v106 : Ref sig .tc := ⟨.hbm, 811, rfl⟩
abbrev main_v107 : Ref sig .tc := ⟨.hbm, 812, rfl⟩
abbrev main_v108 : Ref sig .tc := ⟨.hbm, 813, rfl⟩

abbrev nD : Nat := 1
abbrev τ : Topo := Topo.v7x

variable {F : FTy → Type} [FloatOps F]
-- ==== Proof.IdealFrame.lean ====
/-
  The frame of the ideal reading: the host lines before the call, the body of the call at a grid point, and the run of the whole.
-/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.Value
public import Idealize.ShloMosaic.Lib.Pipeline.FrameBody
public import Idealize.ShloMosaic.Lib.Claim
public import Idealize.ShloMosaic.Lib.Ring
public import Idealize.ShloMosaic.Lib.Tactic
public import Idealize.ShloMosaic.Lib.WordCmp

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
abbrev V (c : Dev nD) (b : Ref sig .tc) : Buf (Elt F) ((c : Thread nD τ).loc b) :=
  StableHlo.after (List.flatten [hostOps0, hostOps0_1, hostOps0_2, hostOps0_3, hostOps0_4]) (fun b => m (c, b)) b

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps0_3_fresh : (hostOps0_3 : List (HloOp τ sig (Elt F))).Forall fun op => op.fresh = ∅ := by
  simp only [List.Forall]; repeat' constructor
theorem hostOps0_4_fresh : (hostOps0_4 : List (HloOp τ sig (Elt F))).Forall fun op => op.fresh = ∅ := by
  simp only [List.Forall]; repeat' constructor

set_option maxHeartbeats 800000 in
/-- The host lines, then the call. -/
theorem hmain (𝒱₀ : Variants) : Pipeline.HMain (Ix := Unit) (Name := ℕ) (U := UR sig nD τ) (Lvl := ℕ) cfgs 0 defs₀ 𝒱₀ m (main (F := F)) (V m) :=
  Pipeline.hmain_prefixes cfgs 0 defs₀ 𝒱₀ m main [hostOps0, hostOps0_1, hostOps0_2, hostOps0_3, hostOps0_4] (by simp only [List.Forall]; exact ⟨hostOps0_sub, hostOps0_1_sub, hostOps0_2_sub, hostOps0_3_sub, hostOps0_4_sub⟩)
    (by simp only [List.Forall]; exact ⟨hostOps0_fresh, hostOps0_1_fresh, hostOps0_2_fresh, hostOps0_3_fresh, hostOps0_4_fresh⟩) main_chain

set_option maxHeartbeats 4000000 in
/-- No host line writes the first argument. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, hostOps0_2, hostOps0_3, hostOps0_4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
set_option maxHeartbeats 4000000 in
/-- No host line writes the second argument. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, hostOps0_1, hostOps0_2, hostOps0_3, hostOps0_4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- A window's block at a grid point, read off its array. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- A window's buffer holds its block when the body starts, for any proof data that leaves the block in place. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-- The arguments after a run of the call: each is an input of the call, so it ends as it began. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨((h c).1 2).trans (((dats 0 c).arrAt_in 2 rfl _).trans ((hA c 2).trans (V_main_arg0 m c))),
      ((h c).1 1).trans (((dats 0 c).arrAt_in 1 rfl _).trans ((hA c 1).trans (V_main_arg1 m c)))⟩) h

abbrev r0_0 : Rect S1024x128 := Rect.unit (s := S1024x128) ![0, 0] S1024x128.size inb_S1024x128_S1024x128_0_0
abbrev r0_1 : Rect S128x128 := Rect.unit (s := S128x128) ![0, 0] S128x128.size inb_S128x128_S128x128_0_0
abbrev r0_2 : Rect S2048x128 := Rect.unit (s := S2048x128) ![0, 0] S2048x128.size inb_S2048x128_S2048x128_0_0
abbrev r0_3 : Rect S1024x2048 := Rect.unit (s := S1024x2048) ![0, 0] S1024x2048.size inb_S1024x2048_S1024x2048_0_0
abbrev r0_4 : Rect S2097152 := Rect.unit (s := S2097152) ![0] S2097152.size inb_S2097152_S2097152_0

/-- What the body leaves in the result's buffer: its one store over the blocks it loads. -/
def out0_4 (x0 : Vec F S1024x128 .f32) (x1 : Vec F S128x128 .f32) (x2 : Vec F S2048x128 .f32) (x3 : Vec F S1024x2048 .i16) : Vec F S2097152 .f32 :=
  View.canon [⟨r0_4, k0_pay1 (View.ld x0 r0_0) (View.ld x1 r0_1) (View.ld x2 r0_2) (View.ld x3 r0_3)⟩]

/-- The store covers the whole buffer. -/
theorem cover0_4 (p0 : Vec F S2097152 .f32) (y : S2097152.Idx) :
    ∃ pc ∈ ([⟨r0_4, p0⟩] : List (View.Piece (Elt F) S2097152 .f32)), y ∈ pc.1.set :=
  View.cover_of_tiled [⟨r0_4, p0⟩] S2097152.size (by rfl) y

set_option maxHeartbeats 1000000 in
/-- The body keeps its inputs' buffers and leaves its store in the result's. -/
theorem sound_kernel (c : Dev nD) (E : Set ℕ) (i : grid0.Coords) (arg1 : Memref sig .tc .vmem S1024x128 .f32) (harg1 : arg1.IsWhole) (arg2 : Memref sig .tc .vmem S128x128 .f32) (harg2 : arg2.IsWhole) (arg3 : Memref sig .tc .vmem S2048x128 .f32) (harg3 : arg3.IsWhole) (arg4 : Memref sig .tc .vmem S1024x2048 .i16) (harg4 : arg4.IsWhole) (arg5 : Memref sig .tc .vmem S2097152 .f32) (harg5 : arg5.IsWhole)
    (x0 : Vec F S1024x128 .f32) (x1 : Vec F S128x128 .f32) (x2 : Vec F S2048x128 .f32) (x3 : Vec F S1024x2048 .i16) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare (out0_4 x0 x1 x2 x3)) -∗ K ⟨⟩))
      ⊢ wp frame (wpE (defs₀ (F := F)) Variants.none c none) E (cc0__egg_kernel i arg1 harg1 arg2 harg2 arg3 harg3 arg4 harg4 arg5 harg5) K := by
  simp only [cc0__egg_kernel_eq_skeleton]; unfold cc0__egg_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover0_4 _)

/-- The proof data: each input's buffer stays at its block, the result's holds what the body stores. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => out0_4 (iblk m c 0 t) (iblk m c 1 t) (iblk m c 2 t) (iblk m c 3 t)
  Φ _ := Pipeline.ΦA spec0 c
  q w := Pipeline.shareOf spec0 w
  owed _ := 0

/-- The arrays of the proof data are those the call finds. -/
theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = out0_4 (iblk m c 0 t) (iblk m c 1 t) (iblk m c 2 t) (iblk m c 3 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

/-- What the body starts from at a grid point. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d)))

/-- What it ends with. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t))

/-- The body at any grid point, between the two. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).Φ t.succ = (dats m 0 c).Φ t.castSucc from rfl,
    show (dats m 0 c).owesAt () t.succ = (dats m 0 c).owesAt () t.castSucc from rfl,
    after0_0, after0_1, after0_2, after0_3, after0_4]
  iintro ⟨HΦ, Ho, ⟨%d0, H0⟩, ⟨%d1, H1⟩, ⟨%d2, H2⟩, ⟨%d3, H3⟩, ⟨%d4, H4⟩⟩
  iapply (sound_kernel c Set.univ (grid0.coords t) _ _ _ _ _ _ _ _ _ _ (iblk m c 0 t) (iblk m c 1 t) (iblk m c 2 t) (iblk m c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

set_option backward.isDefEq.respectTransparency.types false in
set_option maxHeartbeats 800000 in
/-- The run: every array as the proof data says, every counter at zero. -/
theorem run_main_quiescent : θ_run defs (onTc (τ := τ) (main (F := F))) (s₀ m ρ) (fun r => (Pipeline.FramePost cfgs (dats m) 0 (V m)) r ∧ r.2.sem = fun _ => 0) :=
  Pipeline.θ_run_frame_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hΦ := fun _ _ => rfl)

/-- The same without the counters. -/
theorem run_main : θ_run defs (onTc (τ := τ) (main (F := F))) (s₀ m ρ) (Pipeline.FramePost cfgs (dats m) 0 (V m)) :=
  (θ_run defs _ _).mono (fun _ h => h.1) (run_main_quiescent m ρ)

/-- The arguments end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame_of m ρ (dats m) (A_eq m) (run_main m ρ)

/-- The whole frame: the arguments unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  θ_run_and (unchanged m ρ) ((θ_run defs _ _).mono (fun _ h => h.2) (run_main_quiescent m ρ))

end Cert.KernelIdeal.Gen

namespace Cert.KernelIdeal.Value

open Cert.KernelIdeal Cert.KernelIdeal.Gen Idealize.ShloMosaic Idealize.ShloMosaic.TcCoe Idealize.SL.Sem

variable {F : FTy → Type} [FloatOps F]
variable (m : (ℓ : Loc nD τ sig) → Buf (Elt F) ℓ)

/-- What a grid point writes back to the result. -/
theorem flushed4 (c : Dev nD) (t : Fin cfg0.N) :
    (dats m 0 c).flushed 4 t = (cfg0.win 4).cut (grid0.coords t) (out0_4 (iblk m c 0 t) (iblk m c 1 t) (iblk m c 2 t) (iblk m c 3 t)) := by
  show (cfg0.win 4).cut (grid0.coords t) ((dats m 0 c).after 4 t) = _
  rw [after0_4]

theorem idx_inj4 : ∀ t t' : Fin cfg0.N, win0_4.index t = win0_4.index t' → t = t' :=
  (by decide +kernel : ∀ t t' : Fin grid0.N, win0_4.index t = win0_4.index t' → t = t')

/-- Two grid points write different places of the result. -/
theorem disjoint4 : ∀ t t' : Fin cfg0.N, (cfg0.win 4).flush t = true → (cfg0.win 4).flush t' = true → t ≠ t' →
    Disjoint ((cfg0.win 4).blk t).view.set ((cfg0.win 4).blk t').view.set :=
  fun t t' _ _ hne => (cfg0.win 4).disjoint_blk fun h => hne (idx_inj4 t t' h)

theorem post4 (r : PUnit × MemSt nD τ sig (Elt F)) (h : Pipeline.FramePost cfgs (dats m) 0 (V m) r) (c : Dev nD) :
    r.2.mem ((c : Thread nD τ).loc main_v403) = (dats m 0 c).arrAt 4 cfg0.N :=
  (h c).1 4

theorem kept_main_arg0 (r : PUnit × MemSt nD τ sig (Elt F)) (h : Pipeline.FramePost cfgs (dats m) 0 (V m) r) (c : Dev nD) :
    r.2.mem ((c : Thread nD τ).loc main_arg0) = m ((c : Thread nD τ).loc main_arg0) :=
  ((h c).1 2).trans (((dats m 0 c).arrAt_in 2 rfl _).trans ((A_eq m c 2).trans (V_main_arg0 m c)))

theorem kept_main_arg1 (r : PUnit × MemSt nD τ sig (Elt F)) (h : Pipeline.FramePost cfgs (dats m) 0 (V m) r) (c : Dev nD) :
    r.2.mem ((c : Thread nD τ).loc main_arg1) = m ((c : Thread nD τ).loc main_arg1) :=
  ((h c).1 1).trans (((dats m 0 c).arrAt_in 1 rfl _).trans ((A_eq m c 1).trans (V_main_arg1 m c)))

end Cert.KernelIdeal.Value

end
-- ==== Proof.Words.lean ====
/-
  The counter-based random words both programs compute, word by word: one round, a group of four rounds with its key
  addition, and the whole of the five groups. The two programs write a round's exclusive or with its operands in
  opposite orders, so the order is a parameter here, and `mix_comm` says that it does not matter.
-/
module

public import Idealize.ShloMosaic.PureOps

@[expose] public section

namespace Cert.Noise

open Idealize.ShloMosaic

/-- A 32-bit word. -/
abbrev Word := BitVec 32

/-- One round: the second word is added to the first, rotated left by `r` (and right by `s = 32 - r`), and mixed with
    the new first word by `mix`. -/
def round (mix : Word → Word → Word) (r s : Word) (x : Word × Word) : Word × Word :=
  (x.1 + x.2, mix (x.1 + x.2) (IntOp.shli .host x.2 r ||| IntOp.shrui .host x.2 s))

/-- Four rounds, then the addition of two words of the key and of the group's number. -/
def group (mix : Word → Word → Word) (r₁ s₁ r₂ s₂ r₃ s₃ r₄ s₄ ka kb n : Word) (x : Word × Word) : Word × Word :=
  let y := round mix r₄ s₄ (round mix r₃ s₃ (round mix r₂ s₂ (round mix r₁ s₁ x)))
  (y.1 + ka, y.2 + kb + n)

/-- A group with the rotations of the even groups. -/
def even (mix : Word → Word → Word) : Word → Word → Word → Word × Word → Word × Word :=
  group mix 13#32 19#32 15#32 17#32 26#32 6#32 6#32 26#32

/-- A group with the rotations of the odd groups. -/
def odd (mix : Word → Word → Word) : Word → Word → Word → Word × Word → Word × Word :=
  group mix 17#32 15#32 29#32 3#32 16#32 16#32 24#32 8#32

/-- The third word of the key. -/
def third (k₀ k₁ : Word) : Word := k₀ ^^^ k₁ ^^^ 466688986#32

/-- The five groups under the key `k₀, k₁`, with the counter's two words `x`. -/
def words (mix : Word → Word → Word) (k₀ k₁ : Word) (x : Word × Word) : Word × Word :=
  even mix (third k₀ k₁) k₀ 5#32 (odd mix k₁ (third k₀ k₁) 4#32 (even mix k₀ k₁ 3#32
    (odd mix (third k₀ k₁) k₀ 2#32 (even mix k₁ (third k₀ k₁) 1#32 (x.1 + k₀, x.2 + k₁)))))

theorem mix_comm : (fun a b : Word => b ^^^ a) = fun a b => a ^^^ b := by
  funext a b; exact BitVec.xor_comm b a

end Cert.Noise
-- ==== Proof.Scalar.lean ====
/-
  One entry of the two programs, as numbers: a random word made into a number strictly between 0 and 1, the noise made
  from it, and the level the kernel compares the score with.
-/
module

public import proofs.«01_k».proof.Proof.Words
public import Idealize.ShloMosaic.PureOps.Ideal

@[expose] public section

noncomputable section

namespace Cert.Noise

open Idealize.ShloMosaic

/-- The least number a random word is made into. -/
abbrev low : EReal := Ideal.ofBits .f32 0x2EDBE6FF#32

/-- A random word's upper 23 bits as a number between `low` and 1. -/
def unit (w : Word) : EReal :=
  max low (((((IntOp.shrui .host w 9#32).toInt : ℝ) : EReal) * Ideal.ofBits .f32 0x34000000#32)
    * Ideal.ofBits .f32 0x3F800000#32 + low)

/-- The noise made from such a number. -/
def gumbel (u : EReal) : EReal := -Ideal.log (-Ideal.log u)

/-- The two words of an entry made into one. -/
def fold (x : Word × Word) : Word := x.1 ^^^ x.2

/-- The random word of counter `n` under the key `k₀, k₁`. -/
def bits (k₀ k₁ n : Word) : Word := fold (words (fun a b => a ^^^ b) k₀ k₁ (0#32, n))

/-- The keys of the two draws. -/
abbrev first0 : Word := 1832780943#32
abbrev first1 : Word := 270669613#32
abbrev second0 : Word := 64467757#32
abbrev second1 : Word := 2916123636#32

/-- The two draws' noise at counter `n`. -/
def noise1 (n : Word) : EReal := gumbel (unit (bits first0 first1 n))
def noise2 (n : Word) : EReal := gumbel (unit (bits second0 second1 n))

/-- The chance the score `z` gives. -/
def prob (z : EReal) : EReal :=
  Ideal.div (Ideal.ofBits .f32 0x3F800000#32)
    (Ideal.ofBits .f32 0x3F800000#32 + Ideal.exp (-Ideal.div z (Ideal.ofBits .f32 0x3F000000#32)))

/-- The mask of a chance, carried through the chance itself. -/
def straight (p : EReal) : EReal :=
  (((Ideal.cmp .ogt p (Ideal.ofBits .f32 0x3F000000#32)).toNat : ℝ) : EReal) + p - p

/-- Whether a score is further from zero than the band is wide. -/
def far (z : EReal) : BitVec 1 := Ideal.cmp .ogt (max z (-z)) (Ideal.ofBits .f32 0x3A000000#32)

/-- The counter of an entry, computed in 64 bits: its low half, and its high half. -/
theorem counter_low (a b : ℕ) (ha : a < 2048) (hb : b < 2048) :
    (IntOp.addi (IntOp.muli 2048#64 (BitVec.ofNat 64 a)) (IntOp.muli 1#64 (BitVec.ofNat 64 b))).setWidth 32
      = BitVec.ofNat 32 (2048 * a + b) := by
  apply BitVec.eq_of_toNat_eq
  simp only [IntOp.addi, IntOp.muli, BitVec.toNat_setWidth, BitVec.toNat_add, BitVec.toNat_mul, BitVec.toNat_ofNat]
  omega

theorem counter_high (a b : ℕ) (ha : a < 2048) (hb : b < 2048) :
    (IntOp.shrui .host (IntOp.addi (IntOp.muli 2048#64 (BitVec.ofNat 64 a)) (IntOp.muli 1#64 (BitVec.ofNat 64 b))) 32#64).setWidth 32
      = 0#32 := by
  have h : (32#64).toNat < 64 := by decide
  simp only [IntOp.shrui, if_pos h]
  have e : (IntOp.addi (IntOp.muli 2048#64 (BitVec.ofNat 64 a)) (IntOp.muli 1#64 (BitVec.ofNat 64 b))).toNat < 4294967296 := by
    simp only [IntOp.addi, IntOp.muli, BitVec.toNat_add, BitVec.toNat_mul, BitVec.toNat_ofNat]
    omega
  apply BitVec.eq_of_toNat_eq
  rw [BitVec.toNat_setWidth, BitVec.ushiftRight_eq', BitVec.toNat_ushiftRight, Nat.shiftRight_eq_div_pow,
    show (32#64).toNat = 32 from rfl, Nat.div_eq_of_lt e]
  rfl

/-- A level in steps of 1/1024, held in 16 bits. -/
def code (t : EReal) : BitVec 16 :=
  (Ideal.fptosi 32 (min (((32767#32 : Word).toInt : ℝ) : EReal)
    (max (((4294934528#32 : Word).toInt : ℝ) : EReal)
      (Ideal.liftRound Ideal.roundHalfEven (t * Ideal.ofBits .f32 0x44800000#32))))).setWidth 16

/-- The words of the two split keys. -/
theorem seeded_first : words (fun a b => a ^^^ b) 0#32 42#32 (0#32, 0#32) = (first0, first1) := by decide +kernel
theorem seeded_second : words (fun a b => a ^^^ b) 0#32 42#32 (0#32, 1#32) = (second0, second1) := by decide +kernel

end Cert.Noise
-- ==== Proof.Fraction.lean ====
/-
  The kernel makes a random word's upper bits the fraction of a number from 1 up to 2 and takes 1 away; that is the same
  number as those bits in steps of 2^-23.
-/
module

public import proofs.«01_k».proof.Proof.Scalar

@[expose] public section

noncomputable section

namespace Cert.Noise

open Idealize.ShloMosaic

/-- A random word's upper 23 bits as the fraction of a number from 1 up to 2, less 1, carried between the same ends. -/
def unitBits (w : Word) : EReal :=
  max low ((Ideal.ofBits .f32 (IntOp.shrui .host w 9#32 ||| 0x3F800000#32) - Ideal.ofBits .f32 0x3F800000#32)
    * Ideal.ofBits .f32 0x3F800000#32 + low)

/-- The number with the exponent of one and the fraction `v`. -/
theorem fraction (v : Word) (hv : v.toNat < 2 ^ 23) :
    Ideal.ofBits .f32 (v ||| 0x3F800000#32) = (((1 : ℝ) + (v.toNat : ℝ) * (1 / 2 ^ 23) : ℝ) : EReal) := by
  have hb : (v ||| 0x3F800000#32).toNat = 2 ^ 23 * 127 + v.toNat := by
    rw [BitVec.toNat_or, Nat.two_pow_add_eq_or_of_lt hv 127, Nat.or_comm]
    rfl
  have hs : ((v ||| 0x3F800000#32).extractLsb' (8 + 23) 1 == 1#1) = false := by
    rw [beq_eq_false_iff_ne]
    intro h
    have := congrArg BitVec.toNat h
    rw [BitVec.extractLsb'_toNat, hb, Nat.shiftRight_eq_div_pow, BitVec.toNat_ofNat] at this
    omega
  have he : ((v ||| 0x3F800000#32).extractLsb' 23 8).toNat = 127 := by
    rw [BitVec.extractLsb'_toNat, hb, Nat.shiftRight_eq_div_pow]
    omega
  have hf : ((v ||| 0x3F800000#32).extractLsb' 0 23).toNat = v.toNat := by
    rw [BitVec.extractLsb'_toNat, hb, Nat.shiftRight_eq_div_pow]
    omega
  show Ideal.ieee 8 23 (v ||| 0x3F800000#32) = _
  unfold Ideal.ieee
  simp only [hs, he, hf]
  rw [if_neg (by norm_num), if_neg (by norm_num), EReal.coe_eq_coe_iff]
  norm_num
  ring

theorem unitBits_eq (w : Word) : unitBits w = unit w := by
  have h : (9#32).toNat < 32 := by decide
  have e : (IntOp.shrui .host w 9#32).toNat = w.toNat / 512 := by
    simp only [IntOp.shrui, if_pos h]
    rw [BitVec.ushiftRight_eq', BitVec.toNat_ushiftRight, Nat.shiftRight_eq_div_pow]
    rfl
  have hv : (IntOp.shrui .host w 9#32).toNat < 2 ^ 23 := by rw [e]; have := w.isLt; omega
  have hi : (IntOp.shrui .host w 9#32).toInt = ((IntOp.shrui .host w 9#32).toNat : ℤ) := by
    rw [BitVec.toInt_eq_toNat_cond, if_pos (by omega)]
  have one : Ideal.ofBits .f32 0x3F800000#32 = ((1 : ℝ) : EReal) := by
    simp [Ideal.ofBits, Ideal.ieee]
    rw [← EReal.coe_mul]
    norm_num
  have step : Ideal.ofBits .f32 0x34000000#32 = (((1 : ℝ) / 2 ^ 23 : ℝ) : EReal) := by
    simp [Ideal.ofBits, Ideal.ieee]
    rw [← EReal.coe_mul]
    norm_num
  unfold unitBits unit
  rw [fraction _ hv, hi, step, one, ← EReal.coe_sub, ← EReal.coe_mul (((IntOp.shrui .host w 9#32).toNat : ℤ) : ℝ)]
  congr 4
  push_cast
  ring

end Cert.Noise
-- ==== Proof.HostNoise.lean ====
module

public import proofs.«01_k».proof.Proof.Gen.KernelIdeal.Launch
public import proofs.«01_k».proof.Proof.Fraction
public import Idealize.ShloMosaic.Lib.StableHlo.RunRead
public import Idealize.ShloMosaic.PureOps.Ideal
public import proofs.«01_k».proof.Proof.IdealFrame
public import Idealize.ShloMosaic.Lib.ValueLayout
public import Idealize.ShloMosaic.Lib.Pipeline.Value

@[expose] public section

set_option maxRecDepth 16384

noncomputable section

namespace Cert.HostNoise

open Idealize.ShloMosaic Idealize.ShloMosaic.TcCoe Cert.KernelIdeal Cert.KernelIdeal.Gen Cert.Noise
open Idealize.ShloMosaic.StableHlo (after)
open Idealize.ShloMosaic.ValueIdx

/-- The `n` operations of the host line from position `a` on. -/
abbrev seg (a n : ℕ) : List (HloOp τ sig (Elt Ideal)) := (hostOps0.drop a).take n

abbrev mix : Word → Word → Word := fun a b => b ^^^ a

/-- The third words of the two keys. -/
abbrev first2 : Word := 1724713080#32
abbrev second2 : Word := 3050711811#32

theorem first2_eq : third first0 first1 = first2 := by decide +kernel
theorem second2_eq : third second0 second1 = second2 := by decide +kernel

/-- The unit numbers of a draw, as a square. -/
abbrev square (x y : IVec S4194304 32) : S2048x2048.Idx → EReal :=
  shapeCast S2048x2048 (fun j => unitBits (x j ^^^ y j)) shapeCasts_S4194304_S2048x2048

theorem a_head (W : Valuation τ sig (Elt Ideal)) (i : S4194304.Idx) :
    ((after (seg 0 6) W (Proc.devRef .tc main_v1) i : Word), (after (seg 0 6) W (Proc.devRef .tc main_v3) i : Word))
      = (first0, BitVec.ofNat 32 (i 0).val + first1) := by
  after_reads_simp
  rfl

theorem a0 (W : Valuation τ sig (Elt Ideal)) (i : S4194304.Idx) :
    ((after (seg 6 45) W (Proc.devRef .tc main_v33) i : Word), (after (seg 6 45) W (Proc.devRef .tc main_v37) i : Word))
      = even mix first1 first2 1#32 (W (Proc.devRef .tc main_v1) i, W (Proc.devRef .tc main_v3) i) := by
  after_reads_simp
  rfl

theorem a1 (W : Valuation τ sig (Elt Ideal)) (i : S4194304.Idx) :
    ((after (seg 51 45) W (Proc.devRef .tc main_v67) i : Word), (after (seg 51 45) W (Proc.devRef .tc main_v71) i : Word))
      = odd mix first2 first0 2#32 (W (Proc.devRef .tc main_v33) i, W (Proc.devRef .tc main_v37) i) := by
  after_reads_simp
  rfl

theorem a2 (W : Valuation τ sig (Elt Ideal)) (i : S4194304.Idx) :
    ((after (seg 96 45) W (Proc.devRef .tc main_v101) i : Word), (after (seg 96 45) W (Proc.devRef .tc main_v105) i : Word))
      = even mix first0 first1 3#32 (W (Proc.devRef .tc main_v67) i, W (Proc.devRef .tc main_v71) i) := by
  after_reads_simp
  rfl

theorem a3 (W : Valuation τ sig (Elt Ideal)) (i : S4194304.Idx) :
    ((after (seg 141 45) W (Proc.devRef .tc main_v135) i : Word), (after (seg 141 45) W (Proc.devRef .tc main_v139) i : Word))
      = odd mix first1 first2 4#32 (W (Proc.devRef .tc main_v101) i, W (Proc.devRef .tc main_v105) i) := by
  after_reads_simp
  rfl

theorem a4 (W : Valuation τ sig (Elt Ideal)) (i : S4194304.Idx) :
    ((after (seg 186 45) W (Proc.devRef .tc main_v169) i : Word), (after (seg 186 45) W (Proc.devRef .tc main_v173) i : Word))
      = even mix first2 first0 5#32 (W (Proc.devRef .tc main_v135) i, W (Proc.devRef .tc main_v139) i) := by
  after_reads_simp
  rfl

theorem a_tail (W : Valuation τ sig (Elt Ideal)) :
    (after (seg 231 21) W (Proc.devRef .tc main_v188) : S2048x2048.Idx → EReal)
      = square (W (Proc.devRef .tc main_v169)) (W (Proc.devRef .tc main_v173)) := by
  after_reads_simp
  rfl

theorem b_head (W : Valuation τ sig (Elt Ideal)) (i : S4194304.Idx) :
    ((after (seg 252 6) W (Proc.devRef .tc main_v190) i : Word), (after (seg 252 6) W (Proc.devRef .tc main_v192) i : Word))
      = (second0, BitVec.ofNat 32 (i 0).val + second1) := by
  after_reads_simp
  rfl

theorem b0 (W : Valuation τ sig (Elt Ideal)) (i : S4194304.Idx) :
    ((after (seg 258 45) W (Proc.devRef .tc main_v222) i : Word), (after (seg 258 45) W (Proc.devRef .tc main_v226) i : Word))
      = even mix second1 second2 1#32 (W (Proc.devRef .tc main_v190) i, W (Proc.devRef .tc main_v192) i) := by
  after_reads_simp
  rfl

theorem b1 (W : Valuation τ sig (Elt Ideal)) (i : S4194304.Idx) :
    ((after (seg 303 45) W (Proc.devRef .tc main_v256) i : Word), (after (seg 303 45) W (Proc.devRef .tc main_v260) i : Word))
      = odd mix second2 second0 2#32 (W (Proc.devRef .tc main_v222) i, W (Proc.devRef .tc main_v226) i) := by
  after_reads_simp
  rfl

theorem b2 (W : Valuation τ sig (Elt Ideal)) (i : S4194304.Idx) :
    ((after (seg 348 45) W (Proc.devRef .tc main_v290) i : Word), (after (seg 348 45) W (Proc.devRef .tc main_v294) i : Word))
      = even mix second0 second1 3#32 (W (Proc.devRef .tc main_v256) i, W (Proc.devRef .tc main_v260) i) := by
  after_reads_simp
  rfl

theorem b3 (W : Valuation τ sig (Elt Ideal)) (i : S4194304.Idx) :
    ((after (seg 393 45) W (Proc.devRef .tc main_v324) i : Word), (after (seg 393 45) W (Proc.devRef .tc main_v328) i : Word))
      = odd mix second1 second2 4#32 (W (Proc.devRef .tc main_v290) i, W (Proc.devRef .tc main_v294) i) := by
  after_reads_simp
  rfl

theorem b4 (W : Valuation τ sig (Elt Ideal)) (i : S4194304.Idx) :
    ((after (seg 438 45) W (Proc.devRef .tc main_v358) i : Word), (after (seg 438 45) W (Proc.devRef .tc main_v362) i : Word))
      = even mix second2 second0 5#32 (W (Proc.devRef .tc main_v324) i, W (Proc.devRef .tc main_v328) i) := by
  after_reads_simp
  rfl

theorem b_tail (W : Valuation τ sig (Elt Ideal)) :
    (after (seg 483 21) W (Proc.devRef .tc main_v377) : S2048x2048.Idx → EReal)
      = square (W (Proc.devRef .tc main_v358)) (W (Proc.devRef .tc main_v362)) := by
  after_reads_simp
  rfl

/-- The stretch of the first draw, and of the second. -/
theorem a_line : (seg 0 252)
    = seg 0 6 ++ (seg 6 45 ++ (seg 51 45 ++ (seg 96 45 ++ (seg 141 45 ++ (seg 186 45 ++ seg 231 21))))) := rfl
theorem b_line : (seg 252 252)
    = seg 252 6 ++ (seg 258 45 ++ (seg 303 45 ++ (seg 348 45 ++ (seg 393 45 ++ (seg 438 45 ++ seg 483 21))))) := rfl

/-- The second draw leaves the first alone. -/
theorem b_keeps (W : Valuation τ sig (Elt Ideal)) :
    after (seg 252 252) W (Proc.devRef .tc main_v188) = W (Proc.devRef .tc main_v188) := by
  after_reads_simp

theorem tail_read (W : Valuation τ sig (Elt Ideal)) (i : S2048x2048.Idx) :
    (after (seg 504 12) W (Proc.devRef .tc main_v388) i : EReal)
      = (gumbel (W (Proc.devRef .tc main_v377) i) - gumbel (W (Proc.devRef .tc main_v188) i)) * Ideal.ofBits .f32 0x44800000#32 := by
  after_reads_simp
  rfl

/-- The rest of the host line. -/
abbrev rest : List (HloOp τ sig (Elt Ideal)) := hostOps0_1 ++ (hostOps0_2 ++ (hostOps0_3 ++ hostOps0_4))

theorem rest_code (W : Valuation τ sig (Elt Ideal)) (i : S2048x2048.Idx) (t : EReal)
    (h : (W (Proc.devRef .tc main_v388) i : EReal) = t * Ideal.ofBits .f32 0x44800000#32) :
    (after rest W (Proc.devRef .tc main_v392) i : BitVec 16) = code t := by
  unfold code
  rw [← h]
  after_reads_simp
  rfl

/-- The two rows of entry numbers. -/
abbrev edges : IVec S2x4194304 32 :=
  concatenate S2x4194304 0
    [⟨S1x4194304, broadcastInDim S1x4194304 ![1] bcast_S4194304_S1x4194304_1
      (shapeCast S4194304 (broadcastInDim S2048x2048 ![0] bcast_S2048_S2048x2048_0 (iotaInDim S2048 32 0)) shapeCasts_S2048x2048_S4194304)⟩,
     ⟨S1x4194304, broadcastInDim S1x4194304 ![1] bcast_S4194304_S1x4194304_1
      (shapeCast S4194304 (broadcastInDim S2048x2048 ![0, 1] bcast_S1x2048_S2048x2048_0_1
        (shapeCast S1x2048 (iotaInDim S2048 32 0) shapeCasts_S2048_S1x2048)) shapeCasts_S2048x2048_S4194304)⟩]
    concatenates_S1x4194304_S1x4194304_S2x4194304_d0

theorem rest_edges (W : Valuation τ sig (Elt Ideal)) :
    (after rest W (Proc.devRef .tc main_v402) : IVec S2x4194304 32) = edges := by
  after_reads_simp
  rfl

/-- The whole host line, in its stretches. -/
theorem line_eq : List.flatten [hostOps0, hostOps0_1, hostOps0_2, hostOps0_3, hostOps0_4]
    = seg 0 252 ++ (seg 252 252 ++ (seg 504 12 ++ rest)) := rfl

/-- Counter number of an entry of the square. -/
abbrev pos (a b : Fin 2048) : Fin 4194304 := ⟨2048 * a.val + b.val, by omega⟩

theorem square_apply (x y : IVec S4194304 32) (a b : Fin 2048) :
    square x y (ix2 a b) = unit (x (ix1 (pos a b)) ^^^ y (ix1 (pos a b))) := by
  rw [← unitBits_eq]
  refine shapeCast_apply _ _ _ (ix1 (pos a b)) ?_
  rw [Shape.rowMajor_val_one, Shape.rowMajor_val_two]
  show 2048 * a.val + b.val = a.val * 2048 + b.val
  omega

/-- An entry of a square whose two words are those of its counter. -/
theorem square_words (x y : IVec S4194304 32) (k₀ k₁ : Word) (a b : Fin 2048)
    (h : (x (ix1 (pos a b)), y (ix1 (pos a b))) = words (fun a b => a ^^^ b) k₀ k₁ (0#32, BitVec.ofNat 32 (pos a b).val)) :
    square x y (ix2 a b) = unit (bits k₀ k₁ (BitVec.ofNat 32 (pos a b).val)) := by
  rw [square_apply]
  unfold bits
  rw [← h]
  unfold fold
  rfl

variable (m : (ℓ : Loc nD τ sig) → Buf (Elt Ideal) ℓ)

theorem a_read (W : Valuation τ sig (Elt Ideal)) (a b : Fin 2048) :
    (after (seg 0 252) W (Proc.devRef .tc main_v188) (ix2 a b) : EReal)
      = unit (bits first0 first1 (BitVec.ofNat 32 (pos a b).val)) := by
  rw [a_line]
  simp only [StableHlo.after_append]
  rw [a_tail]
  apply square_words
  rw [a4, a3, a2, a1, a0, a_head]
  unfold words
  rw [first2_eq, BitVec.zero_add, show mix = fun a b : Word => a ^^^ b from mix_comm]

theorem b_read (W : Valuation τ sig (Elt Ideal)) (a b : Fin 2048) :
    (after (seg 252 252) W (Proc.devRef .tc main_v377) (ix2 a b) : EReal)
      = unit (bits second0 second1 (BitVec.ofNat 32 (pos a b).val)) := by
  rw [b_line]
  simp only [StableHlo.after_append]
  rw [b_tail]
  apply square_words
  rw [b4, b3, b2, b1, b0, b_head]
  unfold words
  rw [second2_eq, BitVec.zero_add, show mix = fun a b : Word => a ^^^ b from mix_comm]

/-- The scaled difference of the two draws' noise. -/
theorem scaled (W : Valuation τ sig (Elt Ideal)) (a b : Fin 2048) :
    (after (seg 504 12) (after (seg 252 252) (after (seg 0 252) W)) (Proc.devRef .tc main_v388) (ix2 a b) : EReal)
      = (noise2 (BitVec.ofNat 32 (pos a b).val) - noise1 (BitVec.ofNat 32 (pos a b).val)) * Ideal.ofBits .f32 0x44800000#32 := by
  rw [tail_read, b_read, b_keeps, a_read]
  rfl

/-- The kernel's level at an entry. -/
theorem level (c : Dev nD) (a b : Fin 2048) :
    (Gen.V m c main_v392 (ix2 a b) : BitVec 16)
      = code (noise2 (BitVec.ofNat 32 (pos a b).val) - noise1 (BitVec.ofNat 32 (pos a b).val)) := by
  show (after (List.flatten [hostOps0, hostOps0_1, hostOps0_2, hostOps0_3, hostOps0_4]) _ (Proc.devRef .tc main_v392) (ix2 a b) : BitVec 16) = _
  rw [line_eq]
  simp only [StableHlo.after_append]
  exact rest_code _ _ _ (scaled _ a b)

theorem edges_read (c : Dev nD) : (Gen.V m c main_v402 : IVec S2x4194304 32) = edges := by
  show (after (List.flatten [hostOps0, hostOps0_1, hostOps0_2, hostOps0_3, hostOps0_4]) _ (Proc.devRef .tc main_v402) : IVec S2x4194304 32) = _
  rw [line_eq]
  simp only [StableHlo.after_append]
  exact rest_edges _

end Cert.HostNoise
-- ==== Proof.RefRun.lean ====
module

public import proofs.«01_k».proof.Proof.Gen.ReferenceIdeal
public import Idealize.ShloMosaic.Lib.StableHlo.RunHlo
public import Idealize.ShloMosaic.Lib.StableHlo.RunRead
public import Idealize.ShloMosaic.PureOps.Ideal
public import Idealize.ShloMosaic.Lib.Quiescent

@[expose] public section

set_option maxRecDepth 16384

noncomputable section

namespace Cert.RefRun

open Idealize.ShloMosaic Idealize.ShloMosaic.TcCoe Idealize.SL.Sem Cert.ReferenceIdeal Cert.ReferenceIdeal.Gen
open Idealize.ShloMosaic.StableHlo (after seq seq_append IsSeq TRef tcRefs)

/-- A program of the reference's host. -/
abbrev HostProg := Prog (TpuEff nD τ sig (Elt Ideal) (Pipeline.Sig Λ₀ (Fin 0) fun p => (pcfgs (F := Ideal) p).Adm) .tc) PUnit

abbrev Ops := List (HloOp τ sig (Elt Ideal))

/-- An operation that touches buffers of the host's core only and determines what it writes. -/
def Plain (op : HloOp τ sig (Elt Ideal)) : Prop := op.bufs ⊆ tcRefs τ sig ∧ op.fresh = ∅

/-- `p` runs the plain operations `ops`, in order. -/
structure Runs (p : HostProg) (ops : Ops) : Prop where
  eq : IsSeq p ops
  plain : ops.Forall Plain

theorem Runs.nil : Runs (pure ⟨⟩) [] := ⟨IsSeq.nil, trivial⟩

theorem Runs.cons {op : HloOp τ sig (Elt Ideal)} {k : HostProg} {ops : Ops} (hop : Plain op) (h : Runs k ops) :
    Runs ((hlo rfl op fun _ => .ret (⟨⟩ : PUnit)) >>= fun _ => k) (op :: ops) :=
  ⟨IsSeq.cons h.eq, by rw [List.forall_cons]; exact ⟨hop, h.plain⟩⟩

theorem Runs.bind {p k : HostProg} {a b : Ops} (hp : Runs p a) (hk : Runs k b) : Runs (p >>= fun _ => k) (a ++ b) := by
  refine ⟨?_, List.forall_append.2 ⟨hp.plain, hk.plain⟩⟩
  have h1 : p = seq a := hp.eq
  have h2 : k = seq b := hk.eq
  show p >>= (fun _ => k) = seq (a ++ b)
  rw [h1, h2, seq_append]

/-- `Runs` with the next operations' list still to be read. -/
theorem Runs.cons' {op : HloOp τ sig (Elt Ideal)} {k : HostProg} {ops rest : Ops} (hop : Plain op) (h : Runs k (ops ++ rest)) :
    Runs ((hlo rfl op fun _ => .ret (⟨⟩ : PUnit)) >>= fun _ => k) ((op :: ops) ++ rest) := Runs.cons hop h

theorem Runs.bind' {p k : HostProg} {a b : Ops} (hp : Runs p a) (hk : Runs k b) : Runs (p >>= fun _ => k) ([] ++ (a ++ b)) :=
  have h := Runs.bind hp hk
  h

theorem plain_nullary (y : Ref sig .tc) (v) (hy) : Plain (StableHlo.nullary (τ := τ) y v hy) :=
  ⟨StableHlo.nullary_bufs_sub .., rfl⟩
theorem plain_unary (x y : Ref sig .tc) (f : x.ty.Contents (Elt Ideal) → y.ty.Contents (Elt Ideal)) (hx hy) :
    Plain (StableHlo.unary (τ := τ) x y f hx hy) := ⟨StableHlo.unary_bufs_sub .., rfl⟩
theorem plain_binary (a b y : Ref sig .tc) (f : a.ty.Contents (Elt Ideal) → b.ty.Contents (Elt Ideal) → y.ty.Contents (Elt Ideal)) (ha hb hy) :
    Plain (StableHlo.binary (τ := τ) a b y f ha hb hy) := ⟨StableHlo.binary_bufs_sub .., rfl⟩
theorem plain_reshape (x y : Ref sig .tc) (he hn hx hy) : Plain (StableHlo.reshape (τ := τ) (Val := Elt Ideal) x y he hn hx hy) :=
  ⟨StableHlo.reshape_bufs_sub .., rfl⟩

/-- A host program, with the line of operations it runs. -/
abbrev Line (p : HostProg) := { ops : Ops // Runs p ops }

/-- A host program, with the operations before and after a part already read. -/
abbrev Line1 (p : HostProg) (x : Ops) := { l : Ops × Ops // Runs p (l.1 ++ (x ++ l.2)) }
abbrev Line2 (p : HostProg) (x y : Ops) := { l : Ops × Ops × Ops // Runs p (l.1 ++ (x ++ (l.2.1 ++ (y ++ l.2.2)))) }

def line1 {p : HostProg} {x a b : Ops} (h : Runs p (a ++ (x ++ b))) : Line1 p x := ⟨(a, b), h⟩
def line2 {p : HostProg} {x y a b c : Ops} (h : Runs p (a ++ (x ++ (b ++ (y ++ c))))) : Line2 p x y := ⟨(a, b, c), h⟩

def wide0 (a0 a1 : TRef sig ⟨S_, .i32⟩) (a2 a3 : TRef sig ⟨S2048x2048, .i32⟩) (φ : fn_threefry2x32_0.Bufs) :
    Line (fn_threefry2x32_0.body_part0 (F := Ideal) a0 a1 a2 a3 φ) := by
  apply Subtype.mk
  unfold fn_threefry2x32_0.body_part0
  repeat (first
    | exact Runs.nil
    | (apply Runs.cons; · with_reducible first | exact plain_unary .. | exact plain_binary .. | exact plain_nullary .. | exact plain_reshape ..))

def wide1 (a0 a1 : TRef sig ⟨S_, .i32⟩) (a2 a3 : TRef sig ⟨S2048x2048, .i32⟩) (φ : fn_threefry2x32_0.Bufs) :
    Line (fn_threefry2x32_0.body_part1 (F := Ideal) a0 a1 a2 a3 φ) := by
  apply Subtype.mk
  unfold fn_threefry2x32_0.body_part1
  repeat (first
    | exact Runs.nil
    | (apply Runs.cons; · with_reducible first | exact plain_unary .. | exact plain_binary .. | exact plain_nullary .. | exact plain_reshape ..))

def wide2 (a0 a1 : TRef sig ⟨S_, .i32⟩) (a2 a3 : TRef sig ⟨S2048x2048, .i32⟩) (φ : fn_threefry2x32_0.Bufs) :
    Line (fn_threefry2x32_0.body_part2 (F := Ideal) a0 a1 a2 a3 φ) := by
  apply Subtype.mk
  unfold fn_threefry2x32_0.body_part2
  repeat (first
    | exact Runs.nil
    | (apply Runs.cons; · with_reducible first | exact plain_unary .. | exact plain_binary .. | exact plain_nullary .. | exact plain_reshape ..))

def wide3 (a0 a1 : TRef sig ⟨S_, .i32⟩) (a2 a3 : TRef sig ⟨S2048x2048, .i32⟩) (φ : fn_threefry2x32_0.Bufs) :
    Line (fn_threefry2x32_0.body_part3 (F := Ideal) a0 a1 a2 a3 φ) := by
  apply Subtype.mk
  unfold fn_threefry2x32_0.body_part3
  repeat (first
    | exact Runs.nil
    | (apply Runs.cons; · with_reducible first | exact plain_unary .. | exact plain_binary .. | exact plain_nullary .. | exact plain_reshape ..))

/-- The operations of one call of the generator on words of shape `S2048x2048`. -/
def wide (a0 a1 : TRef sig ⟨S_, .i32⟩) (a2 a3 : TRef sig ⟨S2048x2048, .i32⟩) (φ : fn_threefry2x32_0.Bufs) : Ops :=
  (wide0 a0 a1 a2 a3 φ).1 ++ ((wide1 a0 a1 a2 a3 φ).1 ++ ((wide2 a0 a1 a2 a3 φ).1 ++ (wide3 a0 a1 a2 a3 φ).1))

theorem wide_runs (a0 a1 : TRef sig ⟨S_, .i32⟩) (a2 a3 : TRef sig ⟨S2048x2048, .i32⟩) (φ : fn_threefry2x32_0.Bufs) :
    Runs (fn_threefry2x32_0.body (F := Ideal) a0 a1 a2 a3 φ) (wide a0 a1 a2 a3 φ) := by
  unfold fn_threefry2x32_0.body
  exact (wide0 a0 a1 a2 a3 φ).2.bind ((wide1 a0 a1 a2 a3 φ).2.bind ((wide2 a0 a1 a2 a3 φ).2.bind (wide3 a0 a1 a2 a3 φ).2))

def two0 (a0 a1 : TRef sig ⟨S_, .i32⟩) (a2 a3 : TRef sig ⟨S2, .i32⟩) (φ : fn_threefry2x32.Bufs) :
    Line (fn_threefry2x32.body_part0 (F := Ideal) a0 a1 a2 a3 φ) := by
  apply Subtype.mk
  unfold fn_threefry2x32.body_part0
  repeat (first
    | exact Runs.nil
    | (apply Runs.cons; · with_reducible first | exact plain_unary .. | exact plain_binary .. | exact plain_nullary .. | exact plain_reshape ..))

def two1 (a0 a1 : TRef sig ⟨S_, .i32⟩) (a2 a3 : TRef sig ⟨S2, .i32⟩) (φ : fn_threefry2x32.Bufs) :
    Line (fn_threefry2x32.body_part1 (F := Ideal) a0 a1 a2 a3 φ) := by
  apply Subtype.mk
  unfold fn_threefry2x32.body_part1
  repeat (first
    | exact Runs.nil
    | (apply Runs.cons; · with_reducible first | exact plain_unary .. | exact plain_binary .. | exact plain_nullary .. | exact plain_reshape ..))

def two2 (a0 a1 : TRef sig ⟨S_, .i32⟩) (a2 a3 : TRef sig ⟨S2, .i32⟩) (φ : fn_threefry2x32.Bufs) :
    Line (fn_threefry2x32.body_part2 (F := Ideal) a0 a1 a2 a3 φ) := by
  apply Subtype.mk
  unfold fn_threefry2x32.body_part2
  repeat (first
    | exact Runs.nil
    | (apply Runs.cons; · with_reducible first | exact plain_unary .. | exact plain_binary .. | exact plain_nullary .. | exact plain_reshape ..))

def two3 (a0 a1 : TRef sig ⟨S_, .i32⟩) (a2 a3 : TRef sig ⟨S2, .i32⟩) (φ : fn_threefry2x32.Bufs) :
    Line (fn_threefry2x32.body_part3 (F := Ideal) a0 a1 a2 a3 φ) := by
  apply Subtype.mk
  unfold fn_threefry2x32.body_part3
  repeat (first
    | exact Runs.nil
    | (apply Runs.cons; · with_reducible first | exact plain_unary .. | exact plain_binary .. | exact plain_nullary .. | exact plain_reshape ..))

/-- The operations of one call of the generator on words of shape `S2`. -/
def two (a0 a1 : TRef sig ⟨S_, .i32⟩) (a2 a3 : TRef sig ⟨S2, .i32⟩) (φ : fn_threefry2x32.Bufs) : Ops :=
  (two0 a0 a1 a2 a3 φ).1 ++ ((two1 a0 a1 a2 a3 φ).1 ++ ((two2 a0 a1 a2 a3 φ).1 ++ (two3 a0 a1 a2 a3 φ).1))

theorem two_runs (a0 a1 : TRef sig ⟨S_, .i32⟩) (a2 a3 : TRef sig ⟨S2, .i32⟩) (φ : fn_threefry2x32.Bufs) :
    Runs (fn_threefry2x32.body (F := Ideal) a0 a1 a2 a3 φ) (two a0 a1 a2 a3 φ) := by
  unfold fn_threefry2x32.body
  exact (two0 a0 a1 a2 a3 φ).2.bind ((two1 a0 a1 a2 a3 φ).2.bind ((two2 a0 a1 a2 a3 φ).2.bind (two3 a0 a1 a2 a3 φ).2))

/-- The operations of the key split around its call of the generator. -/
def splitLine (a0 : TRef sig ⟨S2, .i32⟩) (φ : fn_threefry_split.Bufs) :
    Line1 (fn_threefry_split.body (F := Ideal) a0 φ) (two φ.v1 φ.v3 φ.v10 φ.v9 φ.call0) := by
  apply line1
  unfold fn_threefry_split.body
  iterate 13 (apply Runs.cons'; · with_reducible first | exact plain_unary .. | exact plain_binary .. | exact plain_nullary .. | exact plain_reshape ..)
  apply Runs.bind' (two_runs ..)
  repeat (first
    | exact Runs.nil
    | (apply Runs.cons; · with_reducible first | exact plain_unary .. | exact plain_binary .. | exact plain_nullary .. | exact plain_reshape ..))

/-- The operations of the key split. -/
def split (a0 : TRef sig ⟨S2, .i32⟩) (φ : fn_threefry_split.Bufs) : Ops :=
  (splitLine a0 φ).1.1 ++ (two φ.v1 φ.v3 φ.v10 φ.v9 φ.call0 ++ (splitLine a0 φ).1.2)

theorem split_runs (a0 : TRef sig ⟨S2, .i32⟩) (φ : fn_threefry_split.Bufs) :
    Runs (fn_threefry_split.body (F := Ideal) a0 φ) (split a0 φ) := (splitLine a0 φ).2

abbrev split0 : Ops := split (.of main_v11) main_call0
abbrev gen1 : Ops := wide (.of main_v18) (.of main_v20) (.of main_v31) (.of main_v30) main_call1
abbrev gen2 : Ops := wide (.of main_v51) (.of main_v53) (.of main_v64) (.of main_v63) main_call2

/-- The reference's first statements, around the key split and the first noise words. -/
def first (d : Dev nD) : Line2 (main_part0 (F := Ideal) d) split0 gen1 := by
  apply line2
  unfold main_part0
  iterate 16 (apply Runs.cons'; · with_reducible first | exact plain_unary .. | exact plain_binary .. | exact plain_nullary .. | exact plain_reshape ..)
  apply Runs.bind' (split_runs ..)
  iterate 22 (apply Runs.cons'; · with_reducible first | exact plain_unary .. | exact plain_binary .. | exact plain_nullary .. | exact plain_reshape ..)
  apply Runs.bind' (wide_runs ..)
  repeat (first
    | exact Runs.nil
    | (apply Runs.cons; · with_reducible first | exact plain_unary .. | exact plain_binary .. | exact plain_nullary .. | exact plain_reshape ..))

/-- The reference's middle statements, around the second noise words. -/
def middle (d : Dev nD) : Line1 (main_part1 (F := Ideal) d) gen2 := by
  apply line1
  unfold main_part1
  iterate 20 (apply Runs.cons'; · with_reducible first | exact plain_unary .. | exact plain_binary .. | exact plain_nullary .. | exact plain_reshape ..)
  apply Runs.bind' (wide_runs ..)
  repeat (first
    | exact Runs.nil
    | (apply Runs.cons; · with_reducible first | exact plain_unary .. | exact plain_binary .. | exact plain_nullary .. | exact plain_reshape ..))

/-- The reference's last statements. -/
def last (d : Dev nD) : Line (main_part2 (F := Ideal) d) := by
  apply Subtype.mk
  unfold main_part2
  repeat (first
    | exact Runs.nil
    | (apply Runs.cons; · with_reducible first | exact plain_unary .. | exact plain_binary .. | exact plain_nullary .. | exact plain_reshape ..))

/-- The nine stretches of the reference, in order. -/
def s1 (d : Dev nD) : Ops := (first d).1.1
def s2 (d : Dev nD) : Ops := (first d).1.2.1
def s3 (d : Dev nD) : Ops := (first d).1.2.2
def s4 (d : Dev nD) : Ops := (middle d).1.1
def s5 (d : Dev nD) : Ops := (middle d).1.2
def s6 (d : Dev nD) : Ops := (last d).1

def line (d : Dev nD) : Ops :=
  (s1 d ++ (split0 ++ (s2 d ++ (gen1 ++ s3 d)))) ++ ((s4 d ++ (gen2 ++ s5 d)) ++ s6 d)

theorem main_runs (d : Dev nD) : Runs (main (F := Ideal) d) (line d) := by
  unfold main
  exact (first d).2.bind ((middle d).2.bind (last d).2)

theorem scopedRefs_eq : (Finset.univ.filter fun b : Ref sig .tc => b.isScoped) = ∅ := by
  decide
theorem scopedSems_eq : (Finset.univ.filter fun sm : SemLoc sig => sm.isScoped .tc) = ∅ := by decide

/-- The reference leaves its line's contents in every buffer. -/
theorem run_main (m : (ℓ : Loc nD τ sig) → Buf (Elt Ideal) ℓ) (ρ : Dev nD → PrngReg) :
    θ_run defs (onTc (τ := τ) (main (F := Ideal))) ⟨m, fun _ => 0, ρ⟩ fun r =>
      ∀ (d : Dev nD) (b : Ref sig .tc), r.2.mem ((d.tc : Thread nD τ).loc b) = after (line d) (StableHlo.launchContents m d) (Proc.devRef .tc b) :=
  StableHlo.run_seq scopedRefs_eq scopedSems_eq defs (main (F := Ideal)) line (fun d => (main_runs d).eq)
    (fun d => (main_runs d).plain.imp fun _ h => h.1) m ρ
    (fun d op hop => (List.forall_iff_forall_mem.1 (main_runs d).plain op hop).2)

end Cert.RefRun
-- ==== Proof.RefWords.lean ====
module

public import proofs.«01_k».proof.Proof.RefRun
public import proofs.«01_k».proof.Proof.Scalar
public import Idealize.ShloMosaic.Lib.ValueLayout
public import Idealize.ShloMosaic.Lib.IdealHost
public import Idealize.ShloMosaic.Lib.Pipeline.Value

@[expose] public section

set_option maxRecDepth 16384

noncomputable section

namespace Cert.RefRun

open Idealize.ShloMosaic Idealize.ShloMosaic.TcCoe Idealize.SL.Sem Cert.ReferenceIdeal Cert.ReferenceIdeal.Gen Cert.Noise
open Idealize.ShloMosaic.StableHlo (after seq seq_append IsSeq TRef tcRefs)
open Idealize.ShloMosaic.ValueIdx

/-- An entry of an array of words. -/
abbrev word (v : IVec S2048x2048 32) (i : S2048x2048.Idx) : Word := v i

abbrev Contents := Valuation τ sig (Elt Ideal)

abbrev cut (ops : Ops) (a n : ℕ) : Ops := (ops.drop a).take n

/-- A scalar word, at every entry of the square. -/
abbrev wideOf (x : IVec S_ 32) : IVec S2048x2048 32 := broadcastInDim S2048x2048 ![] bcast_S_S2048x2048 x

abbrev mix : Word → Word → Word := fun a b => a ^^^ b

/-- The three key words of call 1, kept by a stretch of the line. -/
abbrev Kept1 (A B : Contents) : Prop :=
  B (Proc.devRef .tc main_v18) = A (Proc.devRef .tc main_v18) ∧ B (Proc.devRef .tc main_v20) = A (Proc.devRef .tc main_v20)
    ∧ B (Proc.devRef .tc main_call1_v1) = A (Proc.devRef .tc main_call1_v1)

theorem c1g0 (W : Contents) (i : S2048x2048.Idx) :
    ((after (cut gen1 7 43) W (Proc.devRef .tc main_call1_v35) i : Word), (after (cut gen1 7 43) W (Proc.devRef .tc main_call1_v39) i : Word))
      = even mix (wideOf (W (Proc.devRef .tc main_v20)) i) (wideOf (W (Proc.devRef .tc main_call1_v1)) i) 1#32
        (W (Proc.devRef .tc main_call1_v3) i, W (Proc.devRef .tc main_call1_v5) i) := by
  after_reads_simp
  rfl

theorem c1k0 (W : Contents) : Kept1 W (after (cut gen1 7 43) W) := by
  refine ⟨?_, ?_, ?_⟩ <;> after_reads_simp

theorem c1g1 (W : Contents) (i : S2048x2048.Idx) :
    ((after (cut gen1 50 43) W (Proc.devRef .tc main_call1_v69) i : Word), (after (cut gen1 50 43) W (Proc.devRef .tc main_call1_v73) i : Word))
      = odd mix (wideOf (W (Proc.devRef .tc main_call1_v1)) i) (wideOf (W (Proc.devRef .tc main_v18)) i) 2#32
        (W (Proc.devRef .tc main_call1_v35) i, W (Proc.devRef .tc main_call1_v39) i) := by
  after_reads_simp
  rfl

theorem c1k1 (W : Contents) : Kept1 W (after (cut gen1 50 43) W) := by
  refine ⟨?_, ?_, ?_⟩ <;> after_reads_simp

theorem c1g2 (W : Contents) (i : S2048x2048.Idx) :
    ((after (cut gen1 93 43) W (Proc.devRef .tc main_call1_v103) i : Word), (after (cut gen1 93 43) W (Proc.devRef .tc main_call1_v107) i : Word))
      = even mix (wideOf (W (Proc.devRef .tc main_v18)) i) (wideOf (W (Proc.devRef .tc main_v20)) i) 3#32
        (W (Proc.devRef .tc main_call1_v69) i, W (Proc.devRef .tc main_call1_v73) i) := by
  after_reads_simp
  rfl

theorem c1k2 (W : Contents) : Kept1 W (after (cut gen1 93 43) W) := by
  refine ⟨?_, ?_, ?_⟩ <;> after_reads_simp

theorem c1g3 (W : Contents) (i : S2048x2048.Idx) :
    ((after (cut gen1 136 43) W (Proc.devRef .tc main_call1_v137) i : Word), (after (cut gen1 136 43) W (Proc.devRef .tc main_call1_v141) i : Word))
      = odd mix (wideOf (W (Proc.devRef .tc main_v20)) i) (wideOf (W (Proc.devRef .tc main_call1_v1)) i) 4#32
        (W (Proc.devRef .tc main_call1_v103) i, W (Proc.devRef .tc main_call1_v107) i) := by
  after_reads_simp
  rfl

theorem c1k3 (W : Contents) : Kept1 W (after (cut gen1 136 43) W) := by
  refine ⟨?_, ?_, ?_⟩ <;> after_reads_simp

theorem c1g4 (W : Contents) (i : S2048x2048.Idx) :
    ((after (cut gen1 179 43) W (Proc.devRef .tc main_v32_0) i : Word), (after (cut gen1 179 43) W (Proc.devRef .tc main_v32_1) i : Word))
      = even mix (wideOf (W (Proc.devRef .tc main_call1_v1)) i) (wideOf (W (Proc.devRef .tc main_v18)) i) 5#32
        (W (Proc.devRef .tc main_call1_v137) i, W (Proc.devRef .tc main_call1_v141) i) := by
  after_reads_simp
  rfl

theorem c1k4 (W : Contents) : Kept1 W (after (cut gen1 179 43) W) := by
  refine ⟨?_, ?_, ?_⟩ <;> after_reads_simp

/-- The three key words of call 2, kept by a stretch of the line. -/
abbrev Kept2 (A B : Contents) : Prop :=
  B (Proc.devRef .tc main_v51) = A (Proc.devRef .tc main_v51) ∧ B (Proc.devRef .tc main_v53) = A (Proc.devRef .tc main_v53)
    ∧ B (Proc.devRef .tc main_call2_v1) = A (Proc.devRef .tc main_call2_v1)

theorem c2g0 (W : Contents) (i : S2048x2048.Idx) :
    ((after (cut gen2 7 43) W (Proc.devRef .tc main_call2_v35) i : Word), (after (cut gen2 7 43) W (Proc.devRef .tc main_call2_v39) i : Word))
      = even mix (wideOf (W (Proc.devRef .tc main_v53)) i) (wideOf (W (Proc.devRef .tc main_call2_v1)) i) 1#32
        (W (Proc.devRef .tc main_call2_v3) i, W (Proc.devRef .tc main_call2_v5) i) := by
  after_reads_simp
  rfl

theorem c2k0 (W : Contents) : Kept2 W (after (cut gen2 7 43) W) := by
  refine ⟨?_, ?_, ?_⟩ <;> after_reads_simp

theorem c2g1 (W : Contents) (i : S2048x2048.Idx) :
    ((after (cut gen2 50 43) W (Proc.devRef .tc main_call2_v69) i : Word), (after (cut gen2 50 43) W (Proc.devRef .tc main_call2_v73) i : Word))
      = odd mix (wideOf (W (Proc.devRef .tc main_call2_v1)) i) (wideOf (W (Proc.devRef .tc main_v51)) i) 2#32
        (W (Proc.devRef .tc main_call2_v35) i, W (Proc.devRef .tc main_call2_v39) i) := by
  after_reads_simp
  rfl

theorem c2k1 (W : Contents) : Kept2 W (after (cut gen2 50 43) W) := by
  refine ⟨?_, ?_, ?_⟩ <;> after_reads_simp

theorem c2g2 (W : Contents) (i : S2048x2048.Idx) :
    ((after (cut gen2 93 43) W (Proc.devRef .tc main_call2_v103) i : Word), (after (cut gen2 93 43) W (Proc.devRef .tc main_call2_v107) i : Word))
      = even mix (wideOf (W (Proc.devRef .tc main_v51)) i) (wideOf (W (Proc.devRef .tc main_v53)) i) 3#32
        (W (Proc.devRef .tc main_call2_v69) i, W (Proc.devRef .tc main_call2_v73) i) := by
  after_reads_simp
  rfl

theorem c2k2 (W : Contents) : Kept2 W (after (cut gen2 93 43) W) := by
  refine ⟨?_, ?_, ?_⟩ <;> after_reads_simp

theorem c2g3 (W : Contents) (i : S2048x2048.Idx) :
    ((after (cut gen2 136 43) W (Proc.devRef .tc main_call2_v137) i : Word), (after (cut gen2 136 43) W (Proc.devRef .tc main_call2_v141) i : Word))
      = odd mix (wideOf (W (Proc.devRef .tc main_v53)) i) (wideOf (W (Proc.devRef .tc main_call2_v1)) i) 4#32
        (W (Proc.devRef .tc main_call2_v103) i, W (Proc.devRef .tc main_call2_v107) i) := by
  after_reads_simp
  rfl

theorem c2k3 (W : Contents) : Kept2 W (after (cut gen2 136 43) W) := by
  refine ⟨?_, ?_, ?_⟩ <;> after_reads_simp

theorem c2g4 (W : Contents) (i : S2048x2048.Idx) :
    ((after (cut gen2 179 43) W (Proc.devRef .tc main_v65_0) i : Word), (after (cut gen2 179 43) W (Proc.devRef .tc main_v65_1) i : Word))
      = even mix (wideOf (W (Proc.devRef .tc main_call2_v1)) i) (wideOf (W (Proc.devRef .tc main_v51)) i) 5#32
        (W (Proc.devRef .tc main_call2_v137) i, W (Proc.devRef .tc main_call2_v141) i) := by
  after_reads_simp
  rfl

theorem c2k4 (W : Contents) : Kept2 W (after (cut gen2 179 43) W) := by
  refine ⟨?_, ?_, ?_⟩ <;> after_reads_simp

theorem c1head (W : Contents) (i : S2048x2048.Idx) :
    ((after (cut gen1 0 7) W (Proc.devRef .tc main_call1_v3) i : Word), (after (cut gen1 0 7) W (Proc.devRef .tc main_call1_v5) i : Word))
      = (word (W (Proc.devRef .tc main_v31)) i + wideOf (W (Proc.devRef .tc main_v18)) i, word (W (Proc.devRef .tc main_v30)) i + wideOf (W (Proc.devRef .tc main_v20)) i) := by
  after_reads_simp
  rfl

theorem c1keys (W : Contents) :
    after (cut gen1 0 7) W (Proc.devRef .tc main_v18) = W (Proc.devRef .tc main_v18)
    ∧ after (cut gen1 0 7) W (Proc.devRef .tc main_v20) = W (Proc.devRef .tc main_v20)
    ∧ (after (cut gen1 0 7) W (Proc.devRef .tc main_call1_v1) : IVec S_ 32) = fun i => third (W (Proc.devRef .tc main_v18) i) (W (Proc.devRef .tc main_v20) i) := by
  refine ⟨?_, ?_, ?_⟩ <;> after_reads_simp
  rfl

set_option maxHeartbeats 4000000 in
theorem c1split : gen1 = cut gen1 0 7 ++ (cut gen1 7 43 ++ (cut gen1 50 43 ++ (cut gen1 93 43 ++ (cut gen1 136 43 ++ cut gen1 179 43)))) := rfl

/-- Call 1's two words at an entry. -/
theorem c1words (W : Contents) (i : S2048x2048.Idx) :
    ((after gen1 W (Proc.devRef .tc main_v32_0) i : Word), (after gen1 W (Proc.devRef .tc main_v32_1) i : Word))
      = words (fun a b => a ^^^ b) (W (Proc.devRef .tc main_v18) ix0) (W (Proc.devRef .tc main_v20) ix0) (W (Proc.devRef .tc main_v31) i, W (Proc.devRef .tc main_v30) i) := by
  rw [c1split]
  simp only [StableHlo.after_append]
  obtain ⟨h2, h4, h7⟩ := c1keys W
  have hx := c1head W i
  generalize hA : after (cut gen1 0 7) W = A at *
  obtain ⟨a2, a4, a7⟩ := c1k0 A
  obtain ⟨b2, b4, b7⟩ := c1k1 (after (cut gen1 7 43) A)
  obtain ⟨c2, c4, c7⟩ := c1k2 (after (cut gen1 50 43) (after (cut gen1 7 43) A))
  obtain ⟨d2, d4, d7⟩ := c1k3 (after (cut gen1 93 43) (after (cut gen1 50 43) (after (cut gen1 7 43) A)))
  rw [c1g4, c1g3, c1g2, c1g1, c1g0, hx]
  simp only [d7, d2, c7, c4, c2, b7, b4, b2, a7, a4, a2, h2, h4, h7, broadcastInDim_scalar_apply]
  rfl

theorem c2head (W : Contents) (i : S2048x2048.Idx) :
    ((after (cut gen2 0 7) W (Proc.devRef .tc main_call2_v3) i : Word), (after (cut gen2 0 7) W (Proc.devRef .tc main_call2_v5) i : Word))
      = (word (W (Proc.devRef .tc main_v64)) i + wideOf (W (Proc.devRef .tc main_v51)) i, word (W (Proc.devRef .tc main_v63)) i + wideOf (W (Proc.devRef .tc main_v53)) i) := by
  after_reads_simp
  rfl

theorem c2keys (W : Contents) :
    after (cut gen2 0 7) W (Proc.devRef .tc main_v51) = W (Proc.devRef .tc main_v51)
    ∧ after (cut gen2 0 7) W (Proc.devRef .tc main_v53) = W (Proc.devRef .tc main_v53)
    ∧ (after (cut gen2 0 7) W (Proc.devRef .tc main_call2_v1) : IVec S_ 32) = fun i => third (W (Proc.devRef .tc main_v51) i) (W (Proc.devRef .tc main_v53) i) := by
  refine ⟨?_, ?_, ?_⟩ <;> after_reads_simp
  rfl

set_option maxHeartbeats 4000000 in
theorem c2split : gen2 = cut gen2 0 7 ++ (cut gen2 7 43 ++ (cut gen2 50 43 ++ (cut gen2 93 43 ++ (cut gen2 136 43 ++ cut gen2 179 43)))) := rfl

/-- Call 2's two words at an entry. -/
theorem c2words (W : Contents) (i : S2048x2048.Idx) :
    ((after gen2 W (Proc.devRef .tc main_v65_0) i : Word), (after gen2 W (Proc.devRef .tc main_v65_1) i : Word))
      = words (fun a b => a ^^^ b) (W (Proc.devRef .tc main_v51) ix0) (W (Proc.devRef .tc main_v53) ix0) (W (Proc.devRef .tc main_v64) i, W (Proc.devRef .tc main_v63) i) := by
  rw [c2split]
  simp only [StableHlo.after_append]
  obtain ⟨h2, h4, h7⟩ := c2keys W
  have hx := c2head W i
  generalize hA : after (cut gen2 0 7) W = A at *
  obtain ⟨a2, a4, a7⟩ := c2k0 A
  obtain ⟨b2, b4, b7⟩ := c2k1 (after (cut gen2 7 43) A)
  obtain ⟨c2, c4, c7⟩ := c2k2 (after (cut gen2 50 43) (after (cut gen2 7 43) A))
  obtain ⟨d2, d4, d7⟩ := c2k3 (after (cut gen2 93 43) (after (cut gen2 50 43) (after (cut gen2 7 43) A)))
  rw [c2g4, c2g3, c2g2, c2g1, c2g0, hx]
  simp only [d7, d2, c7, c4, c2, b7, b4, b2, a7, a4, a2, h2, h4, h7, broadcastInDim_scalar_apply]
  rfl

end Cert.RefRun
-- ==== Proof.RefKeys.lean ====
module

public import proofs.«01_k».proof.Proof.RefWords
public import Idealize.ShloMosaic.Lib.ValueLayout
public import Idealize.ShloMosaic.Lib.IdealHost
public import Idealize.ShloMosaic.Lib.Pipeline.Value

@[expose] public section

set_option maxRecDepth 16384

noncomputable section

namespace Cert.RefRun

open Idealize.ShloMosaic Idealize.ShloMosaic.TcCoe Idealize.SL.Sem Cert.ReferenceIdeal Cert.ReferenceIdeal.Gen Cert.Noise
open Idealize.ShloMosaic.StableHlo (after seq seq_append IsSeq TRef tcRefs)
open Idealize.ShloMosaic.ValueIdx

/-- The call of the generator in the key split. -/
abbrev gen0 : Ops := two main_call0.v1 main_call0.v3 main_call0.v10 main_call0.v9 main_call0.call0

/-- An entry of a pair of words. -/
abbrev word2 (v : IVec S2 32) (i : S2.Idx) : Word := v i

/-- A scalar word, at both entries of a pair. -/
abbrev pairOf (x : IVec S_ 32) : IVec S2 32 := broadcastInDim S2 ![] bcast_S_S2 x

/-- The three key words of call 0, kept by a stretch of the line. -/
abbrev Kept0 (A B : Contents) : Prop :=
  B (Proc.devRef .tc main_call0_v1) = A (Proc.devRef .tc main_call0_v1) ∧ B (Proc.devRef .tc main_call0_v3) = A (Proc.devRef .tc main_call0_v3)
    ∧ B (Proc.devRef .tc main_call0_call0_v1) = A (Proc.devRef .tc main_call0_call0_v1)

theorem c0g0 (W : Contents) (i : S2.Idx) :
    ((after (cut gen0 7 43) W (Proc.devRef .tc main_call0_call0_v35) i : Word), (after (cut gen0 7 43) W (Proc.devRef .tc main_call0_call0_v39) i : Word))
      = even mix (pairOf (W (Proc.devRef .tc main_call0_v3)) i) (pairOf (W (Proc.devRef .tc main_call0_call0_v1)) i) 1#32
        (W (Proc.devRef .tc main_call0_call0_v3) i, W (Proc.devRef .tc main_call0_call0_v5) i) := by
  after_reads_simp
  rfl

theorem c0k0 (W : Contents) : Kept0 W (after (cut gen0 7 43) W) := by
  refine ⟨?_, ?_, ?_⟩ <;> after_reads_simp

theorem c0g1 (W : Contents) (i : S2.Idx) :
    ((after (cut gen0 50 43) W (Proc.devRef .tc main_call0_call0_v69) i : Word), (after (cut gen0 50 43) W (Proc.devRef .tc main_call0_call0_v73) i : Word))
      = odd mix (pairOf (W (Proc.devRef .tc main_call0_call0_v1)) i) (pairOf (W (Proc.devRef .tc main_call0_v1)) i) 2#32
        (W (Proc.devRef .tc main_call0_call0_v35) i, W (Proc.devRef .tc main_call0_call0_v39) i) := by
  after_reads_simp
  rfl

theorem c0k1 (W : Contents) : Kept0 W (after (cut gen0 50 43) W) := by
  refine ⟨?_, ?_, ?_⟩ <;> after_reads_simp

theorem c0g2 (W : Contents) (i : S2.Idx) :
    ((after (cut gen0 93 43) W (Proc.devRef .tc main_call0_call0_v103) i : Word), (after (cut gen0 93 43) W (Proc.devRef .tc main_call0_call0_v107) i : Word))
      = even mix (pairOf (W (Proc.devRef .tc main_call0_v1)) i) (pairOf (W (Proc.devRef .tc main_call0_v3)) i) 3#32
        (W (Proc.devRef .tc main_call0_call0_v69) i, W (Proc.devRef .tc main_call0_call0_v73) i) := by
  after_reads_simp
  rfl

theorem c0k2 (W : Contents) : Kept0 W (after (cut gen0 93 43) W) := by
  refine ⟨?_, ?_, ?_⟩ <;> after_reads_simp

theorem c0g3 (W : Contents) (i : S2.Idx) :
    ((after (cut gen0 136 43) W (Proc.devRef .tc main_call0_call0_v137) i : Word), (after (cut gen0 136 43) W (Proc.devRef .tc main_call0_call0_v141) i : Word))
      = odd mix (pairOf (W (Proc.devRef .tc main_call0_v3)) i) (pairOf (W (Proc.devRef .tc main_call0_call0_v1)) i) 4#32
        (W (Proc.devRef .tc main_call0_call0_v103) i, W (Proc.devRef .tc main_call0_call0_v107) i) := by
  after_reads_simp
  rfl

theorem c0k3 (W : Contents) : Kept0 W (after (cut gen0 136 43) W) := by
  refine ⟨?_, ?_, ?_⟩ <;> after_reads_simp

theorem c0g4 (W : Contents) (i : S2.Idx) :
    ((after (cut gen0 179 43) W (Proc.devRef .tc main_call0_v11_0) i : Word), (after (cut gen0 179 43) W (Proc.devRef .tc main_call0_v11_1) i : Word))
      = even mix (pairOf (W (Proc.devRef .tc main_call0_call0_v1)) i) (pairOf (W (Proc.devRef .tc main_call0_v1)) i) 5#32
        (W (Proc.devRef .tc main_call0_call0_v137) i, W (Proc.devRef .tc main_call0_call0_v141) i) := by
  after_reads_simp
  rfl

theorem c0k4 (W : Contents) : Kept0 W (after (cut gen0 179 43) W) := by
  refine ⟨?_, ?_, ?_⟩ <;> after_reads_simp

theorem c0head (W : Contents) (i : S2.Idx) :
    ((after (cut gen0 0 7) W (Proc.devRef .tc main_call0_call0_v3) i : Word), (after (cut gen0 0 7) W (Proc.devRef .tc main_call0_call0_v5) i : Word))
      = (word2 (W (Proc.devRef .tc main_call0_v10)) i + pairOf (W (Proc.devRef .tc main_call0_v1)) i, word2 (W (Proc.devRef .tc main_call0_v9)) i + pairOf (W (Proc.devRef .tc main_call0_v3)) i) := by
  after_reads_simp
  rfl

theorem c0keys (W : Contents) :
    after (cut gen0 0 7) W (Proc.devRef .tc main_call0_v1) = W (Proc.devRef .tc main_call0_v1)
    ∧ after (cut gen0 0 7) W (Proc.devRef .tc main_call0_v3) = W (Proc.devRef .tc main_call0_v3)
    ∧ (after (cut gen0 0 7) W (Proc.devRef .tc main_call0_call0_v1) : IVec S_ 32) = fun i => third (W (Proc.devRef .tc main_call0_v1) i) (W (Proc.devRef .tc main_call0_v3) i) := by
  refine ⟨?_, ?_, ?_⟩ <;> after_reads_simp
  rfl

set_option maxHeartbeats 4000000 in
theorem c0split : gen0 = cut gen0 0 7 ++ (cut gen0 7 43 ++ (cut gen0 50 43 ++ (cut gen0 93 43 ++ (cut gen0 136 43 ++ cut gen0 179 43)))) := rfl

/-- Call 0's two words at an entry. -/
theorem c0words (W : Contents) (i : S2.Idx) :
    ((after gen0 W (Proc.devRef .tc main_call0_v11_0) i : Word), (after gen0 W (Proc.devRef .tc main_call0_v11_1) i : Word))
      = words (fun a b => a ^^^ b) (W (Proc.devRef .tc main_call0_v1) ix0) (W (Proc.devRef .tc main_call0_v3) ix0) (W (Proc.devRef .tc main_call0_v10) i, W (Proc.devRef .tc main_call0_v9) i) := by
  rw [c0split]
  simp only [StableHlo.after_append]
  obtain ⟨h2, h4, h7⟩ := c0keys W
  have hx := c0head W i
  generalize hA : after (cut gen0 0 7) W = A at *
  obtain ⟨a2, a4, a7⟩ := c0k0 A
  obtain ⟨b2, b4, b7⟩ := c0k1 (after (cut gen0 7 43) A)
  obtain ⟨c2, c4, c7⟩ := c0k2 (after (cut gen0 50 43) (after (cut gen0 7 43) A))
  obtain ⟨d2, d4, d7⟩ := c0k3 (after (cut gen0 93 43) (after (cut gen0 50 43) (after (cut gen0 7 43) A)))
  rw [c0g4, c0g3, c0g2, c0g1, c0g0, hx]
  simp only [d7, d2, c7, c4, c2, b7, b4, b2, a7, a4, a2, h2, h4, h7, broadcastInDim_scalar_apply]
  rfl

end Cert.RefRun
-- ==== Proof.RefRead.lean ====
/-
  The reference's values, read off its line: the two keys, the counters, the two noises, the score and the results.
-/
module

public import proofs.«01_k».proof.Proof.RefKeys
public import proofs.«01_k».proof.Proof.HostNoise

@[expose] public section

set_option maxRecDepth 16384

noncomputable section

namespace Cert.RefRun

open Idealize.ShloMosaic Idealize.ShloMosaic.TcCoe Idealize.SL.Sem Cert.ReferenceIdeal Cert.ReferenceIdeal.Gen Cert.Noise
open Idealize.ShloMosaic.StableHlo (after seq seq_append IsSeq TRef tcRefs)
open Idealize.ShloMosaic.ValueIdx

/-- The products of the reference: `x W` times the transpose of `x`, over one. -/
abbrev dist (x : FVec Ideal S2048x128 .f32) (w : FVec Ideal S128x128 .f32) : FVec Ideal S2048x2048 .f32 :=
  Host.divf (Host.dotGeneral dot_S2048x128_S128x2048_S2048x2048_1_0_0_1_n_n none
      (Host.dotGeneral dot_S2048x128_S128x128_S2048x128_1_0_0_1_n_n none x w)
      (transpose S128x2048 [1, 0] x transposes_S2048x128_S128x2048_1_0))
    (broadcastInDim S2048x2048 ![] bcast_S_S2048x2048 (constant (F := Ideal) S_ .f32 0x3F800000#32))

theorem s1_dist (d : Dev nD) (W : Contents) :
    (after (s1 d) W (Proc.devRef .tc main_v4) : FVec Ideal S2048x2048 .f32)
      = dist (W (Proc.devRef .tc main_arg0)) (W (Proc.devRef .tc main_arg1)) := by
  after_reads_simp

theorem s1_args (d : Dev nD) (W : Contents) :
    after (s1 d) W (Proc.devRef .tc main_arg0) = W (Proc.devRef .tc main_arg0)
    ∧ after (s1 d) W (Proc.devRef .tc main_arg1) = W (Proc.devRef .tc main_arg1) := by
  refine ⟨?_, ?_⟩ <;> after_reads_simp

theorem s1_halves (d : Dev nD) (W : Contents) :
    (after (cut (s1 d) 0 15) W (Proc.devRef .tc main_v7) : IVec S1 32) = (fun _ => 0#32)
    ∧ (after (cut (s1 d) 0 15) W (Proc.devRef .tc main_v10) : IVec S1 32) = (fun _ => 42#32) := by
  refine ⟨?_, ?_⟩ <;> after_reads_simp
  · rfl
  · funext i
    show 42#32 &&& 4294967295#32 = 42#32
    decide

theorem s1_join (d : Dev nD) (W : Contents) :
    (after (cut (s1 d) 15 1) W (Proc.devRef .tc main_v11) : IVec S2 32)
      = concatenate S2 0 [⟨S1, (W (Proc.devRef .tc main_v7) : IVec S1 32)⟩, ⟨S1, (W (Proc.devRef .tc main_v10) : IVec S1 32)⟩]
          concatenates_S1_S1_S2_d0 := by
  after_reads_simp
  rfl

/-- The seed's two words. -/
theorem s1_seed (d : Dev nD) (W : Contents) :
    (after (s1 d) W (Proc.devRef .tc main_v11) : IVec S2 32) (ix1 0) = 0#32
    ∧ (after (s1 d) W (Proc.devRef .tc main_v11) : IVec S2 32) (ix1 1) = 42#32 := by
  have e : s1 d = cut (s1 d) 0 15 ++ cut (s1 d) 15 1 := rfl
  rw [e]
  simp only [StableHlo.after_append]
  obtain ⟨h1, h2⟩ := s1_halves d W
  rw [s1_join, h1, h2]
  constructor <;> decide +kernel

theorem split_front (W : Contents) (i : S2.Idx) :
    (after (splitLine (.of main_v11) main_call0).1.1 W (Proc.devRef .tc main_call0_v1) : IVec S_ 32) ix0
        = (W (Proc.devRef .tc main_v11) : IVec S2 32) (ix1 0)
    ∧ (after (splitLine (.of main_v11) main_call0).1.1 W (Proc.devRef .tc main_call0_v3) : IVec S_ 32) ix0
        = (W (Proc.devRef .tc main_v11) : IVec S2 32) (ix1 1)
    ∧ (after (splitLine (.of main_v11) main_call0).1.1 W (Proc.devRef .tc main_call0_v10) : IVec S2 32) i = 0#32
    ∧ (after (splitLine (.of main_v11) main_call0).1.1 W (Proc.devRef .tc main_call0_v9) : IVec S2 32) i = BitVec.ofNat 32 (i 0).val := by
  refine ⟨?_, ?_, ?_, ?_⟩ <;> after_reads_simp
  · exact congrArg (W (Proc.devRef .tc main_v11) : IVec S2 32) (by decide)
  · exact congrArg (W (Proc.devRef .tc main_v11) : IVec S2 32) (by decide)
  · revert i
    decide +kernel
  · revert i
    decide +kernel

theorem pair_columns (u v : IVec S2 32) (i : Fin 2) (h : S2.BroadcastsInDim S2x1 (![0] : Fin 1 → Fin S2x1.rank)) :
    (concatenate S2x2 1 [⟨S2x1, broadcastInDim S2x1 ![0] h u⟩, ⟨S2x1, broadcastInDim S2x1 ![0] h v⟩]
        concatenates_S2x1_S2x1_S2x2_d1 : IVec S2x2 32) (ix2 i 0) = u (ix1 i)
    ∧ (concatenate S2x2 1 [⟨S2x1, broadcastInDim S2x1 ![0] h u⟩, ⟨S2x1, broadcastInDim S2x1 ![0] h v⟩]
        concatenates_S2x1_S2x1_S2x2_d1 : IVec S2x2 32) (ix2 i 1) = v (ix1 i) := by
  constructor
  · refine (concatenate_pair_apply_left (t := S2x2) (s₁ := S2x1) (s₂ := S2x1) 1 _ _ _ (ix2 i 0) rfl ((ix2 i (0 : Fin 1)) : S2x1.Idx) (by intro b; fin_cases b <;> rfl)).trans ?_
    exact broadcastInDim_apply _ _ _ _ (ix1 i) (by intro a; fin_cases a; rfl)
  · refine (concatenate_pair_apply_right (t := S2x2) (s₁ := S2x1) (s₂ := S2x1) 1 _ _ _ (ix2 i 1) rfl rfl ((ix2 i (0 : Fin 1)) : S2x1.Idx) (by
      intro b hb; fin_cases b
      · rfl
      · exact absurd rfl hb) rfl).trans ?_
    exact broadcastInDim_apply _ _ _ _ (ix1 i) (by intro a; fin_cases a; rfl)

theorem split_back (W : Contents) (i : Fin 2) :
    (after (splitLine (.of main_v11) main_call0).1.2 W (Proc.devRef .tc main_v12) : IVec S2x2 32) (ix2 i 0)
        = (W (Proc.devRef .tc main_call0_v11_0) : IVec S2 32) (ix1 i)
    ∧ (after (splitLine (.of main_v11) main_call0).1.2 W (Proc.devRef .tc main_v12) : IVec S2x2 32) (ix2 i 1)
        = (W (Proc.devRef .tc main_call0_v11_1) : IVec S2 32) (ix1 i) := by
  have h : (after (splitLine (.of main_v11) main_call0).1.2 W (Proc.devRef .tc main_v12) : IVec S2x2 32)
      = concatenate S2x2 1 [⟨S2x1, broadcastInDim S2x1 ![0] bcast_S2_S2x1_0 (W (Proc.devRef .tc main_call0_v11_0) : IVec S2 32)⟩,
          ⟨S2x1, broadcastInDim S2x1 ![0] bcast_S2_S2x1_0 (W (Proc.devRef .tc main_call0_v11_1) : IVec S2 32)⟩]
          concatenates_S2x1_S2x1_S2x2_d1 := by
    after_reads_simp
    rfl
  rw [h]
  exact pair_columns _ _ i bcast_S2_S2x1_0

/-- The split keys: the two words of each row. -/
theorem split_words (W : Contents) (i : Fin 2) :
    (((after split0 W (Proc.devRef .tc main_v12) : IVec S2x2 32) (ix2 i 0) : Word), ((after split0 W (Proc.devRef .tc main_v12) : IVec S2x2 32) (ix2 i 1) : Word))
      = words (fun a b => a ^^^ b) ((W (Proc.devRef .tc main_v11) : IVec S2 32) (ix1 0)) ((W (Proc.devRef .tc main_v11) : IVec S2 32) (ix1 1))
          (0#32, BitVec.ofNat 32 i.val) := by
  have e : split0 = (splitLine (.of main_v11) main_call0).1.1 ++ (gen0 ++ (splitLine (.of main_v11) main_call0).1.2) := rfl
  rw [e]
  simp only [StableHlo.after_append]
  obtain ⟨h1, h2⟩ := split_back (after gen0 (after (splitLine (.of main_v11) main_call0).1.1 W)) i
  have h3 := c0words (after (splitLine (.of main_v11) main_call0).1.1 W) (ix1 i)
  obtain ⟨h4, h5, h6, h7⟩ := split_front W (ix1 i)
  rw [h1, h2]
  refine h3.trans ?_
  rw [h4, h5, h6, h7]

theorem split_keys (d : Dev nD) (W : Contents) :
    ((after split0 (after (s1 d) W) (Proc.devRef .tc main_v12) : IVec S2x2 32) (ix2 0 0) = first0
      ∧ (after split0 (after (s1 d) W) (Proc.devRef .tc main_v12) : IVec S2x2 32) (ix2 0 1) = first1)
    ∧ ((after split0 (after (s1 d) W) (Proc.devRef .tc main_v12) : IVec S2x2 32) (ix2 1 0) = second0
      ∧ (after split0 (after (s1 d) W) (Proc.devRef .tc main_v12) : IVec S2x2 32) (ix2 1 1) = second1) := by
  have h0 := split_words (after (s1 d) W) 0
  have h1 := split_words (after (s1 d) W) 1
  rw [(s1_seed d W).1, (s1_seed d W).2] at h0 h1
  exact ⟨Prod.mk.inj (h0.trans seeded_first), Prod.mk.inj (h1.trans seeded_second)⟩

/-- A stretch keeps the arguments and the products. -/
abbrev Kept (A B : Contents) : Prop :=
  B (Proc.devRef .tc main_arg0) = A (Proc.devRef .tc main_arg0) ∧ B (Proc.devRef .tc main_arg1) = A (Proc.devRef .tc main_arg1)
    ∧ B (Proc.devRef .tc main_v4) = A (Proc.devRef .tc main_v4)

theorem split_kept (W : Contents) : Kept W (after split0 W) := by
  refine ⟨?_, ?_, ?_⟩ <;> after_reads_simp
theorem s2_kept (d : Dev nD) (W : Contents) : Kept W (after (s2 d) W) := by
  refine ⟨?_, ?_, ?_⟩ <;> after_reads_simp
theorem gen1_kept (W : Contents) : Kept W (after gen1 W) ∧ after gen1 W (Proc.devRef .tc main_v16) = W (Proc.devRef .tc main_v16) := by
  refine ⟨⟨?_, ?_, ?_⟩, ?_⟩ <;> after_reads_simp
theorem s34_kept (d : Dev nD) (W : Contents) : Kept W (after (s4 d) (after (s3 d) W)) := by
  refine ⟨?_, ?_, ?_⟩ <;> after_reads_simp
theorem gen2_kept (W : Contents) : Kept W (after gen2 W) ∧ after gen2 W (Proc.devRef .tc main_v49) = W (Proc.devRef .tc main_v49) := by
  refine ⟨⟨?_, ?_, ?_⟩, ?_⟩ <;> after_reads_simp
theorem s56_kept (d : Dev nD) (W : Contents) :
    after (s6 d) (after (s5 d) W) (Proc.devRef .tc main_arg0) = W (Proc.devRef .tc main_arg0)
    ∧ after (s6 d) (after (s5 d) W) (Proc.devRef .tc main_arg1) = W (Proc.devRef .tc main_arg1) := by
  refine ⟨?_, ?_⟩ <;> after_reads_simp

/-- The counters of the first noise, and its key: the first row of the split keys; the second row is kept. -/
theorem s2_read (d : Dev nD) (W : Contents) (a b : Fin 2048) :
    (after (s2 d) W (Proc.devRef .tc main_v18) : IVec S_ 32) ix0 = (W (Proc.devRef .tc main_v12) : IVec S2x2 32) (ix2 0 0)
    ∧ (after (s2 d) W (Proc.devRef .tc main_v20) : IVec S_ 32) ix0 = (W (Proc.devRef .tc main_v12) : IVec S2x2 32) (ix2 0 1)
    ∧ word (after (s2 d) W (Proc.devRef .tc main_v31)) (ix2 a b) = 0#32
    ∧ word (after (s2 d) W (Proc.devRef .tc main_v30)) (ix2 a b) = BitVec.ofNat 32 (2048 * a.val + b.val)
    ∧ (after (s2 d) W (Proc.devRef .tc main_v16) : IVec S2 32) (ix1 0) = (W (Proc.devRef .tc main_v12) : IVec S2x2 32) (ix2 1 0)
    ∧ (after (s2 d) W (Proc.devRef .tc main_v16) : IVec S2 32) (ix1 1) = (W (Proc.devRef .tc main_v12) : IVec S2x2 32) (ix2 1 1) := by
  refine ⟨?_, ?_, ?_, ?_, ?_, ?_⟩ <;> after_reads_simp
  · exact congrArg (W (Proc.devRef .tc main_v12) : IVec S2x2 32) (by decide)
  · exact congrArg (W (Proc.devRef .tc main_v12) : IVec S2x2 32) (by decide)
  · exact counter_high a.val b.val a.isLt b.isLt
  · exact counter_low a.val b.val a.isLt b.isLt
  · exact congrArg (W (Proc.devRef .tc main_v12) : IVec S2x2 32) (by decide)
  · exact congrArg (W (Proc.devRef .tc main_v12) : IVec S2x2 32) (by decide)

/-- The first noise, and the second noise's counters and key. -/
theorem s34_read (d : Dev nD) (W : Contents) (a b : Fin 2048) :
    (after (s4 d) (after (s3 d) W) (Proc.devRef .tc main_v49) : FVec Ideal S2048x2048 .f32) (ix2 a b)
      = gumbel (unit (word (W (Proc.devRef .tc main_v32_0)) (ix2 a b) ^^^ word (W (Proc.devRef .tc main_v32_1)) (ix2 a b)))
    ∧ (after (s4 d) (after (s3 d) W) (Proc.devRef .tc main_v51) : IVec S_ 32) ix0 = (W (Proc.devRef .tc main_v16) : IVec S2 32) (ix1 0)
    ∧ (after (s4 d) (after (s3 d) W) (Proc.devRef .tc main_v53) : IVec S_ 32) ix0 = (W (Proc.devRef .tc main_v16) : IVec S2 32) (ix1 1)
    ∧ word (after (s4 d) (after (s3 d) W) (Proc.devRef .tc main_v64)) (ix2 a b) = 0#32
    ∧ word (after (s4 d) (after (s3 d) W) (Proc.devRef .tc main_v63)) (ix2 a b) = BitVec.ofNat 32 (2048 * a.val + b.val) := by
  refine ⟨?_, ?_, ?_, ?_, ?_⟩ <;> after_reads_simp
  · rfl
  · exact congrArg (W (Proc.devRef .tc main_v16) : IVec S2 32) (by decide)
  · exact congrArg (W (Proc.devRef .tc main_v16) : IVec S2 32) (by decide)
  · exact counter_high a.val b.val a.isLt b.isLt
  · exact counter_low a.val b.val a.isLt b.isLt

/-- The mask carried through the chance, before it is laid out flat. -/
def sample (x : FVec Ideal S2048x2048 .f32) (g : FVec Ideal S2048x2048 .f32) (v w : IVec S2048x2048 32) : FVec Ideal S2048x2048 .f32 :=
  fun j => straight (prob (x j + g j - gumbel (unit (word v j ^^^ word w j))))

theorem s56_read (d : Dev nD) (W : Contents) :
    (after (s6 d) (after (s5 d) W) (Proc.devRef .tc main_v108) : FVec Ideal S4194304 .f32)
      = shapeCast S4194304 (sample (W (Proc.devRef .tc main_v4)) (W (Proc.devRef .tc main_v49)) (W (Proc.devRef .tc main_v65_0)) (W (Proc.devRef .tc main_v65_1)))
          shapeCasts_S2048x2048_S4194304 := by
  after_reads_simp
  rfl

/-- The edges of the complete graph: each node as often as there are nodes, above the nodes in order again and again. -/
theorem s56_edges (d : Dev nD) (W : Contents) :
    (after (s6 d) (after (s5 d) W) (Proc.devRef .tc main_v107) : IVec S2x4194304 32) = Cert.HostNoise.edges := by
  after_reads_simp
  rfl

theorem line_edges (d : Dev nD) (W : Contents) :
    (after (line d) W (Proc.devRef .tc main_v107) : IVec S2x4194304 32) = Cert.HostNoise.edges := by
  unfold line
  simp only [StableHlo.after_append]
  exact s56_edges d _

theorem line_args (d : Dev nD) (W : Contents) :
    after (line d) W (Proc.devRef .tc main_arg0) = W (Proc.devRef .tc main_arg0)
    ∧ after (line d) W (Proc.devRef .tc main_arg1) = W (Proc.devRef .tc main_arg1) := by
  unfold line
  simp only [StableHlo.after_append]
  obtain ⟨a1, a2⟩ := s1_args d W
  generalize after (s1 d) W = A at *
  obtain ⟨b1, b2, -⟩ := split_kept A
  generalize after split0 A = B at *
  obtain ⟨c1, c2, -⟩ := s2_kept d B
  generalize after (s2 d) B = C at *
  obtain ⟨⟨d1, d2, -⟩, -⟩ := gen1_kept C
  generalize after gen1 C = D at *
  obtain ⟨e1, e2, -⟩ := s34_kept d D
  generalize after (s4 d) (after (s3 d) D) = E at *
  obtain ⟨⟨f1, f2, -⟩, -⟩ := gen2_kept E
  generalize after gen2 E = F at *
  obtain ⟨g1, g2⟩ := s56_kept d F
  exact ⟨g1.trans (f1.trans (e1.trans (d1.trans (c1.trans (b1.trans a1))))), g2.trans (f2.trans (e2.trans (d2.trans (c2.trans (b2.trans a2)))))⟩

/-- The score of a pair of nodes: their product, with the first noise added and the second taken away. -/
def score (x : FVec Ideal S2048x128 .f32) (w : FVec Ideal S128x128 .f32) (a b : Fin 2048) : EReal :=
  dist x w (ix2 a b) + noise1 (BitVec.ofNat 32 (2048 * a.val + b.val)) - noise2 (BitVec.ofNat 32 (2048 * a.val + b.val))

/-- The reference's second result at the place of a pair of nodes. -/
theorem line_sample (d : Dev nD) (W : Contents) (a b : Fin 2048) (n : Fin 4194304) (hn : n.val = 2048 * a.val + b.val) :
    (after (line d) W (Proc.devRef .tc main_v108) : FVec Ideal S4194304 .f32) (ix1 n)
      = straight (prob (score (W (Proc.devRef .tc main_arg0)) (W (Proc.devRef .tc main_arg1)) a b)) := by
  unfold line
  simp only [StableHlo.after_append]
  have a3 := s1_dist d W
  obtain ⟨k1, k2⟩ := split_keys d W
  generalize after (s1 d) W = A at *
  obtain ⟨-, -, b3⟩ := split_kept A
  generalize after split0 A = B at *
  obtain ⟨-, -, c3⟩ := s2_kept d B
  obtain ⟨r1, r2, r3, r4, r5, r6⟩ := s2_read d B a b
  generalize after (s2 d) B = C at *
  obtain ⟨⟨-, -, d3⟩, d4⟩ := gen1_kept C
  have w1 := c1words C (ix2 a b)
  generalize after gen1 C = D at *
  obtain ⟨-, -, e3⟩ := s34_kept d D
  obtain ⟨t1, t2, t3, t4, t5⟩ := s34_read d D a b
  generalize after (s4 d) (after (s3 d) D) = E at *
  obtain ⟨⟨-, -, f3⟩, f4⟩ := gen2_kept E
  have w2 := c2words E (ix2 a b)
  generalize after gen2 E = F at *
  rw [s56_read d F]
  refine (shapeCast_apply _ shapeCasts_S2048x2048_S4194304 (ix1 n) (ix2 a b) ?_).trans ?_
  · rw [Shape.rowMajor_val_one, Shape.rowMajor_val_two]
    show a.val * 2048 + b.val = n.val
    omega
  · unfold sample score
    have h4 : F (Proc.devRef .tc main_v4) = dist (W (Proc.devRef .tc main_arg0)) (W (Proc.devRef .tc main_arg1)) :=
      f3.trans (e3.trans (d3.trans (c3.trans (b3.trans a3))))
    have x1 : word (C (Proc.devRef .tc main_v31)) (ix2 a b) = 0#32 := r3
    rw [r1, r2, k1.1, k1.2] at w1
    rw [t2, t3, d4, r5, r6, k2.1, k2.2] at w2
    have w1' := w1.trans (congrArg (words (fun a b => a ^^^ b) first0 first1) (congrArg₂ Prod.mk r3 r4))
    have w2' := w2.trans (congrArg (words (fun a b => a ^^^ b) second0 second1) (congrArg₂ Prod.mk t4 t5))
    have q1 : word (D (Proc.devRef .tc main_v32_0)) (ix2 a b) ^^^ word (D (Proc.devRef .tc main_v32_1)) (ix2 a b)
        = bits first0 first1 (BitVec.ofNat 32 (2048 * a.val + b.val)) := congrArg fold w1'
    have q2 : word (F (Proc.devRef .tc main_v65_0)) (ix2 a b) ^^^ word (F (Proc.devRef .tc main_v65_1)) (ix2 a b)
        = bits second0 second1 (BitVec.ofNat 32 (2048 * a.val + b.val)) := congrArg fold w2'
    rw [q1] at t1
    rw [h4, f4, t1, q2]
    rfl

end Cert.RefRun
-- ==== Proof.KernelValue.lean ====
/-
  The kernel's second result: at the place of a pair of nodes, whether the product of the two rows passes the pair's level.
-/
module

public import proofs.«01_k».proof.Proof.IdealFrame
public import proofs.«01_k».proof.Proof.HostNoise
public import proofs.«01_k».proof.Proof.RefRead

@[expose] public section

set_option maxRecDepth 16384

noncomputable section

namespace Cert.KernelValue

open Idealize.ShloMosaic Idealize.ShloMosaic.TcCoe Idealize.SL.Sem Cert.KernelIdeal Cert.KernelIdeal.Gen Cert.Noise
open Idealize.ShloMosaic.ValueIdx
open Idealize.ShloMosaic.Pipeline (Dat)

theorem z2 : (![0, 0] : Fin 2 → Nat) = fun _ => 0 := funext fun a => by fin_cases a <;> rfl
theorem z1 : (![0] : Fin 1 → Nat) = fun _ => 0 := funext fun a => by fin_cases a; rfl

/-- The reference's products, before they are divided by one. -/
abbrev prod (x : FVec Ideal S2048x128 .f32) (w : FVec Ideal S128x128 .f32) : FVec Ideal S2048x2048 .f32 :=
  Host.dotGeneral ReferenceIdeal.dot_S2048x128_S128x2048_S2048x2048_1_0_0_1_n_n none
      (Host.dotGeneral ReferenceIdeal.dot_S2048x128_S128x128_S2048x128_1_0_0_1_n_n none x w)
      (transpose ReferenceIdeal.S128x2048 [1, 0] x ReferenceIdeal.Facts₀.transposes_S2048x128_S128x2048_1_0)

/-- Dividing by one changes nothing. -/
theorem dist_prod (x : FVec Ideal S2048x128 .f32) (w : FVec Ideal S128x128 .f32) (a b : Fin 2048) :
    RefRun.dist x w (ix2 a b) = prod x w (ix2 a b) := by
  show Ideal.div (prod x w (ix2 a b)) (Ideal.ofBits .f32 0x3F800000#32) = _
  unfold Ideal.div
  rw [Ideal.ofBits_one_f32, if_neg one_ne_zero, inv_one, mul_one]

/-- A tile's first product is the reference's, row by row. -/
theorem inner (x : FVec Ideal S2048x128 .f32) (w : FVec Ideal S128x128 .f32) (x0 : FVec Ideal S1024x128 .f32)
    (a : Fin 2048) (p : Fin 1024) (h : ∀ k, x0 (ix2 p k) = x (ix2 a k)) (k : Fin 128) :
    matmul dot_S1024x128_S128x128_S1024x128_1_0_0_1_n_n none x0 w (constant (F := Ideal) S1024x128 .f32 0x00000000#32) (ix2 p k)
      = Host.dotGeneral ReferenceIdeal.dot_S2048x128_S128x128_S2048x128_1_0_0_1_n_n none x w (ix2 a k) := by
  refine (Ideal.matmul_constant_zero_apply _ _ _ _ _).trans (Eq.trans ?_ (Ideal.dotGeneral_apply _ _ _ _ _ _).symm)
  refine Finset.sum_congr rfl fun q _ => ?_
  refine congrArg₂ (· * ·) (Eq.trans (congrArg x0 ?_) ((h (q ⟨0, by decide⟩)).trans (congrArg x ?_))) (congrArg w ?_)
  all_goals
    funext i
    fin_cases i <;> rfl

/-- And its second. -/
theorem outer (x : FVec Ideal S2048x128 .f32) (w : FVec Ideal S128x128 .f32) (x0 : FVec Ideal S1024x128 .f32)
    (a : Fin 2048) (p : Fin 1024) (h : ∀ k, x0 (ix2 p k) = x (ix2 a k)) (b : Fin 2048) :
    matmul dot_S1024x128_S2048x128_S1024x2048_1_1_0_0_n_n none
        (matmul dot_S1024x128_S128x128_S1024x128_1_0_0_1_n_n none x0 w (constant (F := Ideal) S1024x128 .f32 0x00000000#32)) x
        (constant (F := Ideal) S1024x2048 .f32 0x00000000#32) (ix2 p b)
      = prod x w (ix2 a b) := by
  refine (Ideal.matmul_constant_zero_apply _ _ _ _ _).trans (Eq.trans ?_ (Ideal.dotGeneral_apply _ _ _ _ _ _).symm)
  refine Finset.sum_congr rfl fun q _ => ?_
  refine congrArg₂ (· * ·) (Eq.trans (congrArg _ ?_) ((inner x w x0 a p h (q ⟨0, by decide⟩)).trans (congrArg _ ?_)))
    (Eq.trans ?_ (transpose_apply _ _ _ _ (ix2 b (q ⟨0, by decide⟩)) ?_).symm)
  · funext i
    fin_cases i <;> rfl
  · funext i
    fin_cases i <;> rfl
  · refine congrArg x ?_
    funext i
    fin_cases i <;> rfl
  · intro i
    fin_cases i <;> rfl

/-- What the body stores at a place of its tile. -/
theorem payload (x : FVec Ideal S2048x128 .f32) (w : FVec Ideal S128x128 .f32) (x0 : FVec Ideal S1024x128 .f32) (l : IVec S1024x2048 16)
    (a : Fin 2048) (p : Fin 1024) (h : ∀ k, x0 (ix2 p k) = x (ix2 a k)) (b : Fin 2048)
    (n : Fin 2097152) (hn : n.val = 2048 * p.val + b.val) :
    k0_pay1 (F := Ideal) x0 w x l (ix1 n)
      = (((((Ideal.cmp .ogt (prod x w (ix2 a b)) ((((l (ix2 p b)).toInt : ℝ) : EReal) * Ideal.ofBits .f32 0x3A800000#32)).setWidth 32).toInt : ℝ)) : EReal) := by
  unfold k0_pay1
  refine (shapeCast_apply _ shapeCasts_S1024x2048_S2097152 (ix1 n) (ix2 p b) ?_).trans ?_
  · rw [Shape.rowMajor_val_one, Shape.rowMajor_val_two]
    show p.val * 2048 + b.val = n.val
    omega
  · rw [← outer x w x0 a p h b]
    have e : shapeCast S1024x2048 l shapeCasts_S1024x2048_S1024x2048 (ix2 p b) = l (ix2 p b) :=
      shapeCast_apply _ _ (ix2 p b) (ix2 p b) rfl
    rw [← e]
    rfl

variable (m : (ℓ : Loc nD τ sig) → Buf (Elt Ideal) ℓ) (c : Dev nD)

/-- The arguments as launched. -/
abbrev argX : FVec Ideal S2048x128 .f32 := m ((c : Thread nD τ).loc main_arg0)
abbrev argW : FVec Ideal S128x128 .f32 := m ((c : Thread nD τ).loc main_arg1)

/-- The row of the whole array under row `p` of tile `t`. -/
abbrev row (t : Fin cfg0.N) (p : Fin 1024) : Fin 2048 :=
  ⟨1024 * t.val + p.val, by have h : t.val < 2 := t.isLt; have := p.isLt; omega⟩

/-- Where each operand's tile lies: the tiled ones move with the point, the whole ones do not. -/
theorem tile_x : ∀ t : Fin cfg0.N, win0_0.index t 0 = t.val ∧ win0_0.index t 1 = 0 :=
  (by decide +kernel : ∀ t : Fin grid0.N, win0_0.index t 0 = t.val ∧ win0_0.index t 1 = 0)
theorem tile_w : ∀ t : Fin cfg0.N, win0_1.index t 0 = 0 ∧ win0_1.index t 1 = 0 :=
  (by decide +kernel : ∀ t : Fin grid0.N, win0_1.index t 0 = 0 ∧ win0_1.index t 1 = 0)
theorem tile_all : ∀ t : Fin cfg0.N, win0_2.index t 0 = 0 ∧ win0_2.index t 1 = 0 :=
  (by decide +kernel : ∀ t : Fin grid0.N, win0_2.index t 0 = 0 ∧ win0_2.index t 1 = 0)
theorem tile_level : ∀ t : Fin cfg0.N, win0_3.index t 0 = t.val ∧ win0_3.index t 1 = 0 :=
  (by decide +kernel : ∀ t : Fin grid0.N, win0_3.index t 0 = t.val ∧ win0_3.index t 1 = 0)
theorem tile_out : ∀ t : Fin cfg0.N, win0_4.index t 0 = t.val :=
  (by decide +kernel : ∀ t : Fin grid0.N, win0_4.index t 0 = t.val)

theorem block_x (t : Fin cfg0.N) (p : Fin 1024) (k : Fin 128) :
    (iblk m c 0 t : FVec Ideal S1024x128 .f32) (ix2 p k) = argX m c (ix2 (row t p) k) := by
  refine Eq.trans (congrArg (V m c main_arg0) ?_) (congrFun (V_main_arg0 m c) _)
  funext a
  refine Fin.ext ((win0_0.rect_emb_val t (ix2 p k) a).trans ?_)
  match a with
  | ⟨0, _⟩ =>
    show win0_0.index t 0 * 1024 + p.val = 1024 * t.val + p.val
    rw [(tile_x t).1, mul_comm]
  | ⟨1, _⟩ =>
    show win0_0.index t 1 * 128 + k.val = k.val
    rw [(tile_x t).2, zero_mul, zero_add]

theorem block_w (t : Fin cfg0.N) : (iblk m c 1 t : FVec Ideal S128x128 .f32) = argW m c := by
  refine Eq.trans ?_ (V_main_arg1 m c)
  funext i
  refine congrArg (V m c main_arg1) ?_
  funext a
  refine Fin.ext (win0_1.rect_emb_val_of_index_zero t a ?_ i)
  match a with
  | ⟨0, _⟩ => exact (tile_w t).1
  | ⟨1, _⟩ => exact (tile_w t).2

theorem block_all (t : Fin cfg0.N) : (iblk m c 2 t : FVec Ideal S2048x128 .f32) = argX m c := by
  refine Eq.trans ?_ (V_main_arg0 m c)
  funext i
  refine congrArg (V m c main_arg0) ?_
  funext a
  refine Fin.ext (win0_2.rect_emb_val_of_index_zero t a ?_ i)
  match a with
  | ⟨0, _⟩ => exact (tile_all t).1
  | ⟨1, _⟩ => exact (tile_all t).2

theorem block_level (t : Fin cfg0.N) (p : Fin 1024) (b : Fin 2048) :
    (iblk m c 3 t : IVec S1024x2048 16) (ix2 p b) = (V m c main_v392 : IVec S2048x2048 16) (ix2 (row t p) b) := by
  refine congrArg (V m c main_v392) ?_
  funext a
  refine Fin.ext ((win0_3.rect_emb_val t (ix2 p b) a).trans ?_)
  match a with
  | ⟨0, _⟩ =>
    show win0_3.index t 0 * 1024 + p.val = 1024 * t.val + p.val
    rw [(tile_level t).1, mul_comm]
  | ⟨1, _⟩ =>
    show win0_3.index t 1 * 2048 + b.val = b.val
    rw [(tile_level t).2, zero_mul, zero_add]

/-- The level of the pair of nodes `a`, `b`. -/
abbrev levelOf (a b : Fin 2048) : BitVec 16 :=
  code (noise2 (BitVec.ofNat 32 (2048 * a.val + b.val)) - noise1 (BitVec.ofNat 32 (2048 * a.val + b.val)))

/-- The kernel's entry of the pair of nodes `a`, `b`. -/
abbrev entryOf (x : FVec Ideal S2048x128 .f32) (w : FVec Ideal S128x128 .f32) (a b : Fin 2048) : EReal :=
  (((((Ideal.cmp .ogt (prod x w (ix2 a b)) ((((levelOf a b).toInt : ℝ) : EReal) * Ideal.ofBits .f32 0x3A800000#32)).setWidth 32).toInt : ℝ)) : EReal)

/-- A place of tile `t` holds its pair's entry. -/
theorem tile_entry (t : Fin cfg0.N) (p : Fin 1024) (b : Fin 2048) (n : Fin 2097152) (hn : n.val = 2048 * p.val + b.val) :
    ((dats m 0 c).flushed 4 t : FVec Ideal S2097152 .f32) (ix1 n) = entryOf (argX m c) (argW m c) (row t p) b := by
  rw [Value.flushed4]
  have e : out0_4 (iblk m c 0 t) (iblk m c 1 t) (iblk m c 2 t) (iblk m c 3 t)
      = k0_pay1 (F := Ideal) (iblk m c 0 t) (argW m c) (argX m c) (iblk m c 3 t) := by
    unfold out0_4
    rw [View.canon_unit_zero z1, View.ld_unit_zero z2, View.ld_unit_zero z2, View.ld_unit_zero z2, View.ld_unit_zero z2]
    exact congrArg₂ (fun w x => k0_pay1 (F := Ideal) (iblk m c 0 t) w x (iblk m c 3 t)) (block_w m c t) (block_all m c t)
  rw [e]
  refine (payload (argX m c) (argW m c) (iblk m c 0 t) (iblk m c 3 t) (row t p) p (block_x m c t p) b n hn).trans ?_
  rw [block_level, HostNoise.level]

/-- The second result at the place of a pair of nodes. -/
theorem final (a b : Fin 2048) (n : Fin 4194304) (hn : n.val = 2048 * a.val + b.val) :
    ((dats m 0 c).arrAt 4 cfg0.N : FVec Ideal S4194304 .f32) (ix1 n) = entryOf (argX m c) (argW m c) a b := by
  have ha := a.isLt
  have hb := b.isLt
  obtain ⟨t, p, rfl⟩ : ∃ (t : Fin cfg0.N) (p : Fin 1024), a = row t p :=
    ⟨(⟨a.val / 1024, by omega⟩ : Fin 2), ⟨a.val % 1024, by omega⟩, Fin.ext (by show a.val = 1024 * (a.val / 1024) + a.val % 1024; omega)⟩
  have hp := p.isLt
  let q : Fin 2097152 := ⟨2048 * p.val + b.val, by omega⟩
  have e : (ix1 n : S4194304.Idx) = ((cfg0.win 4).blk t).view.emb (ix1 q) := by
    funext i
    refine Fin.ext (Eq.trans ?_ (win0_4.rect_emb_val t (ix1 q) i).symm)
    match i with
    | ⟨0, _⟩ =>
      show n.val = win0_4.index t 0 * 2097152 + (2048 * p.val + b.val)
      rw [tile_out t, hn]
      show 2048 * (1024 * t.val + p.val) + b.val = _
      omega
  rw [e]
  exact ((dats m 0 c).arrAt_emb_eq_flushed 4 Value.disjoint4 t (flush0_4 t) (ix1 q)).trans (tile_entry m c t p b q rfl)

end Cert.KernelValue
-- ==== Proof.MaskWords.lean ====
/-
  The mask's random words, an entry at a time: each part of the printed function is one stretch of the rounds, and the whole
  is `words`.
-/
module

public import proofs.«01_k».proof.Proof.Gen.On_outside_rounding
public import proofs.«01_k».proof.Proof.Scalar
public import Idealize.ShloMosaic.Lib.ValueLayout
public import Idealize.ShloMosaic.Lib.IdealHost
public import Idealize.ShloMosaic.Lib.Pipeline.Value

@[expose] public section

set_option maxRecDepth 16384

noncomputable section

namespace Cert.MaskWords

open Idealize.ShloMosaic Idealize.ShloMosaic.ValueIdx Cert.On_outside_rounding Cert.On_outside_rounding.Facts Cert.Noise

variable [Facts]

/-- The exclusive or of two words. -/
abbrev mx : Word → Word → Word := fun a b => a ^^^ b

/-- The addition of key words that ends a group. -/
def close (ka kb n : Word) (y : Word × Word) : Word × Word := (y.1 + ka, y.2 + kb + n)

/-- A scalar word at an entry. -/
abbrev atSq (x : IVec S_ 32) (i : S2048x2048.Idx) : Word := broadcastInDim S2048x2048 ![] bcast_S_S2048x2048 x i

theorem atSq_eq (x : IVec S_ 32) (i : S2048x2048.Idx) : atSq x i = x ix0 := congrArg x (funext fun a => a.elim0)

theorem atSq9 (arg0 : IVec S_ 32) (v163 : IVec S2048x2048 32) (v169 : IVec S2048x2048 32) (v170 : IVec S2048x2048 32) (i : S2048x2048.Idx) :
    (((fn_threefry2x32_0_part9 (F := Ideal) arg0 v163 v169 v170).1 i : Word), ((fn_threefry2x32_0_part9 (F := Ideal) arg0 v163 v169 v170).2 i : Word))
      = ((v163 i : Word) + (v170 i : Word), (v169 i : Word) + (atSq arg0 i) + 5#32) := by
  rfl

theorem atSq8 (arg0 : IVec S_ 32) (v1 : IVec S_ 32) (v148 : IVec S2048x2048 32) (v149 : IVec S2048x2048 32) (v151 : IVec S2048x2048 32) (i : S2048x2048.Idx) :
    (((fn_threefry2x32_0_part8 (F := Ideal) arg0 v1 v148 v149 v151).1 i : Word), ((fn_threefry2x32_0_part8 (F := Ideal) arg0 v1 v148 v149 v151).2 i : Word))
      = (close (atSq v1 i) (atSq arg0 i) 5#32 (round mx 6#32 26#32 (round mx 26#32 6#32 ((v149 i : Word), (v149 i : Word) ^^^ ((v151 i : Word) ||| IntOp.shrui .host (v148 i : Word) 17#32))))) := by
  exact (atSq9 ..).trans rfl

theorem atSq7 (arg0 : IVec S_ 32) (arg1 : IVec S_ 32) (v1 : IVec S_ 32) (v128 : IVec S2048x2048 32) (v129 : IVec S2048x2048 32) (v131 : IVec S2048x2048 32) (c_34 : IVec S_ 32) (i : S2048x2048.Idx) :
    (((fn_threefry2x32_0_part7 (F := Ideal) arg0 arg1 v1 v128 v129 v131 c_34).1 i : Word), ((fn_threefry2x32_0_part7 (F := Ideal) arg0 arg1 v1 v128 v129 v131 c_34).2 i : Word))
      = (even mx (atSq v1 i) (atSq arg0 i) 5#32 (close (atSq arg1 i) (atSq v1 i) 4#32 ((v129 i : Word), (v129 i : Word) ^^^ ((v131 i : Word) ||| IntOp.shrui .host (v128 i : Word) (atSq c_34 i))))) := by
  exact (atSq8 ..).trans rfl

theorem atSq6 (arg0 : IVec S_ 32) (arg1 : IVec S_ 32) (v1 : IVec S_ 32) (v108 : IVec S2048x2048 32) (v113 : IVec S2048x2048 32) (i : S2048x2048.Idx) :
    (((fn_threefry2x32_0_part6 (F := Ideal) arg0 arg1 v1 v108 v113).1 i : Word), ((fn_threefry2x32_0_part6 (F := Ideal) arg0 arg1 v1 v108 v113).2 i : Word))
      = (even mx (atSq v1 i) (atSq arg0 i) 5#32 (close (atSq arg1 i) (atSq v1 i) 4#32 (round mx 24#32 8#32 (round mx 16#32 16#32 (round mx 29#32 3#32 ((v108 i : Word), (v108 i : Word) ^^^ (v113 i : Word))))))) := by
  exact (atSq7 ..).trans rfl

theorem atSq5 (arg0 : IVec S_ 32) (arg1 : IVec S_ 32) (v1 : IVec S_ 32) (v88 : IVec S2048x2048 32) (v94 : IVec S2048x2048 32) (i : S2048x2048.Idx) :
    (((fn_threefry2x32_0_part5 (F := Ideal) arg0 arg1 v1 v88 v94).1 i : Word), ((fn_threefry2x32_0_part5 (F := Ideal) arg0 arg1 v1 v88 v94).2 i : Word))
      = (even mx (atSq v1 i) (atSq arg0 i) 5#32 (odd mx (atSq arg1 i) (atSq v1 i) 4#32 (close (atSq arg0 i) (atSq arg1 i) 3#32 (round mx 6#32 26#32 ((v88 i : Word), (v94 i : Word)))))) := by
  exact (atSq6 ..).trans rfl

theorem atSq4 (arg0 : IVec S_ 32) (arg1 : IVec S_ 32) (v1 : IVec S_ 32) (v73 : IVec S2048x2048 32) (v74 : IVec S2048x2048 32) (v75 : IVec S2048x2048 32) (i : S2048x2048.Idx) :
    (((fn_threefry2x32_0_part4 (F := Ideal) arg0 arg1 v1 v73 v74 v75).1 i : Word), ((fn_threefry2x32_0_part4 (F := Ideal) arg0 arg1 v1 v73 v74 v75).2 i : Word))
      = (even mx (atSq v1 i) (atSq arg0 i) 5#32 (odd mx (atSq arg1 i) (atSq v1 i) 4#32 (close (atSq arg0 i) (atSq arg1 i) 3#32 (round mx 6#32 26#32 (round mx 26#32 6#32 (round mx 15#32 17#32 ((v74 i : Word), (v74 i : Word) ^^^ (IntOp.shli .host (v73 i : Word) (v75 i : Word) ||| IntOp.shrui .host (v73 i : Word) 19#32)))))))) := by
  exact (atSq5 ..).trans rfl

theorem atSq3 (arg0 : IVec S_ 32) (arg1 : IVec S_ 32) (v1 : IVec S_ 32) (v53 : IVec S2048x2048 32) (v54 : IVec S2048x2048 32) (v56 : IVec S2048x2048 32) (i : S2048x2048.Idx) :
    (((fn_threefry2x32_0_part3 (F := Ideal) arg0 arg1 v1 v53 v54 v56).1 i : Word), ((fn_threefry2x32_0_part3 (F := Ideal) arg0 arg1 v1 v53 v54 v56).2 i : Word))
      = (even mx (atSq v1 i) (atSq arg0 i) 5#32 (odd mx (atSq arg1 i) (atSq v1 i) 4#32 (even mx (atSq arg0 i) (atSq arg1 i) 3#32 (close (atSq v1 i) (atSq arg0 i) 2#32 (round mx 24#32 8#32 ((v54 i : Word), (v54 i : Word) ^^^ ((v56 i : Word) ||| IntOp.shrui .host (v53 i : Word) 16#32))))))) := by
  exact (atSq4 ..).trans rfl

theorem atSq2 (arg0 : IVec S_ 32) (arg1 : IVec S_ 32) (v1 : IVec S_ 32) (v35 : IVec S2048x2048 32) (v37 : IVec S2048x2048 32) (c_8 : IVec S_ 32) (i : S2048x2048.Idx) :
    (((fn_threefry2x32_0_part2 (F := Ideal) arg0 arg1 v1 v35 v37 c_8).1 i : Word), ((fn_threefry2x32_0_part2 (F := Ideal) arg0 arg1 v1 v35 v37 c_8).2 i : Word))
      = (even mx (atSq v1 i) (atSq arg0 i) 5#32 (odd mx (atSq arg1 i) (atSq v1 i) 4#32 (even mx (atSq arg0 i) (atSq arg1 i) 3#32 (odd mx (atSq v1 i) (atSq arg0 i) 2#32 ((v35 i : Word), (v37 i : Word) + atSq c_8 i))))) := by
  exact (atSq3 ..).trans rfl

theorem atSq1 (arg0 : IVec S_ 32) (arg1 : IVec S_ 32) (v1 : IVec S_ 32) (v13 : IVec S2048x2048 32) (v18 : IVec S2048x2048 32) (i : S2048x2048.Idx) :
    (((fn_threefry2x32_0_part1 (F := Ideal) arg0 arg1 v1 v13 v18).1 i : Word), ((fn_threefry2x32_0_part1 (F := Ideal) arg0 arg1 v1 v13 v18).2 i : Word))
      = (even mx (atSq v1 i) (atSq arg0 i) 5#32 (odd mx (atSq arg1 i) (atSq v1 i) 4#32 (even mx (atSq arg0 i) (atSq arg1 i) 3#32 (odd mx (atSq v1 i) (atSq arg0 i) 2#32 (close (atSq arg1 i) (atSq v1 i) 1#32 (round mx 6#32 26#32 (round mx 26#32 6#32 ((v13 i : Word), (v13 i : Word) ^^^ (v18 i : Word))))))))) := by
  exact (atSq2 ..).trans rfl

theorem atSq_wide (arg0 arg1 : IVec S_ 32) (arg2 arg3 : IVec S2048x2048 32) (i : S2048x2048.Idx) :
    (((fn_threefry2x32_0 (F := Ideal) arg0 arg1 arg2 arg3).1 i : Word), ((fn_threefry2x32_0 (F := Ideal) arg0 arg1 arg2 arg3).2 i : Word))
      = words mx (atSq arg0 i) (atSq arg1 i) ((arg2 i : Word), (arg3 i : Word)) := by
  exact (atSq1 ..).trans rfl

/-- The two random words at an entry. -/
theorem atSq_words (arg0 arg1 : IVec S_ 32) (arg2 arg3 : IVec S2048x2048 32) (i : S2048x2048.Idx) :
    (((fn_threefry2x32_0 (F := Ideal) arg0 arg1 arg2 arg3).1 i : Word), ((fn_threefry2x32_0 (F := Ideal) arg0 arg1 arg2 arg3).2 i : Word))
      = words mx (arg0 ix0) (arg1 ix0) ((arg2 i : Word), (arg3 i : Word)) := by
  rw [atSq_wide, atSq_eq, atSq_eq]

/-- A scalar word at an entry. -/
abbrev atPair (x : IVec S_ 32) (i : S2.Idx) : Word := broadcastInDim S2 ![] bcast_S_S2 x i

theorem atPair_eq (x : IVec S_ 32) (i : S2.Idx) : atPair x i = x ix0 := congrArg x (funext fun a => a.elim0)

theorem atPair9 (arg0 : IVec S_ 32) (v163 : IVec S2 32) (v169 : IVec S2 32) (v170 : IVec S2 32) (i : S2.Idx) :
    (((fn_threefry2x32_part9 (F := Ideal) arg0 v163 v169 v170).1 i : Word), ((fn_threefry2x32_part9 (F := Ideal) arg0 v163 v169 v170).2 i : Word))
      = ((v163 i : Word) + (v170 i : Word), (v169 i : Word) + (atPair arg0 i) + 5#32) := by
  rfl

theorem atPair8 (arg0 : IVec S_ 32) (v1 : IVec S_ 32) (v148 : IVec S2 32) (v149 : IVec S2 32) (v151 : IVec S2 32) (i : S2.Idx) :
    (((fn_threefry2x32_part8 (F := Ideal) arg0 v1 v148 v149 v151).1 i : Word), ((fn_threefry2x32_part8 (F := Ideal) arg0 v1 v148 v149 v151).2 i : Word))
      = (close (atPair v1 i) (atPair arg0 i) 5#32 (round mx 6#32 26#32 (round mx 26#32 6#32 ((v149 i : Word), (v149 i : Word) ^^^ ((v151 i : Word) ||| IntOp.shrui .host (v148 i : Word) 17#32))))) := by
  exact (atPair9 ..).trans rfl

theorem atPair7 (arg0 : IVec S_ 32) (arg1 : IVec S_ 32) (v1 : IVec S_ 32) (v128 : IVec S2 32) (v129 : IVec S2 32) (v131 : IVec S2 32) (c_34 : IVec S_ 32) (i : S2.Idx) :
    (((fn_threefry2x32_part7 (F := Ideal) arg0 arg1 v1 v128 v129 v131 c_34).1 i : Word), ((fn_threefry2x32_part7 (F := Ideal) arg0 arg1 v1 v128 v129 v131 c_34).2 i : Word))
      = (even mx (atPair v1 i) (atPair arg0 i) 5#32 (close (atPair arg1 i) (atPair v1 i) 4#32 ((v129 i : Word), (v129 i : Word) ^^^ ((v131 i : Word) ||| IntOp.shrui .host (v128 i : Word) (atPair c_34 i))))) := by
  exact (atPair8 ..).trans rfl

theorem atPair6 (arg0 : IVec S_ 32) (arg1 : IVec S_ 32) (v1 : IVec S_ 32) (v108 : IVec S2 32) (v113 : IVec S2 32) (i : S2.Idx) :
    (((fn_threefry2x32_part6 (F := Ideal) arg0 arg1 v1 v108 v113).1 i : Word), ((fn_threefry2x32_part6 (F := Ideal) arg0 arg1 v1 v108 v113).2 i : Word))
      = (even mx (atPair v1 i) (atPair arg0 i) 5#32 (close (atPair arg1 i) (atPair v1 i) 4#32 (round mx 24#32 8#32 (round mx 16#32 16#32 (round mx 29#32 3#32 ((v108 i : Word), (v108 i : Word) ^^^ (v113 i : Word))))))) := by
  exact (atPair7 ..).trans rfl

theorem atPair5 (arg0 : IVec S_ 32) (arg1 : IVec S_ 32) (v1 : IVec S_ 32) (v88 : IVec S2 32) (v94 : IVec S2 32) (i : S2.Idx) :
    (((fn_threefry2x32_part5 (F := Ideal) arg0 arg1 v1 v88 v94).1 i : Word), ((fn_threefry2x32_part5 (F := Ideal) arg0 arg1 v1 v88 v94).2 i : Word))
      = (even mx (atPair v1 i) (atPair arg0 i) 5#32 (odd mx (atPair arg1 i) (atPair v1 i) 4#32 (close (atPair arg0 i) (atPair arg1 i) 3#32 (round mx 6#32 26#32 ((v88 i : Word), (v94 i : Word)))))) := by
  exact (atPair6 ..).trans rfl

theorem atPair4 (arg0 : IVec S_ 32) (arg1 : IVec S_ 32) (v1 : IVec S_ 32) (v73 : IVec S2 32) (v74 : IVec S2 32) (v75 : IVec S2 32) (i : S2.Idx) :
    (((fn_threefry2x32_part4 (F := Ideal) arg0 arg1 v1 v73 v74 v75).1 i : Word), ((fn_threefry2x32_part4 (F := Ideal) arg0 arg1 v1 v73 v74 v75).2 i : Word))
      = (even mx (atPair v1 i) (atPair arg0 i) 5#32 (odd mx (atPair arg1 i) (atPair v1 i) 4#32 (close (atPair arg0 i) (atPair arg1 i) 3#32 (round mx 6#32 26#32 (round mx 26#32 6#32 (round mx 15#32 17#32 ((v74 i : Word), (v74 i : Word) ^^^ (IntOp.shli .host (v73 i : Word) (v75 i : Word) ||| IntOp.shrui .host (v73 i : Word) 19#32)))))))) := by
  exact (atPair5 ..).trans rfl

theorem atPair3 (arg0 : IVec S_ 32) (arg1 : IVec S_ 32) (v1 : IVec S_ 32) (v53 : IVec S2 32) (v54 : IVec S2 32) (v56 : IVec S2 32) (i : S2.Idx) :
    (((fn_threefry2x32_part3 (F := Ideal) arg0 arg1 v1 v53 v54 v56).1 i : Word), ((fn_threefry2x32_part3 (F := Ideal) arg0 arg1 v1 v53 v54 v56).2 i : Word))
      = (even mx (atPair v1 i) (atPair arg0 i) 5#32 (odd mx (atPair arg1 i) (atPair v1 i) 4#32 (even mx (atPair arg0 i) (atPair arg1 i) 3#32 (close (atPair v1 i) (atPair arg0 i) 2#32 (round mx 24#32 8#32 ((v54 i : Word), (v54 i : Word) ^^^ ((v56 i : Word) ||| IntOp.shrui .host (v53 i : Word) 16#32))))))) := by
  exact (atPair4 ..).trans rfl

theorem atPair2 (arg0 : IVec S_ 32) (arg1 : IVec S_ 32) (v1 : IVec S_ 32) (v35 : IVec S2 32) (v37 : IVec S2 32) (c_8 : IVec S_ 32) (i : S2.Idx) :
    (((fn_threefry2x32_part2 (F := Ideal) arg0 arg1 v1 v35 v37 c_8).1 i : Word), ((fn_threefry2x32_part2 (F := Ideal) arg0 arg1 v1 v35 v37 c_8).2 i : Word))
      = (even mx (atPair v1 i) (atPair arg0 i) 5#32 (odd mx (atPair arg1 i) (atPair v1 i) 4#32 (even mx (atPair arg0 i) (atPair arg1 i) 3#32 (odd mx (atPair v1 i) (atPair arg0 i) 2#32 ((v35 i : Word), (v37 i : Word) + atPair c_8 i))))) := by
  exact (atPair3 ..).trans rfl

theorem atPair1 (arg0 : IVec S_ 32) (arg1 : IVec S_ 32) (v1 : IVec S_ 32) (v13 : IVec S2 32) (v18 : IVec S2 32) (i : S2.Idx) :
    (((fn_threefry2x32_part1 (F := Ideal) arg0 arg1 v1 v13 v18).1 i : Word), ((fn_threefry2x32_part1 (F := Ideal) arg0 arg1 v1 v13 v18).2 i : Word))
      = (even mx (atPair v1 i) (atPair arg0 i) 5#32 (odd mx (atPair arg1 i) (atPair v1 i) 4#32 (even mx (atPair arg0 i) (atPair arg1 i) 3#32 (odd mx (atPair v1 i) (atPair arg0 i) 2#32 (close (atPair arg1 i) (atPair v1 i) 1#32 (round mx 6#32 26#32 (round mx 26#32 6#32 ((v13 i : Word), (v13 i : Word) ^^^ (v18 i : Word))))))))) := by
  exact (atPair2 ..).trans rfl

theorem atPair_wide (arg0 arg1 : IVec S_ 32) (arg2 arg3 : IVec S2 32) (i : S2.Idx) :
    (((fn_threefry2x32 (F := Ideal) arg0 arg1 arg2 arg3).1 i : Word), ((fn_threefry2x32 (F := Ideal) arg0 arg1 arg2 arg3).2 i : Word))
      = words mx (atPair arg0 i) (atPair arg1 i) ((arg2 i : Word), (arg3 i : Word)) := by
  exact (atPair1 ..).trans rfl

/-- The two random words at an entry. -/
theorem atPair_words (arg0 arg1 : IVec S_ 32) (arg2 arg3 : IVec S2 32) (i : S2.Idx) :
    (((fn_threefry2x32 (F := Ideal) arg0 arg1 arg2 arg3).1 i : Word), ((fn_threefry2x32 (F := Ideal) arg0 arg1 arg2 arg3).2 i : Word))
      = words mx (arg0 ix0) (arg1 ix0) ((arg2 i : Word), (arg3 i : Word)) := by
  rw [atPair_wide, atPair_eq, atPair_eq]

end Cert.MaskWords
-- ==== Proof.Mask.lean ====
/-
  The mask's value: at the place of a pair of nodes, whether the score of the pair is outside the band.
-/
module

public import proofs.«01_k».proof.Proof.MaskWords

@[expose] public section

set_option maxRecDepth 16384

noncomputable section

namespace Cert.MaskWords

open Idealize.ShloMosaic Idealize.ShloMosaic.ValueIdx Cert.On_outside_rounding Cert.On_outside_rounding.Facts Cert.Noise

/-- A key's one word, at its place in the pair. -/
abbrev pick0 (v : IVec S2 32) : IVec S_ 32 := shapeCast S_ (extractStridedSlice S1 ![0] v slices_S2_S1_0) shapeCasts_S1_S_
abbrev pick1 (v : IVec S2 32) : IVec S_ 32 := shapeCast S_ (extractStridedSlice S1 ![1] v slices_S2_S1_1) shapeCasts_S1_S_

theorem pick0_eq (v : IVec S2 32) : pick0 v ix0 = v (ix1 0) := congrArg v (by decide)
theorem pick1_eq (v : IVec S2 32) : pick1 v ix0 = v (ix1 1) := congrArg v (by decide)

/-- A row of the split keys. -/
abbrev row0 (v : IVec S2x2 32) : IVec S2 32 := shapeCast S2 (extractStridedSlice S1x2 ![0, 0] v slices_S2x2_S1x2_0_0) shapeCasts_S1x2_S2
abbrev row1 (v : IVec S2x2 32) : IVec S2 32 := shapeCast S2 (extractStridedSlice S1x2 ![1, 0] v slices_S2x2_S1x2_1_0) shapeCasts_S1x2_S2

theorem row0_eq (v : IVec S2x2 32) (i : Fin 2) : row0 v (ix1 i) = v (ix2 0 i) :=
  congrArg v (by revert i; decide)
theorem row1_eq (v : IVec S2x2 32) (i : Fin 2) : row1 v (ix1 i) = v (ix2 1 i) :=
  congrArg v (by revert i; decide)

/-- The noise with the key `k₀, k₁` at a pair of nodes. -/
abbrev noiseOf (k₀ k₁ : Word) (a b : Fin 2048) : EReal := gumbel (unit (bits k₀ k₁ (BitVec.ofNat 32 (2048 * a.val + b.val))))

/-- The counters in 64 bits, and their high and low words. -/
abbrev counters : IVec S2048x2048 64 :=
  addi (muli (broadcastInDim S2048x2048 ![] bcast_S_S2048x2048 (constantI S_ 64 2048#64)) (iotaInDim S2048x2048 64 0))
    (muli (broadcastInDim S2048x2048 ![] bcast_S_S2048x2048 (constantI S_ 64 1#64)) (iotaInDim S2048x2048 64 1))
abbrev high : IVec S2048x2048 32 :=
  trunci 32 (Host.shrui counters (broadcastInDim S2048x2048 ![] bcast_S_S2048x2048 (constantI S_ 64 32#64))) natLt_32_64
abbrev lows : IVec S2048x2048 32 := trunci 32 counters natLt_32_64

/-- A uniform draw from its 23 bits. -/
abbrev draw (v : BitVec 32) : EReal :=
  max low (((v.toInt : ℝ) : EReal) * Ideal.ofBits .f32 0x34000000#32 * Ideal.ofBits .f32 0x3F800000#32 + low)

theorem counted (k₀ k₁ : IVec S_ 32) (a b : Fin 2048) :
    xori (fn_threefry2x32_0 (F := Ideal) k₀ k₁ high lows).1 (fn_threefry2x32_0 (F := Ideal) k₀ k₁ high lows).2 (ix2 a b)
      = bits (k₀ ix0) (k₁ ix0) (BitVec.ofNat 32 (2048 * a.val + b.val)) := by
  have h : (high (ix2 a b) : Word) = 0#32 := counter_high a.val b.val a.isLt b.isLt
  have l : (lows (ix2 a b) : Word) = BitVec.ofNat 32 (2048 * a.val + b.val) := counter_low a.val b.val a.isLt b.isLt
  have e := congrArg fold (atSq_words k₀ k₁ high lows (ix2 a b))
  rw [h, l] at e
  exact e

section
variable (a b : Fin 2048) (n : Fin 4194304) (hn : n.val = 2048 * a.val + b.val)
include hn

theorem flat_eq (v : IVec S2048x2048 1) : shapeCast S4194304 v shapeCasts_S2048x2048_S4194304 (ix1 n) = v (ix2 a b) := by
  refine shapeCast_apply _ shapeCasts_S2048x2048_S4194304 (ix1 n) (ix2 a b) ?_
  rw [Shape.rowMajor_val_one, Shape.rowMajor_val_two]
  show a.val * 2048 + b.val = n.val
  omega

theorem part4_read (v0 : IVec S2x4194304 1) (v5 v50 v73 v74 : FVec Ideal S2048x2048 .f32) :
    (fn_part4 (F := Ideal) v0 v5 v50 v73 v74).2 (ix1 n)
      = far (v5 (ix2 a b) + v50 (ix2 a b) - gumbel (max low (v73 (ix2 a b) * v74 (ix2 a b) + low))) := by
  dsimp only [fn_part4]
  rw [flat_eq a b n hn]
  rfl

theorem part3_read (v0 : IVec S2x4194304 1) (v5 v50 : FVec Ideal S2048x2048 .f32) (k₀ k₁ : IVec S_ 32) :
    (fn_part3 (F := Ideal) v0 v5 v50 k₀ k₁ (iotaInDim S2048x2048 64 0) (iotaInDim S2048x2048 64 1) (constantI S_ 64 2048#64)).2 (ix1 n)
      = far (v5 (ix2 a b) + v50 (ix2 a b) - noiseOf (k₀ ix0) (k₁ ix0) a b) := by
  refine (part4_read a b n hn _ _ _ _ _).trans ?_
  refine congrArg (fun u => far (v5 (ix2 a b) + v50 (ix2 a b) - gumbel u)) ?_
  refine Eq.trans (?_ : _ = unit _) (congrArg unit (counted k₀ k₁ a b))
  rfl

theorem part2_read (v0 : IVec S2x4194304 1) (v5 : FVec Ideal S2048x2048 .f32) (v17 : IVec S2 32) (v37 : IVec S2048x2048 32) :
    (fn_part2 (F := Ideal) v0 v5 v17 v37).2 (ix1 n)
      = far (v5 (ix2 a b) + gumbel (draw (v37 (ix2 a b))) - noiseOf (v17 (ix1 0)) (v17 (ix1 1)) a b) := by
  refine (part3_read a b n hn _ _ _ (pick0 v17) (pick1 v17)).trans ?_
  rw [pick0_eq, pick1_eq]
  rfl

theorem part1_read (v0 : IVec S2x4194304 1) (v5 : FVec Ideal S2048x2048 .f32) (v15 v17 : IVec S2 32) :
    (fn_part1 (F := Ideal) v0 v5 v15 v17 (extractStridedSlice S1 ![0] v15 slices_S2_S1_0)).2 (ix1 n)
      = far (v5 (ix2 a b) + noiseOf (v15 (ix1 0)) (v15 (ix1 1)) a b - noiseOf (v17 (ix1 0)) (v17 (ix1 1)) a b) := by
  refine (part2_read a b n hn _ _ _ _).trans ?_
  refine congrArg (fun u => far (v5 (ix2 a b) + gumbel u - noiseOf (v17 (ix1 0)) (v17 (ix1 1)) a b)) ?_
  rw [← pick0_eq v15, ← pick1_eq v15]
  refine Eq.trans (?_ : _ = unit _) (congrArg unit (counted (pick0 v15) (pick1 v15) a b))
  rfl

end

/-- The seed's pair of words. -/
abbrev seed : IVec S2 32 :=
  concatenate S2 0 [⟨S1, broadcastInDim S1 ![] bcast_S_S1 (id (Host.shrui (constantI S_ 32 42#32) (constantI S_ 32 32#32)))⟩,
    ⟨S1, broadcastInDim S1 ![] bcast_S_S1 (id (andi (constantI S_ 32 42#32) (constantI S_ 32 4294967295#32)))⟩] concatenates_S1_S1_S2_d0

theorem seed_eq : (seed (ix1 0) : Word) = 0#32 ∧ (seed (ix1 1) : Word) = 42#32 := by
  constructor
  · rfl
  · show 42#32 &&& 4294967295#32 = 42#32
    decide

theorem pair_columns (u v : IVec S2 32) (i : Fin 2) :
    (concatenate S2x2 1 [⟨S2x1, broadcastInDim S2x1 ![0] bcast_S2_S2x1_0 u⟩, ⟨S2x1, broadcastInDim S2x1 ![0] bcast_S2_S2x1_0 v⟩]
        concatenates_S2x1_S2x1_S2x2_d1 : IVec S2x2 32) (ix2 i 0) = u (ix1 i)
    ∧ (concatenate S2x2 1 [⟨S2x1, broadcastInDim S2x1 ![0] bcast_S2_S2x1_0 u⟩, ⟨S2x1, broadcastInDim S2x1 ![0] bcast_S2_S2x1_0 v⟩]
        concatenates_S2x1_S2x1_S2x2_d1 : IVec S2x2 32) (ix2 i 1) = v (ix1 i) := by
  constructor
  · refine (concatenate_pair_apply_left (t := S2x2) (s₁ := S2x1) (s₂ := S2x1) 1 _ _ _ (ix2 i 0) rfl (ix2 i (0 : Fin 1)) (by intro b; fin_cases b <;> rfl)).trans ?_
    exact broadcastInDim_apply _ _ _ _ (ix1 i) (by intro a; fin_cases a; rfl)
  · refine (concatenate_pair_apply_right (t := S2x2) (s₁ := S2x1) (s₂ := S2x1) 1 _ _ _ (ix2 i 1) rfl rfl (ix2 i (0 : Fin 1)) (by
      intro b hb; fin_cases b
      · rfl
      · exact absurd rfl hb) rfl).trans ?_
    exact broadcastInDim_apply _ _ _ _ (ix1 i) (by intro a; fin_cases a; rfl)

theorem split_words (v : IVec S2 32) (i : Fin 2) :
    (((fn_threefry_split (F := Ideal) v) (ix2 i 0) : Word), ((fn_threefry_split (F := Ideal) v) (ix2 i 1) : Word))
      = words mx (v (ix1 0)) (v (ix1 1)) (0#32, BitVec.ofNat 32 i.val) := by
  refine (congrArg₂ Prod.mk (pair_columns _ _ i).1 (pair_columns _ _ i).2).trans ?_
  refine (atPair_words _ _ _ _ (ix1 i)).trans ?_
  rw [← pick0_eq v, ← pick1_eq v]
  refine congrArg (words mx (pick0 v ix0) (pick1 v ix0)) ?_
  revert i
  decide +kernel

/-- The products the mask computes. -/
abbrev dist (x : FVec Ideal S2048x128 .f32) (w : FVec Ideal S128x128 .f32) : FVec Ideal S2048x2048 .f32 :=
  Host.divf (Host.dotGeneral dot_S2048x128_S128x2048_S2048x2048_1_0_0_1_n_n none
      (Host.dotGeneral dot_S2048x128_S128x128_S2048x128_1_0_0_1_n_n none x w)
      (transpose S128x2048 [1, 0] x transposes_S2048x128_S128x2048_1_0))
    (broadcastInDim S2048x2048 ![] bcast_S_S2048x2048 (constant (F := Ideal) S_ .f32 0x3F800000#32))

/-- The mask at the place of a pair of nodes. -/
theorem mask_read (x : FVec Ideal S2048x128 .f32) (w : FVec Ideal S128x128 .f32) (a b : Fin 2048) (n : Fin 4194304)
    (hn : n.val = 2048 * a.val + b.val) :
    (fn (F := Ideal) x w).2 (ix1 n)
      = far (dist x w (ix2 a b) + noise1 (BitVec.ofNat 32 (2048 * a.val + b.val)) - noise2 (BitVec.ofNat 32 (2048 * a.val + b.val))) := by
  refine (part1_read a b n hn _ (dist x w) (row0 (fn_threefry_split (F := Ideal) seed)) (row1 (fn_threefry_split (F := Ideal) seed))).trans ?_
  have h0 := split_words seed 0
  have h1 := split_words seed 1
  rw [seed_eq.1, seed_eq.2] at h0 h1
  obtain ⟨e1, e2⟩ := Prod.mk.inj (h0.trans seeded_first)
  obtain ⟨e3, e4⟩ := Prod.mk.inj (h1.trans seeded_second)
  rw [row0_eq, row0_eq, row1_eq, row1_eq, e1, e2, e3, e4]
  rfl

end Cert.MaskWords
-- ==== Proof.Numbers.lean ====
/-
  The arithmetic of one entry. The noises are bounded real numbers, so the kernel's level is the difference of the noises to
  within half a step; a score outside the band is therefore on the same side of the level as of zero, and that side is what the
  reference's chance, compared with a half, says too.
-/
module

public import proofs.«01_k».proof.Proof.Scalar
public import Idealize.ShloMosaic.Lib.IdealHost

@[expose] public section

noncomputable section

namespace Cert.Noise

open Idealize.ShloMosaic

theorem half_eq : Ideal.ofBits .f32 0x3F000000#32 = ((1 / 2 : ℝ) : EReal) := by
  simp [Ideal.ofBits, Ideal.ieee]
  norm_num
  rw [← EReal.coe_mul]
  norm_num

theorem band_eq : Ideal.ofBits .f32 0x3A000000#32 = ((1 / 2048 : ℝ) : EReal) := by
  simp [Ideal.ofBits, Ideal.ieee]
  norm_num
  rw [← EReal.coe_mul]
  norm_num

theorem step_eq : Ideal.ofBits .f32 0x3A800000#32 = ((1 / 1024 : ℝ) : EReal) := by
  simp [Ideal.ofBits, Ideal.ieee]
  norm_num
  rw [← EReal.coe_mul]
  norm_num

theorem steps_eq : Ideal.ofBits .f32 0x44800000#32 = ((1024 : ℝ) : EReal) := by
  simp [Ideal.ofBits, Ideal.ieee]
  norm_num
  rw [← EReal.coe_mul]
  norm_num

theorem ulp_eq : Ideal.ofBits .f32 0x34000000#32 = ((1 / 8388608 : ℝ) : EReal) := by
  simp [Ideal.ofBits, Ideal.ieee]
  norm_num
  rw [← EReal.coe_mul]
  norm_num

theorem low_eq : low = ((14411519 / 144115188075855872 : ℝ) : EReal) := by
  simp [low, Ideal.ofBits, Ideal.ieee]
  norm_num
  rw [← EReal.coe_mul]
  norm_num

/-- A random word's number is a real one, well inside the open interval from 0 to 1. -/
theorem unit_real (w : Word) : ∃ u : ℝ, unit w = (u : EReal) ∧ 1 / 2 ^ 34 ≤ u ∧ u ≤ 1 - 1 / 2 ^ 24 := by
  have hk : 0 ≤ (IntOp.shrui .host w 9#32).toInt ∧ (IntOp.shrui .host w 9#32).toInt ≤ 8388607 := by
    have h : (9#32).toNat < 32 := by decide
    simp only [IntOp.shrui, if_pos h]
    have e : (w >>> (9#32)).toNat = w.toNat / 512 := by
      rw [BitVec.ushiftRight_eq', BitVec.toNat_ushiftRight, Nat.shiftRight_eq_div_pow, show (9#32).toNat = 9 from rfl]
    have hw := w.isLt
    rw [BitVec.toInt_eq_toNat_cond, e, if_pos (by omega)]
    omega
  obtain ⟨h0, h1⟩ := hk
  unfold unit
  generalize (IntOp.shrui .host w 9#32).toInt = k at *
  have h0' : (0 : ℝ) ≤ k := by exact_mod_cast h0
  have h1' : (k : ℝ) ≤ 8388607 := by exact_mod_cast h1
  rw [low_eq, ulp_eq, Ideal.ofBits_one_f32, mul_one, ← EReal.coe_mul, ← EReal.coe_add, max_eq_right (by
    rw [EReal.coe_le_coe_iff]
    have : (0 : ℝ) ≤ k * (1 / 8388608) := by positivity
    linarith)]
  refine ⟨_, rfl, ?_, ?_⟩
  · have : (0 : ℝ) ≤ k * (1 / 8388608) := by positivity
    have e : (1 : ℝ) / 2 ^ 34 ≤ 14411519 / 144115188075855872 := by norm_num
    linarith
  · have : (k : ℝ) * (1 / 8388608) ≤ 8388607 * (1 / 8388608) := by linarith
    have e : (8388607 : ℝ) * (1 / 8388608) + 14411519 / 144115188075855872 ≤ 1 - 1 / 2 ^ 24 := by norm_num
    linarith

/-- The noise is a real number between -6 and 24. -/
theorem gumbel_real (w : Word) : ∃ g : ℝ, gumbel (unit w) = (g : EReal) ∧ -6 ≤ g ∧ g ≤ 24 := by
  obtain ⟨u, hu, h0, h1⟩ := unit_real w
  have hl2 : Real.log 2 ≤ 2 - 1 := Real.log_le_sub_one_of_pos two_pos
  have up : 0 < u := lt_of_lt_of_le (by positivity) h0
  have a0 : Real.log (1 / 2 ^ 34) ≤ Real.log u := Real.log_le_log (by positivity) h0
  have a1 : Real.log u ≤ u - 1 := Real.log_le_sub_one_of_pos up
  rw [one_div, Real.log_inv, Real.log_pow] at a0
  have b0 : 1 / 2 ^ 24 ≤ -Real.log u := by linarith
  have b1 : -Real.log u ≤ 2 ^ 6 := by norm_num at a0 ⊢; linarith
  have bp : 0 < -Real.log u := lt_of_lt_of_le (by positivity) b0
  have c0 : Real.log (1 / 2 ^ 24) ≤ Real.log (-Real.log u) := Real.log_le_log (by positivity) b0
  have c1 : Real.log (-Real.log u) ≤ Real.log (2 ^ 6) := Real.log_le_log bp b1
  rw [one_div, Real.log_inv, Real.log_pow] at c0
  rw [Real.log_pow] at c1
  refine ⟨-Real.log (-Real.log u), ?_, ?_, ?_⟩
  · unfold gumbel
    rw [hu, show Ideal.log (u : EReal) = ((Real.log u : ℝ) : EReal) from if_neg (not_le.mpr up), ← EReal.coe_neg,
      show Ideal.log ((-Real.log u : ℝ) : EReal) = ((Real.log (-Real.log u) : ℝ) : EReal) from if_neg (not_le.mpr bp), ← EReal.coe_neg]
  · push_cast at c1; linarith
  · push_cast at c0; linarith

/-- Rounding to the nearest integer moves a number by at most a half. -/
theorem round_near (r : ℝ) : |(Ideal.roundHalfEven r : ℝ) - r| ≤ 1 / 2 := by
  have h0 := Int.floor_le r
  have h1 := Int.lt_floor_add_one r
  unfold Ideal.roundHalfEven
  dsimp only
  rw [abs_le]
  split_ifs <;> push_cast <;> constructor <;> linarith

theorem word_of_int (k : ℤ) (h0 : -32768 ≤ k) (h1 : k ≤ 32767) : ((BitVec.ofInt 32 k).setWidth 16).toInt = k := by
  rw [BitVec.toInt_eq_toNat_cond, BitVec.toNat_setWidth, BitVec.toNat_ofInt]
  split_ifs <;> omega

/-- The level of a difference of noises is the nearest step. -/
theorem code_real (t : ℝ) (h0 : -30 ≤ t) (h1 : t ≤ 30) :
    ((code (t : EReal)).toInt : ℝ) = (Ideal.roundHalfEven (t * 1024) : ℝ) := by
  have hr := abs_le.mp (round_near (t * 1024))
  unfold code
  rw [steps_eq, ← EReal.coe_mul, Ideal.liftRound_coe]
  generalize Ideal.roundHalfEven (t * 1024) = k at *
  have k0 : -32768 ≤ (k : ℝ) := by linarith [hr.1]
  have k1 : (k : ℝ) ≤ 32767 := by linarith [hr.2]
  have k0' : -32768 ≤ k := by exact_mod_cast k0
  have k1' : k ≤ 32767 := by exact_mod_cast k1
  rw [show (32767#32 : Word).toInt = 32767 from rfl, show (4294934528#32 : Word).toInt = -32768 from rfl,
    max_eq_right (by rw [EReal.coe_le_coe_iff]; push_cast; exact k0), min_eq_right (by rw [EReal.coe_le_coe_iff]; push_cast; exact k1)]
  unfold Ideal.fptosi
  rw [Ideal.toIntClamped_coe]
  have hf : (if (0 : ℝ) ≤ (k : ℝ) then ⌊(k : ℝ)⌋ else ⌈(k : ℝ)⌉) = k := by split_ifs <;> simp
  rw [hf, min_eq_right (by norm_num; omega), max_eq_right (by norm_num; omega), word_of_int k k0' k1']

/-- A bit as a number, by way of a word or at once. -/
theorem bit_number (b : BitVec 1) : (((b.setWidth 32).toInt : ℝ) : EReal) = ((b.toNat : ℝ) : EReal) := by
  have h : ∀ b : BitVec 1, (b.setWidth 32).toInt = (b.toNat : ℤ) := by decide
  rw [h b]
  norm_cast

theorem straight_real (p : ℝ) :
    straight (p : EReal) = (((Ideal.cmp .ogt (p : EReal) (Ideal.ofBits .f32 0x3F000000#32)).toNat : ℝ) : EReal) := by
  unfold straight
  rw [← EReal.coe_add, ← EReal.coe_sub]
  congr 1
  ring

theorem ogt_eq (x y : EReal) : Ideal.cmp .ogt x y = BitVec.ofBool (decide (y < x)) := rfl

theorem prob_eq (z : EReal) : prob z = Ideal.div 1 (1 + Ideal.exp (-(z * ((2 : ℝ) : EReal)))) := by
  have h : Ideal.div z ((1 / 2 : ℝ) : EReal) = z * ((2 : ℝ) : EReal) := by
    unfold Ideal.div
    rw [if_neg (by norm_cast; norm_num), ← EReal.coe_inv]
    norm_num
  unfold prob
  rw [half_eq, Ideal.ofBits_one_f32, h]

theorem prob_real (z : ℝ) : prob (z : EReal) = ((1 / (1 + Real.exp (-(z * 2))) : ℝ) : EReal) := by
  have hp : (0 : ℝ) < 1 + Real.exp (-(z * 2)) := by positivity
  rw [prob_eq, ← EReal.coe_mul, ← EReal.coe_neg]
  show Ideal.div 1 (1 + ((Real.exp (-(z * 2)) : ℝ) : EReal)) = _
  unfold Ideal.div
  rw [← EReal.coe_one, ← EReal.coe_add, if_neg (by exact_mod_cast hp.ne'), ← EReal.coe_inv, ← EReal.coe_mul, one_div, one_mul]

theorem prob_bot : prob ⊥ = ((0 : ℝ) : EReal) := by
  rw [prob_eq, EReal.bot_mul_coe_of_pos two_pos, EReal.neg_bot]
  show Ideal.div 1 (1 + ⊤) = _
  have e : (1 : EReal) + ⊤ = ⊤ := by rw [← EReal.coe_one]; exact EReal.coe_add_top 1
  unfold Ideal.div
  rw [e, if_neg (by simp), EReal.inv_top, mul_zero, EReal.coe_zero]

theorem prob_top : prob ⊤ = ((1 : ℝ) : EReal) := by
  rw [prob_eq, EReal.top_mul_coe_of_pos two_pos, EReal.neg_top]
  show Ideal.div 1 (1 + 0) = _
  unfold Ideal.div
  rw [add_zero, if_neg one_ne_zero, ← EReal.coe_one, ← EReal.coe_inv, ← EReal.coe_mul]
  norm_num

/-- The chance passes a half exactly at scores above zero. -/
theorem half_lt (z : ℝ) : 1 / 2 < 1 / (1 + Real.exp (-(z * 2))) ↔ 0 < z := by
  have hp : (0 : ℝ) < 1 + Real.exp (-(z * 2)) := by positivity
  rw [div_lt_div_iff₀ two_pos hp]
  constructor
  · intro h
    have : Real.exp (-(z * 2)) < 1 := by linarith
    rw [Real.exp_lt_one_iff] at this
    linarith
  · intro h
    have : Real.exp (-(z * 2)) < 1 := Real.exp_lt_one_iff.mpr (by linarith)
    linarith

/-- One entry: outside the band, the kernel's comparison with its level is the reference's sample. -/
theorem entry (d : EReal) (v w : Word)
    (h : far (d + gumbel (unit v) - gumbel (unit w)) = 1#1) :
    (((((Ideal.cmp .ogt d ((((code (gumbel (unit w) - gumbel (unit v))).toInt : ℝ) : EReal) * Ideal.ofBits .f32 0x3A800000#32)).setWidth 32).toInt : ℝ)) : EReal)
      = straight (prob (d + gumbel (unit v) - gumbel (unit w))) := by
  obtain ⟨g₁, e₁, l₁, u₁⟩ := gumbel_real v
  obtain ⟨g₂, e₂, l₂, u₂⟩ := gumbel_real w
  rw [e₁, e₂] at h ⊢
  have hr := abs_le.mp (round_near ((g₂ - g₁) * 1024))
  rw [bit_number, ← EReal.coe_sub, code_real _ (by linarith) (by linarith), step_eq, ← EReal.coe_mul]
  generalize Ideal.roundHalfEven ((g₂ - g₁) * 1024) = k at *
  induction d with
  | bot =>
    rw [EReal.bot_add, EReal.bot_sub, prob_bot, straight_real, half_eq]
    rw [ogt_eq, ogt_eq, decide_eq_false not_lt_bot, decide_eq_false (by rw [EReal.coe_lt_coe_iff]; norm_num)]
  | top =>
    rw [EReal.top_add_coe, EReal.top_sub_coe, prob_top, straight_real, half_eq]
    rw [ogt_eq, ogt_eq, decide_eq_true (EReal.coe_lt_top _), decide_eq_true (by rw [EReal.coe_lt_coe_iff]; norm_num)]
  | coe d =>
    rw [← EReal.coe_add, ← EReal.coe_sub] at h ⊢
    rw [prob_real, straight_real, half_eq]
    have hf : (1 / 2048 : ℝ) < max (d + g₁ - g₂) (-(d + g₁ - g₂)) := by
      unfold far at h
      rw [ogt_eq, band_eq, ← EReal.coe_neg, ← EReal.coe_strictMono.monotone.map_max] at h
      by_contra hc
      rw [decide_eq_false (fun q => hc (EReal.coe_lt_coe_iff.mp q))] at h
      exact absurd h (by decide)
    rw [ogt_eq, ogt_eq]
    congr 4
    rw [decide_eq_decide, EReal.coe_lt_coe_iff, EReal.coe_lt_coe_iff, half_lt]
    rcases lt_max_iff.mp hf with hf | hf
    · exact ⟨fun _ => by linarith, fun _ => by linarith [hr.2]⟩
    · exact ⟨fun h => by linarith [hr.1], fun h => by linarith⟩

end Cert.Noise
-- ==== Proof.Agreement.lean ====
/-
  The two runs set side by side: what the kernel leaves in its results is what the reference leaves, the second result
  wherever the score is outside the band.
-/
module

public import proofs.«01_k».proof.Defs
public import proofs.«01_k».proof.Proof.KernelValue
public import proofs.«01_k».proof.Proof.Mask
public import proofs.«01_k».proof.Proof.KernelFrame
public import proofs.«01_k».proof.Proof.Numbers
public import Idealize.ShloMosaic.Lib.Quiescent

@[expose] public section

set_option maxRecDepth 16384

noncomputable section

namespace Cert.Agreement

open Idealize.ShloMosaic Idealize.ShloMosaic.TcCoe Idealize.SL.Sem Cert.Noise
open Idealize.ShloMosaic.ValueIdx

/-- Where the mask is set, the kernel's entry is the reference's sample. -/
theorem same_entry (x : FVec Ideal KernelIdeal.S2048x128 .f32) (w : FVec Ideal KernelIdeal.S128x128 .f32) (a b : Fin 2048)
    (n : Fin 4194304) (hn : n.val = 2048 * a.val + b.val)
    (h : (On_outside_rounding.fn (F := Ideal) x w).2 (ix1 n) = 1#1) :
    KernelValue.entryOf x w a b = straight (prob (RefRun.score x w a b)) := by
  rw [MaskWords.mask_read x w a b n hn] at h
  have e : MaskWords.dist x w (ix2 a b) = KernelValue.prod x w (ix2 a b) := KernelValue.dist_prod x w a b
  rw [e] at h
  unfold RefRun.score
  rw [KernelValue.dist_prod]
  exact entry _ _ _ h

/-- Every place of the flat result is a pair's. -/
theorem pairs (i : (⟨1, ![4194304]⟩ : Shape).Idx) :
    ∃ (a b : Fin 2048) (n : Fin 4194304), n.val = 2048 * a.val + b.val ∧ i = ix1 n := by
  have hi : (i 0).val < 4194304 := (i 0).isLt
  refine ⟨⟨(i 0).val / 2048, by omega⟩, ⟨(i 0).val % 2048, by omega⟩, i 0, ?_, ?_⟩
  · show (i 0).val = 2048 * ((i 0).val / 2048) + (i 0).val % 2048
    omega
  · funext a
    fin_cases a
    rfl

section kernel
open Cert.KernelIdeal Cert.KernelIdeal.Gen
variable (m : (ℓ : Loc nD τ sig) → Buf (Elt Ideal) ℓ)

/-- The edge list is no operand of the call, so the call leaves it alone. -/
theorem edges_rest : main_v402 ∈ Pipeline.restRefs sig spec0 := by
  decide +kernel

theorem kernel_edges (r : PUnit × MemSt nD τ sig (Elt Ideal)) (h : Pipeline.FramePost cfgs (dats m) 0 (V m) r) (c : Dev nD) :
    r.2.mem ((c : Thread nD τ).loc main_v402) = HostNoise.edges :=
  ((h c).2 main_v402 edges_rest).trans (HostNoise.edges_read m c)

end kernel

/-- The reference's run leaves its arguments and every counter as they were. -/
theorem reference_frame : quiescent_ReferenceIdeal := fun m ρ _ =>
  (θ_run ReferenceIdeal.defs _ _).mono (fun r h =>
      ⟨fun d => ⟨(h d ReferenceIdeal.main_arg0).trans (RefRun.line_args d _).1, (h d ReferenceIdeal.main_arg1).trans (RefRun.line_args d _).2⟩,
        sem_eq_zero_of_no_sems (by decide) r.2⟩)
    (RefRun.run_main m ρ)

theorem kernel_frame : quiescent_Kernel := fun m ρ _ => Kernel.Gen.frame m ρ

theorem ideal_frame : quiescent_KernelIdeal := fun m ρ _ => KernelIdeal.Gen.frame m ρ

/-- The second result as the reference leaves it. -/
abbrev sample (m' : (ℓ : Loc ReferenceIdeal.nD ReferenceIdeal.τ ReferenceIdeal.sig) → Buf (Elt Ideal) ℓ) (d : Dev ReferenceIdeal.nD) :
    FVec Ideal ReferenceIdeal.S4194304 .f32 :=
  StableHlo.after (RefRun.line d) (StableHlo.launchContents m' d) (Proc.devRef .tc ReferenceIdeal.main_v108)

theorem values : algebraic_KernelIdeal_ReferenceIdeal_on_outside_rounding := by
  intro m ρ m' ρ' _ hargs
  refine ⟨fun _ => HostNoise.edges, fun c => sample m' c, ?_, ?_⟩
  · refine (θ_run KernelIdeal.defs _ _).mono (fun r h c => ⟨?_, ?_, ?_, ?_⟩) (KernelIdeal.Gen.run_main m ρ)
    · intro i _
      exact congrFun (kernel_edges m r h c) i
    · intro i hi
      obtain ⟨a, b, n, hn, rfl⟩ := pairs i
      refine (congrFun (KernelIdeal.Value.post4 m r h c) (ix1 n)).trans ?_
      refine (KernelValue.final m c a b n hn).trans ?_
      refine (same_entry _ _ a b n hn hi).trans ?_
      refine Eq.trans ?_ (RefRun.line_sample c (StableHlo.launchContents m' c) a b n hn).symm
      exact congrArg₂ (fun x w => straight (prob (RefRun.score x w a b))) (hargs c).1.symm (hargs c).2.symm
    · exact KernelIdeal.Value.kept_main_arg0 m r h c
    · exact KernelIdeal.Value.kept_main_arg1 m r h c
  · refine (θ_run ReferenceIdeal.defs _ _).mono (fun r h c => ⟨?_, ?_, ?_, ?_⟩) (RefRun.run_main m' ρ')
    · intro i _
      exact congrFun ((h c ReferenceIdeal.main_v107).trans (RefRun.line_edges c _)) i
    · intro i _
      exact congrFun (h c ReferenceIdeal.main_v108) i
    · exact (h c ReferenceIdeal.main_arg0).trans (RefRun.line_args c _).1
    · exact (h c ReferenceIdeal.main_arg1).trans (RefRun.line_args c _).2

end Cert.Agreement
-- ==== Proof.lean ====
/- The certificate: the kernel and its ideal reading run, keep their arguments and leave every counter at zero, the
   reference does too, and the kernel's two results are the reference's, the edge list everywhere and the sample
   wherever the score is outside the band of the mask. The pieces:
     Words, Scalar      the generator's rounds and the noise, one element at a time;
     Fraction           a bit pattern with the exponent of one, as a number;
     KernelFrame, IdealFrame   the run of the kernel and of its ideal reading;
     HostNoise          the levels and the edge list the host hands over;
     KernelValue        the call's result, tile by tile;
     RefRun, RefWords, RefKeys, RefRead   the reference's run and what it leaves;
     MaskWords, Mask    the mask at the place of a pair of nodes;
     Numbers            a comparison with a level is the rounded sample, outside the band;
     Agreement          the runs side by side. -/
module

public import proofs.«01_k».proof.Defs
public import proofs.«01_k».proof.Proof.Agreement

@[expose] public section

noncomputable section

namespace Cert.Proof

/-- All five claims. -/
theorem claim : Cert.Claim :=
  ⟨Kernel.Gen.facts, KernelIdeal.Gen.facts, ReferenceIdeal.Gen.facts, On_outside_rounding.Gen.facts,
    Agreement.kernel_frame, Agreement.ideal_frame, Agreement.reference_frame, trivial, Agreement.values⟩

end Cert.Proof

end
